-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))).2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite25 [hPre_finite25 : Cert.Pre_finite25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.2.1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.2.2.1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2.2.2.2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite25 [hPre_finite25 : Cert.Pre_finite25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.2.1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.2.2.1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2.2.2.2 = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Kernel25Ideal_pre_finite25 [hKernel25Ideal : Cert.Kernel25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite25 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Reference25Ideal_pre_finite25 [hReference25Ideal : Cert.Reference25Ideal.Facts] [hPre_finite25 : Cert.Pre_finite25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v28_0)) (v1 : (c : Dev Cert.Kernel7Ideal.nD) → Buf (Elt Ideal) ((c.tc : Thread Cert.Kernel7Ideal.nD Cert.Kernel7Ideal.τ).loc Cert.Kernel7Ideal.main_v28_1)) (v2 : (c : Dev Cert.Kernel7Ideal.nD) → Buf (Elt Ideal) ((c.tc : Thread Cert.Kernel7Ideal.nD Cert.Kernel7Ideal.τ).loc Cert.Kernel7Ideal.main_v28_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_0) = v0 c
          ∧ r.2.mem ((c.tc : Thread Cert.Kernel7Ideal.nD Cert.Kernel7Ideal.τ).loc Cert.Kernel7Ideal.main_v28_1) = v1 c
          ∧ r.2.mem ((c.tc : Thread Cert.Kernel7Ideal.nD Cert.Kernel7Ideal.τ).loc Cert.Kernel7Ideal.main_v28_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_v17) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v19_0)) (v1 : (c : Dev Cert.Kernel8Ideal.nD) → Buf (Elt Ideal) ((c.tc : Thread Cert.Kernel8Ideal.nD Cert.Kernel8Ideal.τ).loc Cert.Kernel8Ideal.main_v19_1)) (v2 : (c : Dev Cert.Kernel8Ideal.nD) → Buf (Elt Ideal) ((c.tc : Thread Cert.Kernel8Ideal.nD Cert.Kernel8Ideal.τ).loc Cert.Kernel8Ideal.main_v19_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19_0) = v0 c
          ∧ r.2.mem ((c.tc : Thread Cert.Kernel8Ideal.nD Cert.Kernel8Ideal.τ).loc Cert.Kernel8Ideal.main_v19_1) = v1 c
          ∧ r.2.mem ((c.tc : Thread Cert.Kernel8Ideal.nD Cert.Kernel8Ideal.τ).loc Cert.Kernel8Ideal.main_v19_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v52) = v1 c
          ∧ r.2.mem ((c.tc : Thread Cert.Reference8Ideal.nD Cert.Reference8Ideal.τ).loc Cert.Reference8Ideal.main_v53) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)) (v2 : (c : Dev Cert.Kernel9Ideal.nD) → Buf (Elt Ideal) ((c.tc : Thread Cert.Kernel9Ideal.nD Cert.Kernel9Ideal.τ).loc Cert.Kernel9Ideal.main_v10_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_v10_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v8_0)) (v1 : (c : Dev Cert.Kernel17Ideal.nD) → Buf (Elt Ideal) ((c.tc : Thread Cert.Kernel17Ideal.nD Cert.Kernel17Ideal.τ).loc Cert.Kernel17Ideal.main_v8_1)) (v2 : (c : Dev Cert.Kernel17Ideal.nD) → Buf (Elt Ideal) ((c.tc : Thread Cert.Kernel17Ideal.nD Cert.Kernel17Ideal.τ).loc Cert.Kernel17Ideal.main_v8_2)) (v3 : (c : Dev Cert.Kernel17Ideal.nD) → Buf (Elt Ideal) ((c.tc : Thread Cert.Kernel17Ideal.nD Cert.Kernel17Ideal.τ).loc Cert.Kernel17Ideal.main_v8_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8_0) = v0 c
          ∧ r.2.mem ((c.tc : Thread Cert.Kernel17Ideal.nD Cert.Kernel17Ideal.τ).loc Cert.Kernel17Ideal.main_v8_1) = v1 c
          ∧ r.2.mem ((c.tc : Thread Cert.Kernel17Ideal.nD Cert.Kernel17Ideal.τ).loc Cert.Kernel17Ideal.main_v8_2) = v2 c
          ∧ r.2.mem ((c.tc : Thread Cert.Kernel17Ideal.nD Cert.Kernel17Ideal.τ).loc Cert.Kernel17Ideal.main_v8_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_v29) = v2 c
          ∧ r.2.mem ((c.tc : Thread Cert.Reference17Ideal.nD Cert.Reference17Ideal.τ).loc Cert.Reference17Ideal.main_v31) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_v27) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v8_0)) (v1 : (c : Dev Cert.Kernel19Ideal.nD) → Buf (Elt Ideal) ((c.tc : Thread Cert.Kernel19Ideal.nD Cert.Kernel19Ideal.τ).loc Cert.Kernel19Ideal.main_v8_1)) (v2 : (c : Dev Cert.Kernel19Ideal.nD) → Buf (Elt Ideal) ((c.tc : Thread Cert.Kernel19Ideal.nD Cert.Kernel19Ideal.τ).loc Cert.Kernel19Ideal.main_v8_2)) (v3 : (c : Dev Cert.Kernel19Ideal.nD) → Buf (Elt Ideal) ((c.tc : Thread Cert.Kernel19Ideal.nD Cert.Kernel19Ideal.τ).loc Cert.Kernel19Ideal.main_v8_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8_0) = v0 c
          ∧ r.2.mem ((c.tc : Thread Cert.Kernel19Ideal.nD Cert.Kernel19Ideal.τ).loc Cert.Kernel19Ideal.main_v8_1) = v1 c
          ∧ r.2.mem ((c.tc : Thread Cert.Kernel19Ideal.nD Cert.Kernel19Ideal.τ).loc Cert.Kernel19Ideal.main_v8_2) = v2 c
          ∧ r.2.mem ((c.tc : Thread Cert.Kernel19Ideal.nD Cert.Kernel19Ideal.τ).loc Cert.Kernel19Ideal.main_v8_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_v27) = v1 c
          ∧ r.2.mem ((c.tc : Thread Cert.Reference19Ideal.nD Cert.Reference19Ideal.τ).loc Cert.Reference19Ideal.main_v29) = v2 c
          ∧ r.2.mem ((c.tc : Thread Cert.Reference19Ideal.nD Cert.Reference19Ideal.τ).loc Cert.Reference19Ideal.main_v31) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)) (v3 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_v4_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)) (v3 : (c : Dev Cert.Kernel21Ideal.nD) → Buf (Elt Ideal) ((c.tc : Thread Cert.Kernel21Ideal.nD Cert.Kernel21Ideal.τ).loc Cert.Kernel21Ideal.main_v4_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_v4_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_v27) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v18) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v5_0)) (v1 : (c : Dev Cert.Kernel24Ideal.nD) → Buf (Elt Ideal) ((c.tc : Thread Cert.Kernel24Ideal.nD Cert.Kernel24Ideal.τ).loc Cert.Kernel24Ideal.main_v5_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5_0) = v0 c
          ∧ r.2.mem ((c.tc : Thread Cert.Kernel24Ideal.nD Cert.Kernel24Ideal.τ).loc Cert.Kernel24Ideal.main_v5_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v13) = v0 c
          ∧ r.2.mem ((c.tc : Thread Cert.Reference24Ideal.nD Cert.Reference24Ideal.τ).loc Cert.Reference24Ideal.main_v18) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal_pre_finite25 [hKernel25Ideal : Cert.Kernel25Ideal.Facts] [hReference25Ideal : Cert.Reference25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite25 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v7_0)) (v1 : (c : Dev Cert.Kernel25Ideal.nD) → Buf (Elt Ideal) ((c.tc : Thread Cert.Kernel25Ideal.nD Cert.Kernel25Ideal.τ).loc Cert.Kernel25Ideal.main_v7_1)) (v2 : (c : Dev Cert.Kernel25Ideal.nD) → Buf (Elt Ideal) ((c.tc : Thread Cert.Kernel25Ideal.nD Cert.Kernel25Ideal.τ).loc Cert.Kernel25Ideal.main_v7_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v7_0) = v0 c
          ∧ r.2.mem ((c.tc : Thread Cert.Kernel25Ideal.nD Cert.Kernel25Ideal.τ).loc Cert.Kernel25Ideal.main_v7_1) = v1 c
          ∧ r.2.mem ((c.tc : Thread Cert.Kernel25Ideal.nD Cert.Kernel25Ideal.τ).loc Cert.Kernel25Ideal.main_v7_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v54) = v0 c
          ∧ r.2.mem ((c.tc : Thread Cert.Reference25Ideal.nD Cert.Reference25Ideal.τ).loc Cert.Reference25Ideal.main_v55) = v1 c
          ∧ r.2.mem ((c.tc : Thread Cert.Reference25Ideal.nD Cert.Reference25Ideal.τ).loc Cert.Reference25Ideal.main_v56) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v34_0)) (v1 : (c : Dev Cert.Kernel26Ideal.nD) → Buf (Elt Ideal) ((c.tc : Thread Cert.Kernel26Ideal.nD Cert.Kernel26Ideal.τ).loc Cert.Kernel26Ideal.main_v34_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v34_0) = v0 c
          ∧ r.2.mem ((c.tc : Thread Cert.Kernel26Ideal.nD Cert.Kernel26Ideal.τ).loc Cert.Kernel26Ideal.main_v34_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v69) = v0 c
          ∧ r.2.mem ((c.tc : Thread Cert.Reference26Ideal.nD Cert.Reference26Ideal.τ).loc Cert.Reference26Ideal.main_v72) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite2 : Cert.Pre_finite2.Facts) (hPre_finite4 : Cert.Pre_finite4.Facts) (hPre_finite5 : Cert.Pre_finite5.Facts) (hPre_finite7 : Cert.Pre_finite7.Facts) (hPre_finite8 : Cert.Pre_finite8.Facts) (hPre_finite9 : Cert.Pre_finite9.Facts) (hPre_finite10 : Cert.Pre_finite10.Facts) (hPre_finite11 : Cert.Pre_finite11.Facts) (hPre_finite25 : Cert.Pre_finite25.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_finite25 (hKernel25Ideal := hKernel25Ideal) (hPre_finite25 := hPre_finite25)
    ∧ quiescent_Reference25Ideal (hReference25Ideal := hReference25Ideal)
    ∧ quiescent_Reference25Ideal_pre_finite25 (hReference25Ideal := hReference25Ideal) (hPre_finite25 := hPre_finite25)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_finite25 (hKernel25Ideal := hKernel25Ideal) (hReference25Ideal := hReference25Ideal) (hPre_finite25 := hPre_finite25)
    ∧ preserves_Kernel26_Kernel26Ideal
    ∧ algebraic_Kernel26Ideal_Reference26Ideal (hKernel26Ideal := hKernel26Ideal) (hReference26Ideal := hReference26Ideal)
-- ==== Pre_finite10.lean ====
abbrev S8192x1024 : Shape := ⟨2, ![8192, 1024]⟩
abbrev S1024 : Shape := ⟨1, ![1024]⟩
abbrev S1024x1280 : Shape := ⟨2, ![1024, 1280]⟩
abbrev S8192x1280 : Shape := ⟨2, ![8192, 1280]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1280 : S_.BroadcastsInDim S1024x1280 (![] : Fin 0 → Fin S1024x1280.rank)
  bcast_S_S8192x1280 : S_.BroadcastsInDim S8192x1280 (![] : Fin 0 → Fin S8192x1280.rank)

variable [Facts]

def fn {F : FTy → Type} [FloatOps F] (main_arg0 : FVec F S8192x1024 .f32) (main_arg1 : FVec F S1024 .f32) (main_arg2 : FVec F S1024x1280 .f32) (main_arg3 : FVec F S8192x1024 .f32) (main_arg4 : FVec F S8192x1280 .f32) : IVec S8192x1024 1 × IVec S1024 1 × IVec S1024x1280 1 × IVec S8192x1280 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1280 .f32 := Host.absf main_arg2
  let main_cst_1 : FVec F S_ .f32 := constant S_ .f32 0x7F800000#32
  let main_v7 : FVec F S1024x1280 .f32 := broadcastInDim S1024x1280 ![] bcast_S_S1024x1280 main_cst_1
  let main_v8 : IVec S1024x1280 1 := cmpf .olt main_v6 main_v7
  let main_v9 : FVec F S8192x1280 .f32 := Host.absf main_arg4
  let main_cst_2 : FVec F S_ .f32 := constant S_ .f32 0x7F800000#32
  let main_v10 : FVec F S8192x1280 .f32 := broadcastInDim S8192x1280 ![] bcast_S_S8192x1280 main_cst_2
  let main_v11 : IVec S8192x1280 1 := cmpf .olt main_v9 main_v10
  (main_v2, main_v5, main_v8, main_v11)
-- ==== Pre_finite11.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S1024 .f32) (main_arg2 : FVec F S1024x2048 .f32) (main_arg3 : FVec F S8192x1024 .f32) (main_arg4 : FVec F S8192x2048 .f32) : IVec S8192x1024 1 × IVec S1024 1 × IVec S1024x2048 1 × IVec S8192x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_finite2.lean ====
abbrev S8192x2816 : Shape := ⟨2, ![8192, 2816]⟩
abbrev S2x2816x1024 : Shape := ⟨3, ![2, 2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2x2816x1024 : S_.BroadcastsInDim S2x2816x1024 (![] : Fin 0 → Fin S2x2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2x2816x1024 .f32) (main_arg3 : FVec F S8192x1024 .f32) : IVec S8192x2816 1 × IVec S2x2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2x2816x1024 .f32 := Host.absf main_arg2
  let main_cst_0 : FVec F S_ .f32 := constant S_ .f32 0x7F800000#32
  let main_v4 : FVec F S2x2816x1024 .f32 := broadcastInDim S2x2816x1024 ![] bcast_S_S2x2816x1024 main_cst_0
  let main_v5 : IVec S2x2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite25.lean ====
abbrev S8192x2816 : Shape := ⟨2, ![8192, 2816]⟩
abbrev S2x2816x1024 : Shape := ⟨3, ![2, 2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  bcast_S_S2x2816x1024 : S_.BroadcastsInDim S2x2816x1024 (![] : Fin 0 → Fin S2x2816x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x2816 .f32) (main_arg1 : FVec F S2x2816x1024 .f32) (main_arg2 : FVec F S8192x1024 .f32) (main_arg3 : FVec F S1024 .f32) (main_arg4 : FVec F S8192x1024 .f32) : IVec S8192x2816 1 × IVec S2x2816x1024 1 × IVec S8192x1024 1 × IVec S1024 1 × IVec S8192x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2x2816x1024 .f32 := Host.absf main_arg1
  let main_cst_0 : FVec F S_ .f32 := constant S_ .f32 0x7F800000#32
  let main_v4 : FVec F S2x2816x1024 .f32 := broadcastInDim S2x2816x1024 ![] bcast_S_S2x2816x1024 main_cst_0
  let main_v5 : IVec S2x2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite4.lean ====
abbrev S8192x1024 : Shape := ⟨2, ![8192, 1024]⟩
abbrev S1024 : Shape := ⟨1, ![1024]⟩
abbrev S2x1024x2816 : Shape := ⟨3, ![2, 1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S2x1024x2816 : S_.BroadcastsInDim S2x1024x2816 (![] : Fin 0 → Fin S2x1024x2816.rank)
  bcast_S_S8192x2816 : S_.BroadcastsInDim S8192x2816 (![] : Fin 0 → Fin S8192x2816.rank)

variable [Facts]

def fn_part1 {F : FTy → Type} [FloatOps F] (main_arg7 : FVec F S8192x2816 .f32) (main_v2 : IVec S8192x1024 1) (main_v5 : IVec S1024 1) (main_v8 : IVec S1024 1) (main_v11 : IVec S2x1024x2816 1) (main_v14 : IVec S2x1024x2816 1) (main_v17 : IVec S8192x2816 1) : IVec S8192x1024 1 × IVec S1024 1 × IVec S1024 1 × IVec S2x1024x2816 1 × IVec S2x1024x2816 1 × IVec S8192x2816 1 × IVec S8192x2816 1 :=
  let main_v18 : FVec F S8192x2816 .f32 := Host.absf main_arg7
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024 .f32) (main_arg3 : FVec F S2x1024x2816 .f32) (main_arg4 : FVec F S2x1024x2816 .f32) (main_arg5 : FVec F S8192x1024 .f32) (main_arg6 : FVec F S8192x2816 .f32) (main_arg7 : FVec F S8192x2816 .f32) : IVec S8192x1024 1 × IVec S1024 1 × IVec S1024 1 × IVec S2x1024x2816 1 × IVec S2x1024x2816 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x1024x2816 .f32 := Host.absf main_arg3
  let main_cst_2 : FVec F S_ .f32 := constant S_ .f32 0x7F800000#32
  let main_v10 : FVec F S2x1024x2816 .f32 := broadcastInDim S2x1024x2816 ![] bcast_S_S2x1024x2816 main_cst_2
  let main_v11 : IVec S2x1024x2816 1 := cmpf .olt main_v9 main_v10
  let main_v12 : FVec F S2x1024x2816 .f32 := Host.absf main_arg4
  let main_cst_3 : FVec F S_ .f32 := constant S_ .f32 0x7F800000#32
  let main_v13 : FVec F S2x1024x2816 .f32 := broadcastInDim S2x1024x2816 ![] bcast_S_S2x1024x2816 main_cst_3
  let main_v14 : IVec S2x1024x2816 1 := cmpf .olt main_v12 main_v13
  let main_v15 : FVec F S8192x2816 .f32 := Host.absf main_arg6
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg7 main_v2 main_v5 main_v8 main_v11 main_v14 main_v17
-- ==== Pre_finite5.lean ====
abbrev S8192x1024 : Shape := ⟨2, ![8192, 1024]⟩
abbrev S2x1024x2816 : Shape := ⟨3, ![2, 1024, 2816]⟩
abbrev S_ : Shape := ⟨0, ![]⟩

class Facts : Prop where
  bcast_S_S8192x1024 : S_.BroadcastsInDim S8192x1024 (![] : Fin 0 → Fin S8192x1024.rank)
  bcast_S_S2x1024x2816 : S_.BroadcastsInDim S2x1024x2816 (![] : Fin 0 → Fin S2x1024x2816.rank)

variable [Facts]

def fn {F : FTy → Type} [FloatOps F] (main_arg0 : FVec F S8192x1024 .f32) (main_arg1 : FVec F S2x1024x2816 .f32) (main_arg2 : FVec F S2x1024x2816 .f32) : IVec S8192x1024 1 × IVec S2x1024x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2x1024x2816 .f32 := Host.absf main_arg2
  let main_cst_0 : FVec F S_ .f32 := constant S_ .f32 0x7F800000#32
  let main_v4 : FVec F S2x1024x2816 .f32 := broadcastInDim S2x1024x2816 ![] bcast_S_S2x1024x2816 main_cst_0
  let main_v5 : IVec S2x1024x2816 1 := cmpf .olt main_v3 main_v4
  (main_v2, main_v5)
-- ==== Pre_finite7.lean ====
abbrev S8192x2816 : Shape := ⟨2, ![8192, 2816]⟩
abbrev S2x2816x1024 : Shape := ⟨3, ![2, 2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2x2816x1024 : S_.BroadcastsInDim S2x2816x1024 (![] : Fin 0 → Fin S2x2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2x2816x1024 .f32) (main_arg3 : FVec F S8192x1024 .f32) : IVec S8192x2816 1 × IVec S2x2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2x2816x1024 .f32 := Host.absf main_arg2
  let main_cst_0 : FVec F S_ .f32 := constant S_ .f32 0x7F800000#32
  let main_v4 : FVec F S2x2816x1024 .f32 := broadcastInDim S2x2816x1024 ![] bcast_S_S2x2816x1024 main_cst_0
  let main_v5 : IVec S2x2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite8.lean ====
abbrev S8192x1024 : Shape := ⟨2, ![8192, 1024]⟩
abbrev S1024 : Shape := ⟨1, ![1024]⟩
abbrev S2x1024x2816 : Shape := ⟨3, ![2, 1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S2x1024x2816 : S_.BroadcastsInDim S2x1024x2816 (![] : Fin 0 → Fin S2x1024x2816.rank)
  bcast_S_S8192x2816 : S_.BroadcastsInDim S8192x2816 (![] : Fin 0 → Fin S8192x2816.rank)

variable [Facts]

def fn_part1 {F : FTy → Type} [FloatOps F] (main_arg7 : FVec F S8192x2816 .f32) (main_v2 : IVec S8192x1024 1) (main_v5 : IVec S1024 1) (main_v8 : IVec S1024 1) (main_v11 : IVec S2x1024x2816 1) (main_v14 : IVec S2x1024x2816 1) (main_v17 : IVec S8192x2816 1) : IVec S8192x1024 1 × IVec S1024 1 × IVec S1024 1 × IVec S2x1024x2816 1 × IVec S2x1024x2816 1 × IVec S8192x2816 1 × IVec S8192x2816 1 :=
  let main_v18 : FVec F S8192x2816 .f32 := Host.absf main_arg7
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024 .f32) (main_arg3 : FVec F S2x1024x2816 .f32) (main_arg4 : FVec F S2x1024x2816 .f32) (main_arg5 : FVec F S8192x1024 .f32) (main_arg6 : FVec F S8192x2816 .f32) (main_arg7 : FVec F S8192x2816 .f32) : IVec S8192x1024 1 × IVec S1024 1 × IVec S1024 1 × IVec S2x1024x2816 1 × IVec S2x1024x2816 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x1024x2816 .f32 := Host.absf main_arg3
  let main_cst_2 : FVec F S_ .f32 := constant S_ .f32 0x7F800000#32
  let main_v10 : FVec F S2x1024x2816 .f32 := broadcastInDim S2x1024x2816 ![] bcast_S_S2x1024x2816 main_cst_2
  let main_v11 : IVec S2x1024x2816 1 := cmpf .olt main_v9 main_v10
  let main_v12 : FVec F S2x1024x2816 .f32 := Host.absf main_arg4
  let main_cst_3 : FVec F S_ .f32 := constant S_ .f32 0x7F800000#32
  let main_v13 : FVec F S2x1024x2816 .f32 := broadcastInDim S2x1024x2816 ![] bcast_S_S2x1024x2816 main_cst_3
  let main_v14 : IVec S2x1024x2816 1 := cmpf .olt main_v12 main_v13
  let main_v15 : FVec F S8192x2816 .f32 := Host.absf main_arg6
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg7 main_v2 main_v5 main_v8 main_v11 main_v14 main_v17
-- ==== Pre_finite9.lean ====
abbrev S8192x1024 : Shape := ⟨2, ![8192, 1024]⟩
abbrev S2x1024x2816 : Shape := ⟨3, ![2, 1024, 2816]⟩
abbrev S_ : Shape := ⟨0, ![]⟩

class Facts : Prop where
  bcast_S_S8192x1024 : S_.BroadcastsInDim S8192x1024 (![] : Fin 0 → Fin S8192x1024.rank)
  bcast_S_S2x1024x2816 : S_.BroadcastsInDim S2x1024x2816 (![] : Fin 0 → Fin S2x1024x2816.rank)

variable [Facts]

def fn {F : FTy → Type} [FloatOps F] (main_arg0 : FVec F S8192x1024 .f32) (main_arg1 : FVec F S2x1024x2816 .f32) (main_arg2 : FVec F S2x1024x2816 .f32) : IVec S8192x1024 1 × IVec S2x1024x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2x1024x2816 .f32 := Host.absf main_arg2
  let main_cst_0 : FVec F S_ .f32 := constant S_ .f32 0x7F800000#32
  let main_v4 : FVec F S2x1024x2816 .f32 := broadcastInDim S2x1024x2816 ![] bcast_S_S2x1024x2816 main_cst_0
  let main_v5 : IVec S2x1024x2816 1 := cmpf .olt main_v3 main_v4
  (main_v2, main_v5)
-- ==== Kernel2.lean ====
abbrev S8192x2816 : Shape := ⟨2, ![8192, 2816]⟩
abbrev S2x2816x1024 : Shape := ⟨3, ![2, 2816, 1024]⟩
abbrev S8192x1024 : Shape := ⟨2, ![8192, 1024]⟩
abbrev S_ : Shape := ⟨0, ![]⟩
abbrev S2x4x704x1024 : Shape := ⟨4, ![2, 4, 704, 1024]⟩
abbrev S4x2x704x1024 : Shape := ⟨4, ![4, 2, 704, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S256x1024 : Shape := ⟨2, ![256, 1024]⟩
abbrev S4x1x704x1024 : Shape := ⟨4, ![4, 1, 704, 1024]⟩
abbrev S4x256x704 : Shape := ⟨3, ![4, 256, 704]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩
abbrev S1x704x1024 : Shape := ⟨3, ![1, 704, 1024]⟩

abbrev nBuf : Space → Nat
  | .hbm => 38
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2x2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S2x4x704x1024, .f32⟩
  | .hbm, ⟨22, _⟩ => ⟨S4x2x704x1024, .f32⟩
  | .hbm, ⟨23, _⟩ => ⟨S4x2x704x1024, .bf16⟩
  | .hbm, ⟨24, _⟩ => ⟨S8192x4x704, .f32⟩
  | .hbm, ⟨25, _⟩ => ⟨S4x8192x704, .f32⟩
  | .hbm, ⟨26, _⟩ => ⟨S4x8192x704, .bf16⟩
  | .hbm, ⟨27, _⟩ => ⟨S8192x2816, .f32⟩
  | .hbm, ⟨28, _⟩ => ⟨S8192x4x704, .f32⟩
  | .hbm, ⟨29, _⟩ => ⟨S4x8192x704, .f32⟩
  | .hbm, ⟨30, _⟩ => ⟨S4x8192x704, .bf16⟩
  | .hbm, ⟨31, _⟩ => ⟨S8192x2816, .f32⟩
  | .hbm, ⟨32, _⟩ => ⟨S8192x4x704, .f32⟩
  | .hbm, ⟨33, _⟩ => ⟨S4x8192x704, .f32⟩
  | .hbm, ⟨34, _⟩ => ⟨S4x8192x704, .bf16⟩
  | .hbm, ⟨35, _⟩ => ⟨S4x8192x704, .bf16⟩
  | .hbm, ⟨36, _⟩ => ⟨S4x8192x704, .bf16⟩
  | .hbm, ⟨37, _⟩ => ⟨S4x704x1024, .f32⟩
  | .local _ .vmem, ⟨0, _⟩ => ⟨S256x1024, .f32⟩
  | .local _ .vmem, ⟨1, _⟩ => ⟨S256x1024, .f32⟩
  | .local _ .vmem, ⟨2, _⟩ => ⟨S4x1x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S4x256x704, .bf16⟩
  | .local _ .vmem, ⟨12, _⟩ => ⟨S4x256x704, .bf16⟩
  | .local _ .vmem, ⟨13, _⟩ => ⟨S4x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x2816 : Shape := ⟨2, ![8192, 2816]⟩
abbrev S2x2816x1024 : Shape := ⟨3, ![2, 2816, 1024]⟩
abbrev S8192x1024 : Shape := ⟨2, ![8192, 1024]⟩
abbrev S1x2816x1024 : Shape := ⟨3, ![1, 2816, 1024]⟩
abbrev S2816x1024 : Shape := ⟨2, ![2816, 1024]⟩
abbrev S_ : Shape := ⟨0, ![]⟩
abbrev S1024x2816 : Shape := ⟨2, ![1024, 2816]⟩
abbrev S8192x4x704 : Shape := ⟨3, ![8192, 4, 704]⟩
abbrev S4x8192x704 : Shape := ⟨3, ![4, 8192, 704]⟩
abbrev S4x704x1024 : Shape := ⟨3, ![4, 704, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2x2816x1024, .f32⟩
  | .hbm, ⟨3, _⟩ => ⟨S8192x1024, .f32⟩
  | .hbm, ⟨4, _⟩ => ⟨S1x2816x1024, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S1024x2816, .f32⟩
  | .hbm, ⟨22, _⟩ => ⟨S2816x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x4x704, .f32⟩
  | .hbm, ⟨31, _⟩ => ⟨S4x8192x704, .f32⟩
  | .hbm, ⟨32, _⟩ => ⟨S4x8192x704, .bf16⟩
  | .hbm, ⟨33, _⟩ => ⟨S8192x4x704, .f32⟩
  | .hbm, ⟨34, _⟩ => ⟨S4x8192x704, .f32⟩
  | .hbm, ⟨35, _⟩ => ⟨S4x8192x704, .bf16⟩
  | .hbm, ⟨36, _⟩ => ⟨S4x704x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S4x1024x704 : Shape := ⟨3, ![4, 1024, 704]⟩
abbrev S1024x1024 : Shape := ⟨2, ![1024, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S8192x1024, .bf16⟩
  | .hbm, ⟨6, _⟩ => ⟨S4x704x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S2x1024x2816 : Shape := ⟨3, ![2, 1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S_ : Shape := ⟨0, ![]⟩
abbrev S8x128 : Shape := ⟨2, ![8, 128]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 31
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S2x1024x2816, .f32⟩
  | .hbm, ⟨4, _⟩ => ⟨S2x1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x4x704, .f32⟩
  | .hbm, ⟨9, _⟩ => ⟨S4x8192x704, .f32⟩
  | .hbm, ⟨10, _⟩ => ⟨S4x8192x704, .bf16⟩
  | .hbm, ⟨11, _⟩ => ⟨S2x2816x1024, .f32⟩
  | .hbm, ⟨12, _⟩ => ⟨S2x4x704x1024, .f32⟩
  | .hbm, ⟨13, _⟩ => ⟨S4x2x704x1024, .f32⟩
  | .hbm, ⟨14, _⟩ => ⟨S4x2x704x1024, .bf16⟩
  | .hbm, ⟨15, _⟩ => ⟨S8192x4x704, .f32⟩
  | .hbm, ⟨16, _⟩ => ⟨S4x8192x704, .f32⟩
  | .hbm, ⟨17, _⟩ => ⟨S4x8192x704, .bf16⟩
  | .hbm, ⟨18, _⟩ => ⟨S2x2816x1024, .f32⟩
  | .hbm, ⟨19, _⟩ => ⟨S2x4x704x1024, .f32⟩
  | .hbm, ⟨20, _⟩ => ⟨S4x2x704x1024, .f32⟩
  | .hbm, ⟨21, _⟩ => ⟨S4x2x704x1024, .bf16⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S_, .f32⟩
  | .hbm, ⟨27, _⟩ => ⟨S8x128, .f32⟩
  | .hbm, ⟨28, _⟩ => ⟨S8192x1024, .f32⟩
  | .hbm, ⟨29, _⟩ => ⟨S1x1024, .f32⟩
  | .hbm, ⟨30, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1024 : Shape := ⟨2, ![8192, 1024]⟩
abbrev S1024 : Shape := ⟨1, ![1024]⟩
abbrev S2x1024x2816 : Shape := ⟨3, ![2, 1024, 2816]⟩
abbrev S8192x2816 : Shape := ⟨2, ![8192, 2816]⟩
abbrev S1x1024x2816 : Shape := ⟨3, ![1, 1024, 2816]⟩
abbrev S1024x2816 : Shape := ⟨2, ![1024, 2816]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S2x1024x2816, .f32⟩
  | .hbm, ⟨4, _⟩ => ⟨S2x1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S1x1024x2816, .f32⟩
  | .hbm, ⟨9, _⟩ => ⟨S1024x2816, .f32⟩
  | .hbm, ⟨10, _⟩ => ⟨S1x1024x2816, .f32⟩
  | .hbm, ⟨11, _⟩ => ⟨S1024x2816, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel5.lean ====
abbrev S8192x1024 : Shape := ⟨2, ![8192, 1024]⟩
abbrev S2x1024x2816 : Shape := ⟨3, ![2, 1024, 2816]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2x1024x2816, .f32⟩
  | .hbm, ⟨2, _⟩ => ⟨S2x1024x2816, .f32⟩
  | .hbm, ⟨3, _⟩ => ⟨S8192x1024, .bf16⟩
  | .hbm, ⟨4, _⟩ => ⟨S2x2816x1024, .f32⟩
  | .hbm, ⟨5, _⟩ => ⟨S2x4x704x1024, .f32⟩
  | .hbm, ⟨6, _⟩ => ⟨S4x2x704x1024, .f32⟩
  | .hbm, ⟨7, _⟩ => ⟨S4x2x704x1024, .bf16⟩
  | .hbm, ⟨8, _⟩ => ⟨S2x2816x1024, .f32⟩
  | .hbm, ⟨9, _⟩ => ⟨S2x4x704x1024, .f32⟩
  | .hbm, ⟨10, _⟩ => ⟨S4x2x704x1024, .f32⟩
  | .hbm, ⟨11, _⟩ => ⟨S4x2x704x1024, .bf16⟩
  | .hbm, ⟨12, _⟩ => ⟨S4x8192x704, .bf16⟩
  | .hbm, ⟨13, _⟩ => ⟨S4x8192x704, .bf16⟩
  | .hbm, ⟨14, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x1024 : Shape := ⟨2, ![8192, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2816, .f32⟩
  | .hbm, ⟨2, _⟩ => ⟨S2x1024x2816, .f32⟩
  | .hbm, ⟨3, _⟩ => ⟨S1x1024x2816, .f32⟩
  | .hbm, ⟨4, _⟩ => ⟨S1024x2816, .f32⟩
  | .hbm, ⟨5, _⟩ => ⟨S8192x2816, .f32⟩
  | .hbm, ⟨6, _⟩ => ⟨S1x1024x2816, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x4x704, .f32⟩
  | .hbm, ⟨32, _⟩ => ⟨S4x8192x704, .f32⟩
  | .hbm, ⟨33, _⟩ => ⟨S4x8192x704, .bf16⟩
  | .hbm, ⟨34, _⟩ => ⟨S8192x4x704, .f32⟩
  | .hbm, ⟨35, _⟩ => ⟨S4x8192x704, .f32⟩
  | .hbm, ⟨36, _⟩ => ⟨S4x8192x704, .bf16⟩
  | .hbm, ⟨37, _⟩ => ⟨S8192x4x704, .f32⟩
  | .hbm, ⟨38, _⟩ => ⟨S4x8192x704, .f32⟩
  | .hbm, ⟨39, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel6.lean ====
abbrev S8192x2816 : Shape := ⟨2, ![8192, 2816]⟩
abbrev S2x2816x1024 : Shape := ⟨3, ![2, 2816, 1024]⟩
abbrev S8192x1024 : Shape := ⟨2, ![8192, 1024]⟩
abbrev S8192x4x704 : Shape := ⟨3, ![8192, 4, 704]⟩
abbrev S4x8192x704 : Shape := ⟨3, ![4, 8192, 704]⟩
abbrev S2x4x704x1024 : Shape := ⟨4, ![2, 4, 704, 1024]⟩
abbrev S4x2x704x1024 : Shape := ⟨4, ![4, 2, 704, 1024]⟩
abbrev S4x1024x704 : Shape := ⟨3, ![4, 1024, 704]⟩
abbrev S4x1x704x1024 : Shape := ⟨4, ![4, 1, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S2x4x704x1024, .f32⟩
  | .hbm, ⟨7, _⟩ => ⟨S4x2x704x1024, .f32⟩
  | .hbm, ⟨8, _⟩ => ⟨S4x2x704x1024, .bf16⟩
  | .hbm, ⟨9, _⟩ => ⟨S8192x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x1x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x2816 : Shape := ⟨2, ![8192, 2816]⟩
abbrev S2x2816x1024 : Shape := ⟨3, ![2, 2816, 1024]⟩
abbrev S8192x1024 : Shape := ⟨2, ![8192, 1024]⟩
abbrev S1x2816x1024 : Shape := ⟨3, ![1, 2816, 1024]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S1x2816x1024, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2816 : Shape := ⟨2, ![8192, 2816]⟩
abbrev S2x2816x1024 : Shape := ⟨3, ![2, 2816, 1024]⟩
abbrev S8192x1024 : Shape := ⟨2, ![8192, 1024]⟩
abbrev S_ : Shape := ⟨0, ![]⟩
abbrev S2x4x704x1024 : Shape := ⟨4, ![2, 4, 704, 1024]⟩
abbrev S4x2x704x1024 : Shape := ⟨4, ![4, 2, 704, 1024]⟩
abbrev S8192x4x704 : Shape := ⟨3, ![8192, 4, 704]⟩
abbrev S4x8192x704 : Shape := ⟨3, ![4, 8192, 704]⟩
abbrev S8x128 : Shape := ⟨2, ![8, 128]⟩
abbrev S4x704x1024 : Shape := ⟨3, ![4, 704, 1024]⟩
abbrev S256x1024 : Shape := ⟨2, ![256, 1024]⟩
abbrev S4x1x704x1024 : Shape := ⟨4, ![4, 1, 704, 1024]⟩
abbrev S4x256x704 : Shape := ⟨3, ![4, 256, 704]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩
abbrev S1x704x1024 : Shape := ⟨3, ![1, 704, 1024]⟩

abbrev nBuf : Space → Nat
  | .hbm => 40
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2x2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S2x4x704x1024, .f32⟩
  | .hbm, ⟨22, _⟩ => ⟨S4x2x704x1024, .f32⟩
  | .hbm, ⟨23, _⟩ => ⟨S4x2x704x1024, .bf16⟩
  | .hbm, ⟨24, _⟩ => ⟨S8192x4x704, .f32⟩
  | .hbm, ⟨25, _⟩ => ⟨S4x8192x704, .f32⟩
  | .hbm, ⟨26, _⟩ => ⟨S4x8192x704, .bf16⟩
  | .hbm, ⟨27, _⟩ => ⟨S8192x2816, .f32⟩
  | .hbm, ⟨28, _⟩ => ⟨S8192x4x704, .f32⟩
  | .hbm, ⟨29, _⟩ => ⟨S4x8192x704, .f32⟩
  | .hbm, ⟨30, _⟩ => ⟨S4x8192x704, .bf16⟩
  | .hbm, ⟨31, _⟩ => ⟨S8192x2816, .f32⟩
  | .hbm, ⟨32, _⟩ => ⟨S8192x4x704, .f32⟩
  | .hbm, ⟨33, _⟩ => ⟨S4x8192x704, .f32⟩
  | .hbm, ⟨34, _⟩ => ⟨S4x8192x704, .bf16⟩
  | .hbm, ⟨35, _⟩ => ⟨S_, .f32⟩
  | .hbm, ⟨36, _⟩ => ⟨S8x128, .f32⟩
  | .hbm, ⟨37, _⟩ => ⟨S4x8192x704, .bf16⟩
  | .hbm, ⟨38, _⟩ => ⟨S4x8192x704, .bf16⟩
  | .hbm, ⟨39, _⟩ => ⟨S4x704x1024, .f32⟩
  | .local _ .vmem, ⟨0, _⟩ => ⟨S256x1024, .f32⟩
  | .local _ .vmem, ⟨1, _⟩ => ⟨S256x1024, .f32⟩
  | .local _ .vmem, ⟨2, _⟩ => ⟨S4x1x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S4x256x704, .bf16⟩
  | .local _ .vmem, ⟨12, _⟩ => ⟨S4x256x704, .bf16⟩
  | .local _ .vmem, ⟨13, _⟩ => ⟨S4x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S8192x2816 : Shape := ⟨2, ![8192, 2816]⟩
abbrev S2x2816x1024 : Shape := ⟨3, ![2, 2816, 1024]⟩
abbrev S8192x1024 : Shape := ⟨2, ![8192, 1024]⟩
abbrev S1x2816x1024 : Shape := ⟨3, ![1, 2816, 1024]⟩
abbrev S2816x1024 : Shape := ⟨2, ![2816, 1024]⟩
abbrev S_ : Shape := ⟨0, ![]⟩
abbrev S1024x2816 : Shape := ⟨2, ![1024, 2816]⟩
abbrev S8192x4x704 : Shape := ⟨3, ![8192, 4, 704]⟩
abbrev S4x8192x704 : Shape := ⟨3, ![4, 8192, 704]⟩
abbrev S4x704x1024 : Shape := ⟨3, ![4, 704, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2x2816x1024, .f32⟩
  | .hbm, ⟨3, _⟩ => ⟨S8192x1024, .f32⟩
  | .hbm, ⟨4, _⟩ => ⟨S1x2816x1024, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S1024x2816, .f32⟩
  | .hbm, ⟨22, _⟩ => ⟨S2816x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x4x704, .f32⟩
  | .hbm, ⟨31, _⟩ => ⟨S4x8192x704, .f32⟩
  | .hbm, ⟨32, _⟩ => ⟨S4x8192x704, .bf16⟩
  | .hbm, ⟨33, _⟩ => ⟨S8192x4x704, .f32⟩
  | .hbm, ⟨34, _⟩ => ⟨S4x8192x704, .f32⟩
  | .hbm, ⟨35, _⟩ => ⟨S4x8192x704, .bf16⟩
  | .hbm, ⟨36, _⟩ => ⟨S4x704x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S2x1024x2816 : Shape := ⟨3, ![2, 1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S_ : Shape := ⟨0, ![]⟩
abbrev S8x128 : Shape := ⟨2, ![8, 128]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 31
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S2x1024x2816, .f32⟩
  | .hbm, ⟨4, _⟩ => ⟨S2x1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x4x704, .f32⟩
  | .hbm, ⟨9, _⟩ => ⟨S4x8192x704, .f32⟩
  | .hbm, ⟨10, _⟩ => ⟨S4x8192x704, .bf16⟩
  | .hbm, ⟨11, _⟩ => ⟨S2x2816x1024, .f32⟩
  | .hbm, ⟨12, _⟩ => ⟨S2x4x704x1024, .f32⟩
  | .hbm, ⟨13, _⟩ => ⟨S4x2x704x1024, .f32⟩
  | .hbm, ⟨14, _⟩ => ⟨S4x2x704x1024, .bf16⟩
  | .hbm, ⟨15, _⟩ => ⟨S8192x4x704, .f32⟩
  | .hbm, ⟨16, _⟩ => ⟨S4x8192x704, .f32⟩
  | .hbm, ⟨17, _⟩ => ⟨S4x8192x704, .bf16⟩
  | .hbm, ⟨18, _⟩ => ⟨S2x2816x1024, .f32⟩
  | .hbm, ⟨19, _⟩ => ⟨S2x4x704x1024, .f32⟩
  | .hbm, ⟨20, _⟩ => ⟨S4x2x704x1024, .f32⟩
  | .hbm, ⟨21, _⟩ => ⟨S4x2x704x1024, .bf16⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S_, .f32⟩
  | .hbm, ⟨27, _⟩ => ⟨S8x128, .f32⟩
  | .hbm, ⟨28, _⟩ => ⟨S8192x1024, .f32⟩
  | .hbm, ⟨29, _⟩ => ⟨S1x1024, .f32⟩
  | .hbm, ⟨30, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S8192x1024 : Shape := ⟨2, ![8192, 1024]⟩
abbrev S1024 : Shape := ⟨1, ![1024]⟩
abbrev S2x1024x2816 : Shape := ⟨3, ![2, 1024, 2816]⟩
abbrev S8192x2816 : Shape := ⟨2, ![8192, 2816]⟩
abbrev S1x1024x2816 : Shape := ⟨3, ![1, 1024, 2816]⟩
abbrev S1024x2816 : Shape := ⟨2, ![1024, 2816]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S2x1024x2816, .f32⟩
  | .hbm, ⟨4, _⟩ => ⟨S2x1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S1x1024x2816, .f32⟩
  | .hbm, ⟨9, _⟩ => ⟨S1024x2816, .f32⟩
  | .hbm, ⟨10, _⟩ => ⟨S1x1024x2816, .f32⟩
  | .hbm, ⟨11, _⟩ => ⟨S1024x2816, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel9.lean ====
abbrev S8192x1024 : Shape := ⟨2, ![8192, 1024]⟩
abbrev S2x1024x2816 : Shape := ⟨3, ![2, 1024, 2816]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩
abbrev S_ : Shape := ⟨0, ![]⟩
abbrev S8x128 : Shape := ⟨2, ![8, 128]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2x1024x2816, .f32⟩
  | .hbm, ⟨2, _⟩ => ⟨S2x1024x2816, .f32⟩
  | .hbm, ⟨3, _⟩ => ⟨S8192x1024, .bf16⟩
  | .hbm, ⟨4, _⟩ => ⟨S2x2816x1024, .f32⟩
  | .hbm, ⟨5, _⟩ => ⟨S2x4x704x1024, .f32⟩
  | .hbm, ⟨6, _⟩ => ⟨S4x2x704x1024, .f32⟩
  | .hbm, ⟨7, _⟩ => ⟨S4x2x704x1024, .bf16⟩
  | .hbm, ⟨8, _⟩ => ⟨S2x2816x1024, .f32⟩
  | .hbm, ⟨9, _⟩ => ⟨S2x4x704x1024, .f32⟩
  | .hbm, ⟨10, _⟩ => ⟨S4x2x704x1024, .f32⟩
  | .hbm, ⟨11, _⟩ => ⟨S4x2x704x1024, .bf16⟩
  | .hbm, ⟨12, _⟩ => ⟨S_, .f32⟩
  | .hbm, ⟨13, _⟩ => ⟨S8x128, .f32⟩
  | .hbm, ⟨14, _⟩ => ⟨S4x8192x704, .bf16⟩
  | .hbm, ⟨15, _⟩ => ⟨S4x8192x704, .bf16⟩
  | .hbm, ⟨16, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8192x1024 : Shape := ⟨2, ![8192, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2816, .f32⟩
  | .hbm, ⟨2, _⟩ => ⟨S2x1024x2816, .f32⟩
  | .hbm, ⟨3, _⟩ => ⟨S1x1024x2816, .f32⟩
  | .hbm, ⟨4, _⟩ => ⟨S1024x2816, .f32⟩
  | .hbm, ⟨5, _⟩ => ⟨S8192x2816, .f32⟩
  | .hbm, ⟨6, _⟩ => ⟨S1x1024x2816, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x4x704, .f32⟩
  | .hbm, ⟨32, _⟩ => ⟨S4x8192x704, .f32⟩
  | .hbm, ⟨33, _⟩ => ⟨S4x8192x704, .bf16⟩
  | .hbm, ⟨34, _⟩ => ⟨S8192x4x704, .f32⟩
  | .hbm, ⟨35, _⟩ => ⟨S4x8192x704, .f32⟩
  | .hbm, ⟨36, _⟩ => ⟨S4x8192x704, .bf16⟩
  | .hbm, ⟨37, _⟩ => ⟨S8192x4x704, .f32⟩
  | .hbm, ⟨38, _⟩ => ⟨S4x8192x704, .f32⟩
  | .hbm, ⟨39, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x1280 : Shape := ⟨2, ![1024, 1280]⟩
abbrev S8192x1280 : Shape := ⟨2, ![8192, 1280]⟩
abbrev S1280x1024 : Shape := ⟨2, ![1280, 1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S_ : Shape := ⟨0, ![]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S8192x1024, .f32⟩
  | .hbm, ⟨4, _⟩ => ⟨S8192x1280, .f32⟩
  | .hbm, ⟨5, _⟩ => ⟨S1280x1024, .f32⟩
  | .hbm, ⟨6, _⟩ => ⟨S1280x1024, .bf16⟩
  | .hbm, ⟨7, _⟩ => ⟨S8192x1280, .bf16⟩
  | .hbm, ⟨8, _⟩ => ⟨S8192x1024, .bf16⟩
  | .hbm, ⟨9, _⟩ => ⟨S1024x1024, .bf16⟩
  | .hbm, ⟨10, _⟩ => ⟨S8192x256, .bf16⟩
  | .hbm, ⟨11, _⟩ => ⟨S256x1024, .bf16⟩
  | .hbm, ⟨12, _⟩ => ⟨S1x1024, .f32⟩
  | .hbm, ⟨13, _⟩ => ⟨S_, .f32⟩
  | .hbm, ⟨14, _⟩ => ⟨S8x128, .f32⟩
  | .hbm, ⟨15, _⟩ => ⟨S8192x1024, .f32⟩
  | .hbm, ⟨16, _⟩ => ⟨S1x1024, .f32⟩
  | .hbm, ⟨17, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference10Ideal.lean ====
abbrev S8192x1024 : Shape := ⟨2, ![8192, 1024]⟩
abbrev S1024 : Shape := ⟨1, ![1024]⟩
abbrev S1024x1280 : Shape := ⟨2, ![1024, 1280]⟩
abbrev S8192x1280 : Shape := ⟨2, ![8192, 1280]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S8192x1024, .f32⟩
  | .hbm, ⟨4, _⟩ => ⟨S8192x1280, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1280, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S1024x4x512 : Shape := ⟨3, ![1024, 4, 512]⟩
abbrev S4x1024x512 : Shape := ⟨3, ![4, 1024, 512]⟩
abbrev S1x1024 : Shape := ⟨2, ![1, 1024]⟩
abbrev S_ : Shape := ⟨0, ![]⟩
abbrev S8x128 : Shape := ⟨2, ![8, 128]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S8192x2048, .bf16⟩
  | .hbm, ⟨6, _⟩ => ⟨S1024x4x512, .f32⟩
  | .hbm, ⟨7, _⟩ => ⟨S4x1024x512, .f32⟩
  | .hbm, ⟨8, _⟩ => ⟨S4x1024x512, .bf16⟩
  | .hbm, ⟨9, _⟩ => ⟨S1x1024, .f32⟩
  | .hbm, ⟨10, _⟩ => ⟨S_, .f32⟩
  | .hbm, ⟨11, _⟩ => ⟨S8x128, .f32⟩
  | .hbm, ⟨12, _⟩ => ⟨S8192x1024, .f32⟩
  | .hbm, ⟨13, _⟩ => ⟨S1x1024, .f32⟩
  | .hbm, ⟨14, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S4x1024x512 : Shape := ⟨3, ![4, 1024, 512]⟩
abbrev S1024x1024 : Shape := ⟨2, ![1024, 1024]⟩
abbrev S1024x2048 : Shape := ⟨2, ![1024, 2048]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S4x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S4x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference12Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S_ : Shape := ⟨0, ![]⟩
abbrev S8x128 : Shape := ⟨2, ![8, 128]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S_, .f32⟩
  | .hbm, ⟨4, _⟩ => ⟨S8x128, .f32⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S8192x256 : Shape := ⟨2, ![8192, 256]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .bf16⟩
  | .hbm, ⟨3, _⟩ => ⟨S8192x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference15Ideal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S_, .f32⟩
  | .hbm, ⟨3, _⟩ => ⟨S1024x256, .f32⟩
  | .hbm, ⟨4, _⟩ => ⟨S8192x256, .f32⟩
  | .hbm, ⟨5, _⟩ => ⟨S256x1024, .f32⟩
  | .hbm, ⟨6, _⟩ => ⟨S1024x256, .f32⟩
  | .hbm, ⟨7, _⟩ => ⟨S256x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S1024x1024 : Shape := ⟨2, ![1024, 1024]⟩
abbrev S8192x1024 : Shape := ⟨2, ![8192, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S2x1024x704 : Shape := ⟨3, ![2, 1024, 704]⟩
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 16
  | .vmem => 16
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x704x1024, .f32⟩
  | .hbm, ⟨5, _⟩ => ⟨S1408x1024, .f32⟩
  | .hbm, ⟨6, _⟩ => ⟨S2x704x1024, .f32⟩
  | .hbm, ⟨7, _⟩ => ⟨S1408x1024, .f32⟩
  | .hbm, ⟨8, _⟩ => ⟨S2x704x1024, .f32⟩
  | .hbm, ⟨9, _⟩ => ⟨S1408x1024, .f32⟩
  | .hbm, ⟨10, _⟩ => ⟨S2x704x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S2x1024x704 : Shape := ⟨3, ![2, 1024, 704]⟩
abbrev S_ : Shape := ⟨0, ![]⟩
abbrev S2x704x1024 : Shape := ⟨3, ![2, 704, 1024]⟩
abbrev S1408x1024 : Shape := ⟨2, ![1408, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x704x1024, .f32⟩
  | .hbm, ⟨38, _⟩ => ⟨S1408x1024, .f32⟩
  | .hbm, ⟨39, _⟩ => ⟨S2x704x1024, .f32⟩
  | .hbm, ⟨40, _⟩ => ⟨S1408x1024, .f32⟩
  | .hbm, ⟨41, _⟩ => ⟨S2x704x1024, .f32⟩
  | .hbm, ⟨42, _⟩ => ⟨S1408x1024, .f32⟩
  | .hbm, ⟨43, _⟩ => ⟨S2x704x1024, .f32⟩
  | .hbm, ⟨44, _⟩ => ⟨S1408x1024, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel18.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | .hbm, ⟨40, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel19.lean ====
abbrev S1x1024x320 : Shape := ⟨3, ![1, 1024, 320]⟩
abbrev S1x320x1024 : Shape := ⟨3, ![1, 320, 1024]⟩
abbrev S320x1024 : Shape := ⟨2, ![320, 1024]⟩

abbrev nBuf : Space → Nat
  | .hbm => 16
  | .vmem => 8
  | .smem => 0
  | _ => 0

abbrev bufTy : (tb : Table) → Fin (tcTables nBuf tb) → BufTy
  | .hbm, ⟨0, _⟩ => ⟨S1x1024x320, .f32⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S1x320x1024, .f32⟩
  | .hbm, ⟨5, _⟩ => ⟨S320x1024, .f32⟩
  | .hbm, ⟨6, _⟩ => ⟨S1x320x1024, .f32⟩
  | .hbm, ⟨7, _⟩ => ⟨S320x1024, .f32⟩
  | .hbm, ⟨8, _⟩ => ⟨S1x320x1024, .f32⟩
  | .hbm, ⟨9, _⟩ => ⟨S320x1024, .f32⟩
  | .hbm, ⟨10, _⟩ => ⟨S1x320x1024, .f32⟩
  | .hbm, ⟨11, _⟩ => ⟨S320x1024, .f32⟩
  | .hbm, ⟨12, _⟩ => ⟨S320x1024, .f32⟩
  | .hbm, ⟨13, _⟩ => ⟨S320x1024, .f32⟩
  | .hbm, ⟨14, _⟩ => ⟨S320x1024, .f32⟩
  | .hbm, ⟨15, _⟩ => ⟨S320x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S320x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S320x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S1x1024x320 : Shape := ⟨3, ![1, 1024, 320]⟩
abbrev S_ : Shape := ⟨0, ![]⟩
abbrev S1024x320 : Shape := ⟨2, ![1024, 320]⟩
abbrev S320x1024 : Shape := ⟨2, ![320, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x320, .f32⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S_, .f32⟩
  | .hbm, ⟨5, _⟩ => ⟨S1x1024x320, .f32⟩
  | .hbm, ⟨6, _⟩ => ⟨S1x1024x320, .f32⟩
  | .hbm, ⟨7, _⟩ => ⟨S_, .f32⟩
  | .hbm, ⟨8, _⟩ => ⟨S1x1024x320, .f32⟩
  | .hbm, ⟨9, _⟩ => ⟨S1x1024x320, .f32⟩
  | .hbm, ⟨10, _⟩ => ⟨S1x1024x320, .f32⟩
  | .hbm, ⟨11, _⟩ => ⟨S_, .f32⟩
  | .hbm, ⟨12, _⟩ => ⟨S1x1024x320, .f32⟩
  | .hbm, ⟨13, _⟩ => ⟨S1x1024x320, .f32⟩
  | .hbm, ⟨14, _⟩ => ⟨S1x1024x320, .f32⟩
  | .hbm, ⟨15, _⟩ => ⟨S_, .f32⟩
  | .hbm, ⟨16, _⟩ => ⟨S1x1024x320, .f32⟩
  | .hbm, ⟨17, _⟩ => ⟨S1x1024x320, .f32⟩
  | .hbm, ⟨18, _⟩ => ⟨S1x1024x320, .f32⟩
  | .hbm, ⟨19, _⟩ => ⟨S_, .f32⟩
  | .hbm, ⟨20, _⟩ => ⟨S1x1024x320, .f32⟩
  | .hbm, ⟨21, _⟩ => ⟨S1x1024x320, .f32⟩
  | .hbm, ⟨22, _⟩ => ⟨S_, .f32⟩
  | .hbm, ⟨23, _⟩ => ⟨S1x1024x320, .f32⟩
  | .hbm, ⟨24, _⟩ => ⟨S1x1024x320, .f32⟩
  | .hbm, ⟨25, _⟩ => ⟨S1x1024x320, .f32⟩
  | .hbm, ⟨26, _⟩ => ⟨S_, .f32⟩
  | .hbm, ⟨27, _⟩ => ⟨S1x1024x320, .f32⟩
  | .hbm, ⟨28, _⟩ => ⟨S1x1024x320, .f32⟩
  | .hbm, ⟨29, _⟩ => ⟨S1x1024x320, .f32⟩
  | .hbm, ⟨30, _⟩ => ⟨S_, .f32⟩
  | .hbm, ⟨31, _⟩ => ⟨S1x1024x320, .f32⟩
  | .hbm, ⟨32, _⟩ => ⟨S1x1024x320, .f32⟩
  | .hbm, ⟨33, _⟩ => ⟨S1x1024x320, .f32⟩
  | .hbm, ⟨34, _⟩ => ⟨S_, .f32⟩
  | .hbm, ⟨35, _⟩ => ⟨S1x1024x320, .f32⟩
  | .hbm, ⟨36, _⟩ => ⟨S1x1024x320, .f32⟩
  | .hbm, ⟨37, _⟩ => ⟨S1024x320, .f32⟩
  | .hbm, ⟨38, _⟩ => ⟨S320x1024, .f32⟩
  | .hbm, ⟨39, _⟩ => ⟨S1024x320, .f32⟩
  | .hbm, ⟨40, _⟩ => ⟨S320x1024, .f32⟩
  | .hbm, ⟨41, _⟩ => ⟨S1024x320, .f32⟩
  | .hbm, ⟨42, _⟩ => ⟨S320x1024, .f32⟩
  | .hbm, ⟨43, _⟩ => ⟨S1024x320, .f32⟩
  | .hbm, ⟨44, _⟩ => ⟨S320x1024, .f32⟩
  | _, _ => ⟨S1x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel20.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1x1024x512 : Shape := ⟨3, ![1, 1024, 512]⟩
abbrev S_ : Shape := ⟨0, ![]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S32x1024 : Shape := ⟨2, ![32, 1024]⟩

abbrev nBuf : Space → Nat
  | .hbm => 8
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S32x1024 : Shape := ⟨2, ![32, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel24.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1024x4x512 : Shape := ⟨3, ![1024, 4, 512]⟩
abbrev S4x1024x512 : Shape := ⟨3, ![4, 1024, 512]⟩
abbrev S1x2048 : Shape := ⟨2, ![1, 2048]⟩
abbrev S8192x2048 : Shape := ⟨2, ![8192, 2048]⟩
abbrev S1024x1024 : Shape := ⟨2, ![1024, 1024]⟩
abbrev S1024x1 : Shape := ⟨2, ![1024, 1]⟩
abbrev S1x1024x512 : Shape := ⟨3, ![1, 1024, 512]⟩
abbrev S1024x512 : Shape := ⟨2, ![1024, 512]⟩
abbrev S1x512 : Shape := ⟨2, ![1, 512]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S1x2048, .f32⟩
  | .hbm, ⟨9, _⟩ => ⟨S8192x1024, .bf16⟩
  | .hbm, ⟨10, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x512, .bf16⟩
  | .local _ .vmem, ⟨4, _⟩ => ⟨S1x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference24Ideal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel25.lean ====
abbrev S8192x2816 : Shape := ⟨2, ![8192, 2816]⟩
abbrev S2x2816x1024 : Shape := ⟨3, ![2, 2816, 1024]⟩
abbrev S8192x1024 : Shape := ⟨2, ![8192, 1024]⟩
abbrev S1024 : Shape := ⟨1, ![1024]⟩
abbrev S8192x4x704 : Shape := ⟨3, ![8192, 4, 704]⟩
abbrev S4x8192x704 : Shape := ⟨3, ![4, 8192, 704]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S1x1 : Shape := ⟨2, ![1, 1]⟩
abbrev S4x1024x704 : Shape := ⟨3, ![4, 1024, 704]⟩
abbrev S4x1x704x1024 : Shape := ⟨4, ![4, 1, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1024x1 : Shape := ⟨2, ![1024, 1]⟩
abbrev S1 : Shape := ⟨1, ![1]⟩

abbrev nBuf : Space → Nat
  | .hbm => 15
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S2x4x704x1024, .f32⟩
  | .hbm, ⟨9, _⟩ => ⟨S4x2x704x1024, .f32⟩
  | .hbm, ⟨10, _⟩ => ⟨S4x2x704x1024, .bf16⟩
  | .hbm, ⟨11, _⟩ => ⟨S1x1024, .f32⟩
  | .hbm, ⟨12, _⟩ => ⟨S8192x1024, .f32⟩
  | .hbm, ⟨13, _⟩ => ⟨S1x1, .f32⟩
  | .hbm, ⟨14, _⟩ => ⟨S1x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x1x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1, .f32⟩
  | .local _ .vmem, ⟨11, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference25Ideal.lean ====
abbrev S8192x2816 : Shape := ⟨2, ![8192, 2816]⟩
abbrev S2x2816x1024 : Shape := ⟨3, ![2, 2816, 1024]⟩
abbrev S8192x1024 : Shape := ⟨2, ![8192, 1024]⟩
abbrev S1024 : Shape := ⟨1, ![1024]⟩
abbrev S1x2816x1024 : Shape := ⟨3, ![1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x2816x1024, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1, .f32⟩
  | .hbm, ⟨78, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel26.lean ====
abbrev S8192x1024 : Shape := ⟨2, ![8192, 1024]⟩
abbrev S1024 : Shape := ⟨1, ![1024]⟩
abbrev S1024x1280 : Shape := ⟨2, ![1024, 1280]⟩
abbrev S1280 : Shape := ⟨1, ![1280]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x128 : Shape := ⟨2, ![8192, 128]⟩
abbrev S1x1024 : Shape := ⟨2, ![1, 1024]⟩
abbrev S1280x1024 : Shape := ⟨2, ![1280, 1024]⟩
abbrev S1x1280 : Shape := ⟨2, ![1, 1280]⟩
abbrev S8x128 : Shape := ⟨2, ![8, 128]⟩
abbrev S8192x1280 : Shape := ⟨2, ![8192, 1280]⟩
abbrev S1024x1024 : Shape := ⟨2, ![1024, 1024]⟩
abbrev S1024x128 : Shape := ⟨2, ![1024, 128]⟩
abbrev S1024x1 : Shape := ⟨2, ![1024, 1]⟩
abbrev S1024x1152 : Shape := ⟨2, ![1024, 1152]⟩

abbrev nBuf : Space → Nat
  | .hbm => 68
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S1280, .f32⟩
  | .hbm, ⟨4, _⟩ => ⟨S8192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S_, .i1⟩
  | .hbm, ⟨44, _⟩ => ⟨S128, .i1⟩
  | .hbm, ⟨45, _⟩ => ⟨S128, .i1⟩
  | .hbm, ⟨46, _⟩ => ⟨S128, .i1⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S8192x128, .f32⟩
  | .hbm, ⟨54, _⟩ => ⟨S1x128, .i1⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .i1⟩
  | .hbm, ⟨59, _⟩ => ⟨S8192x128, .f32⟩
  | .hbm, ⟨60, _⟩ => ⟨S1x1024, .f32⟩
  | .hbm, ⟨61, _⟩ => ⟨S1280x1024, .f32⟩
  | .hbm, ⟨62, _⟩ => ⟨S1280x1024, .bf16⟩
  | .hbm, ⟨63, _⟩ => ⟨S1x1280, .f32⟩
  | .hbm, ⟨64, _⟩ => ⟨S_, .f32⟩
  | .hbm, ⟨65, _⟩ => ⟨S8x128, .f32⟩
  | .hbm, ⟨66, _⟩ => ⟨S8192x1024, .bf16⟩
  | .hbm, ⟨67, _⟩ => ⟨S8192x1280, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1280x1024, .bf16⟩
  | .local _ .vmem, ⟨4, _⟩ => ⟨S1x1280, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1280, .bf16⟩
  | .local _ .vmem, ⟨12, _⟩ => ⟨S1024x1280, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call1_v0 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34_0 : Ref sig .tc := ⟨.hbm, 66, rfl⟩
abbrev main_v34_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8192x1024 : Shape := ⟨2, ![8192, 1024]⟩
abbrev S1024 : Shape := ⟨1, ![1024]⟩
abbrev S1024x1280 : Shape := ⟨2, ![1024, 1280]⟩
abbrev S1280 : Shape := ⟨1, ![1280]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S1x1024 : Shape := ⟨2, ![1, 1024]⟩
abbrev S8192x1280 : Shape := ⟨2, ![8192, 1280]⟩
abbrev S1x1280 : Shape := ⟨2, ![1, 1280]⟩
abbrev S8192x16x64 : Shape := ⟨3, ![8192, 16, 64]⟩
abbrev S8192x16x32 : Shape := ⟨3, ![8192, 16, 32]⟩
abbrev S8192x128 : Shape := ⟨2, ![8192, 128]⟩
abbrev S8192x2x64 : Shape := ⟨3, ![8192, 2, 64]⟩
abbrev S8192x2x32 : Shape := ⟨3, ![8192, 2, 32]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1280, .f32⟩
  | .hbm, ⟨3, _⟩ => ⟨S1280, .f32⟩
  | .hbm, ⟨4, _⟩ => ⟨S8192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x1x32, .f32⟩
  | .hbm, ⟨26, _⟩ => ⟨S8192x32, .f32⟩
  | .hbm, ⟨27, _⟩ => ⟨S8192x1x32, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1280, .f32⟩
  | .hbm, ⟨45, _⟩ => ⟨S1x1280, .f32⟩
  | .hbm, ⟨46, _⟩ => ⟨S8192x1280, .f32⟩
  | .hbm, ⟨47, _⟩ => ⟨S8192x1280, .f32⟩
  | .hbm, ⟨48, _⟩ => ⟨S8192x1024, .f32⟩
  | .hbm, ⟨49, _⟩ => ⟨S8192x16x64, .f32⟩
  | .hbm, ⟨50, _⟩ => ⟨S8192x16x32, .f32⟩
  | .hbm, ⟨51, _⟩ => ⟨S8192x16x32, .f32⟩
  | .hbm, ⟨52, _⟩ => ⟨S8192x16x32, .f32⟩
  | .hbm, ⟨53, _⟩ => ⟨S8192x16x32, .f32⟩
  | .hbm, ⟨54, _⟩ => ⟨S8192x16x32, .f32⟩
  | .hbm, ⟨55, _⟩ => ⟨S8192x16x32, .f32⟩
  | .hbm, ⟨56, _⟩ => ⟨S8192x16x32, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x64, .f32⟩
  | .hbm, ⟨63, _⟩ => ⟨S8192x1024, .f32⟩
  | .hbm, ⟨64, _⟩ => ⟨S8192x128, .f32⟩
  | .hbm, ⟨65, _⟩ => ⟨S8192x2x64, .f32⟩
  | .hbm, ⟨66, _⟩ => ⟨S8192x2x32, .f32⟩
  | .hbm, ⟨67, _⟩ => ⟨S8192x2x32, .f32⟩
  | .hbm, ⟨68, _⟩ => ⟨S8192x2x32, .f32⟩
  | .hbm, ⟨69, _⟩ => ⟨S8192x2x32, .f32⟩
  | .hbm, ⟨70, _⟩ => ⟨S8192x2x32, .f32⟩
  | .hbm, ⟨71, _⟩ => ⟨S8192x2x32, .f32⟩
  | .hbm, ⟨72, _⟩ => ⟨S8192x2x32, .f32⟩
  | .hbm, ⟨73, _⟩ => ⟨S8192x2x32, .f32⟩
  | .hbm, ⟨74, _⟩ => ⟨S8192x2x32, .f32⟩
  | .hbm, ⟨75, _⟩ => ⟨S8192x2x32, .f32⟩
  | .hbm, ⟨76, _⟩ => ⟨S8192x2x32, .f32⟩
  | .hbm, ⟨77, _⟩ => ⟨S8192x2x32, .f32⟩
  | .hbm, ⟨78, _⟩ => ⟨S8192x2x64, .f32⟩
  | .hbm, ⟨79, _⟩ => ⟨S8192x128, .f32⟩
  | .hbm, ⟨80, _⟩ => ⟨S8192x1024, .bf16⟩
  | .hbm, ⟨81, _⟩ => ⟨S8192x128, .f32⟩
  | .hbm, ⟨82, _⟩ => ⟨S8192x1280, .f32⟩
  | .hbm, ⟨83, _⟩ => ⟨S8192x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩

abbrev nD : Nat := 1
abbrev τ : Topo := Topo.v7x

variable {F : FTy → Type} [FloatOps F]
-- ==== Proof.Kit.lean ====
module

public import Idealize.ShloMosaic.Lib.Pipeline.ValueKit
public import Idealize.ShloMosaic.Lib.Pipeline.ReadBack

@[expose] public section

noncomputable section

namespace Cert.Kit

open Idealize.ShloMosaic

variable {Val : EltTy → Type} {S : Shape} {e : EltTy}

/-- Stores made before a list of stores that together cover the buffer are not seen afterwards. -/
theorem canon_recent [∀ e, Nonempty (Val e)] (L' : List (View.Piece Val S e)) :
    ∀ (L : List (View.Piece Val S e)) (y : S.Idx), (∃ p ∈ L, y ∈ p.1.set) → View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact canon_recent L' L y ⟨q, hq', hyq⟩

/-- A sum over 2816 columns is the sum of the sums over four bands of 704. -/
theorem sum_bands (f : Fin 2816 → EReal) :
    ∑ k : Fin 2816, f k = (∑ k : Fin 704, f ⟨k.val, by omega⟩) + (∑ k : Fin 704, f ⟨704 + k.val, by omega⟩)
      + (∑ k : Fin 704, f ⟨1408 + k.val, by omega⟩) + ∑ k : Fin 704, f ⟨2112 + k.val, by omega⟩ := by
  have h : ∑ s : Fin 4, ∑ k : Fin 704, f ⟨s.val * 704 + k.val, by omega⟩ = ∑ k : Fin 2816, f k :=
    Fin.sum_mul_add_congr (fun s k hl => rfl) (by norm_num)
  rw [← h, Fin.sum_univ_four]
  have h0 : ∀ k : Fin 704, f ⟨(0 : Fin 4).val * 704 + k.val, by omega⟩ = f ⟨k.val, by omega⟩ := fun k => congrArg f (Fin.ext (by simp))
  rw [Finset.sum_congr rfl fun k _ => h0 k]
  rfl

/-- The derivative of `z * sigmoid z` in the form that the product rule gives it, times a finite cotangent. -/
theorem silu_pull (z : EReal) (g : ℝ) :
    (g : EReal) * (Ideal.logistic z * (1 + z * (1 - Ideal.logistic z)))
      = (g : EReal) * Ideal.logistic z + z * (g : EReal) * (Ideal.logistic z * (1 - Ideal.logistic z)) := by
  induction z using EReal.rec with
  | bot => simp [Ideal.logistic_bot]
  | top =>
    have h : (1 : EReal) - 1 = 0 := by rw [← EReal.coe_one, ← EReal.coe_sub]; norm_num
    rw [Ideal.logistic_top, h]
    simp
  | coe z =>
    rw [Ideal.logistic_coe]
    norm_cast
    ring

/-- The sum of real numbers, read among the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A finite sum of products of finite numbers is a real number. -/
theorem sum_mul_real {ι : Type} [Fintype ι] (a b : ι → EReal) (ha : ∀ i, ∃ r : ℝ, a i = r) (hb : ∀ i, ∃ r : ℝ, b i = r) :
    ∃ r : ℝ, ∑ i, a i * b i = r := by
  choose f hf using ha
  choose g hg using hb
  exact ⟨∑ i, f i * g i, by simp only [hf, hg, ← EReal.coe_mul]; exact (coe_sum _).symm⟩

/-- What the bound of the precondition says of one entry. -/
theorem real_of_abs_lt (x : EReal) (h : max x (-x) < ⊤) : ∃ r : ℝ, x = r := by
  induction x using EReal.rec with
  | bot => simp at h
  | top => simp at h
  | coe x => exact ⟨x, rfl⟩

theorem real_of_bit (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  refine real_of_abs_lt x ?_
  by_contra hc
  simp [Ideal.cmp, hc] at h

end Cert.Kit

end
-- ==== Proof.Val2.lean ====
module

public import proofs.«01_k».proof.Proof.Gen.Kernel2Ideal.Value
public import proofs.«01_k».proof.Proof.Kit

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- What a grid point leaves in the block of output 5. -/
theorem dg1 (c : Dev nD) (t : Fin cfg0.N) (j : S4x256x704.Idx) :
    (outsAt0 m c t.val t.isLt).1 j = (∑ d : Fin 1024, (show FVec Ideal S256x1024 .f32 from iblk m c 0 t) (ix2 (j 1) d) * (show FVec Ideal S4x1x704x1024 .bf16 from iblk m c 1 t) (ix4 (j 0) (0 : Fin 1) (j 2) d)) * (show FVec Ideal S4x256x704 .bf16 from iblk m c 3 t) j := by
  by_cases hA : t.val % 32 = 0
  · rw [outsAt0_A m c t hA]
    frame_open
    simp (disch := decide) only [↓ View.readCov_skip, ↓ View.readCov_cons_toLoadRect, ↓ View.readCov_fill]
    frame_out
    canon_tiles x h
    all_goals (open_payloads; pointwise; blk_point [])
  · rw [outsAt0_B m c t hA]
    frame_open
    simp (disch := decide) only [↓ View.readCov_skip, ↓ View.readCov_cons_toLoadRect, ↓ View.readCov_fill]
    frame_out
    canon_tiles x h
    all_goals (open_payloads; pointwise; blk_point [])

/-- What a grid point leaves in the block of output 6. -/
theorem dg3 (c : Dev nD) (t : Fin cfg0.N) (j : S4x256x704.Idx) :
    (outsAt0 m c t.val t.isLt).2.1 j = (∑ d : Fin 1024, (show FVec Ideal S256x1024 .f32 from iblk m c 0 t) (ix2 (j 1) d) * (show FVec Ideal S4x1x704x1024 .bf16 from iblk m c 1 t) (ix4 (j 0) (0 : Fin 1) (j 2) d)) * (show FVec Ideal S4x256x704 .bf16 from iblk m c 2 t) j := by
  by_cases hA : t.val % 32 = 0
  · rw [outsAt0_A m c t hA]
    frame_open
    simp (disch := decide) only [↓ View.readCov_skip, ↓ View.readCov_cons_toLoadRect, ↓ View.readCov_fill]
    frame_out
    canon_tiles x h
    all_goals (open_payloads; pointwise; blk_point [])
  · rw [outsAt0_B m c t hA]
    frame_open
    simp (disch := decide) only [↓ View.readCov_skip, ↓ View.readCov_cons_toLoadRect, ↓ View.readCov_fill]
    frame_out
    canon_tiles x h
    all_goals (open_payloads; pointwise; blk_point [])

theorem stepA (c : Dev nD) (t : Fin cfg0.N) (hA : t.val % 32 = 0) (j : S4x704x1024.Idx) :
    (outsAt0 m c t.val t.isLt).2.2 j = ∑ k : Fin 256, (show FVec Ideal S4x256x704 .bf16 from iblk m c 4 t) (ix3 (j 0) k (j 1)) * (show FVec Ideal S256x1024 .f32 from iblk m c 0 t) (ix2 k (j 2)) := by
  rw [outsAt0_A m c t hA]
  frame_open
  simp (disch := decide) only [↓ View.readCov_skip, ↓ View.readCov_cons_toLoadRect, ↓ View.readCov_fill]
  frame_out
  refine (Cert.Kit.canon_recent _ [_, _, _, _] j (View.cover_of_tiled_head _ _ _ (by rfl) _)).trans ?_
  canon_tiles x h
  all_goals (open_payloads; pointwise; blk_point [])

theorem stepB (c : Dev nD) (t : Fin cfg0.N) (hB : ¬t.val % 32 = 0) (j : S4x704x1024.Idx) :
    (outsAt0 m c t.val t.isLt).2.2 j = (outsAt0 m c (t.val - 1) (Nat.lt_of_le_of_lt (Nat.sub_le _ _) t.isLt)).2.2 j
      + ∑ k : Fin 256, (show FVec Ideal S4x256x704 .bf16 from iblk m c 4 t) (ix3 (j 0) k (j 1)) * (show FVec Ideal S256x1024 .f32 from iblk m c 0 t) (ix2 k (j 2)) := by
  rw [outsAt0_B m c t hB]
  frame_open
  simp (disch := decide) only [↓ View.readCov_skip, ↓ View.readCov_cons_toLoadRect, ↓ View.readCov_fill]
  frame_out
  canon_tiles x h
  all_goals (open_payloads; pointwise; blk_point [])

end Cert.Kernel2Ideal.Val

end
-- ==== Proof.Val2b.lean ====
module

public import proofs.«01_k».proof.Proof.Val2

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 1, 0, 0] ∧ win0_2.index t = ![0, t.val, 0] ∧ win0_3.index t = ![0, t.val, 0]
    ∧ win0_4.index t = ![0, t.val, 0] ∧ win0_5.index t = ![0, t.val, 0] ∧ win0_6.index t = ![0, t.val, 0] :=
  (by decide +kernel : ∀ t : Fin grid0.N, _)

/-- The gradient that comes back through layer 1 of the weight: token `t`, hidden unit `k`. -/
def back (w : FVec Ideal S2x2816x1024 .f32) (ct : FVec Ideal S8192x1024 .f32) (t : Fin 8192) (k : Fin 2816) : EReal :=
  ∑ d : Fin 1024, ct (ix2 t d) * w (ix3 (1 : Fin 2) k d)

/-- The hidden unit that row band `j 0` has in column `j 2`. -/
def unit (j : S4x8192x704.Idx) : Fin 2816 := ⟨(j 0).val * 704 + (j 2).val, by idx_bounds; omega⟩

/-- The gate. -/
def gate (g1 : FVec Ideal S8192x2816 .f32) : FVec Ideal S4x8192x704 .bf16 := fun j => g1 (ix2 (j 1) (unit j)) * Ideal.logistic (g1 (ix2 (j 1) (unit j)))

/-- The gated branch. -/
def gated (g1 g3 : FVec Ideal S8192x2816 .f32) : FVec Ideal S4x8192x704 .bf16 := fun j => g1 (ix2 (j 1) (unit j)) * Ideal.logistic (g1 (ix2 (j 1) (unit j))) * g3 (ix2 (j 1) (unit j))

/-- The derivative of the gated branch in the first branch. -/
def slope (g1 g3 : FVec Ideal S8192x2816 .f32) : FVec Ideal S4x8192x704 .bf16 := fun j =>
  g3 (ix2 (j 1) (unit j)) * (Ideal.logistic (g1 (ix2 (j 1) (unit j))) * (1 + g1 (ix2 (j 1) (unit j)) * (1 - Ideal.logistic (g1 (ix2 (j 1) (unit j))))))

def specDg1 (g1 g3 : FVec Ideal S8192x2816 .f32) (w : FVec Ideal S2x2816x1024 .f32) (ct : FVec Ideal S8192x1024 .f32) : FVec Ideal S4x8192x704 .bf16 := fun j =>
  back w ct (j 1) (unit j) * slope g1 g3 j

def specDg3 (g1 : FVec Ideal S8192x2816 .f32) (w : FVec Ideal S2x2816x1024 .f32) (ct : FVec Ideal S8192x1024 .f32) : FVec Ideal S4x8192x704 .bf16 := fun j =>
  back w ct (j 1) (unit j) * gate g1 j

def specDw (g1 g3 : FVec Ideal S8192x2816 .f32) (ct : FVec Ideal S8192x1024 .f32) : FVec Ideal S4x704x1024 .f32 := fun j =>
  ∑ k : Fin 8192, gated g1 g3 (ix3 (j 0) k (j 1)) * ct (ix2 k (j 2))

theorem entrySlope (c : Dev nD) : V m c main_v22 = slope (m ((c : Thread nD τ).loc main_arg0)) (m ((c : Thread nD τ).loc main_arg1)) := by
  funext j
  unfold slope unit
  entry_read
  pointwise
  simp [Ideal.logistic]

theorem entryGate (c : Dev nD) : V m c main_v18 = gate (m ((c : Thread nD τ).loc main_arg0)) := by
  funext j
  unfold gate unit
  entry_read
  pointwise
  simp [Ideal.logistic]

theorem entryGated (c : Dev nD) : V m c main_v26 = gated (m ((c : Thread nD τ).loc main_arg0)) (m ((c : Thread nD τ).loc main_arg1)) := by
  funext j
  unfold gated unit
  entry_read
  pointwise
  simp [Ideal.logistic]

theorem finalDg1 (c : Dev nD) : (dats m 0 c).arrAt 5 cfg0.N
    = specDg1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5, dg1 m c t]
  blk_simp [iblk, idx t]
  rw [entrySlope m c]
  unfold specDg1 slope back unit
  blk_point [idx t]

theorem finalDg3 (c : Dev nD) : (dats m 0 c).arrAt 6 cfg0.N
    = specDg3 (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp [idx t]
  rw [after0_6, dg3 m c t]
  blk_simp [iblk, idx t]
  rw [entryGate m c]
  unfold specDg3 gate back unit
  blk_point [idx t]

/-- The last grid point. -/
def last : Fin cfg0.N := ⟨31, by rw [show cfg0.N = 32 from N_0]; decide⟩

theorem finalDw (c : Dev nD) : (dats m 0 c).arrAt 7 cfg0.N
    = specDw (m ((c : Thread nD τ).loc main_arg0)) (m ((c : Thread nD τ).loc main_arg1)) (m ((c : Thread nD τ).loc main_arg3)) := by
  refine (dats m 0 c).arrAt_eq_of_after_last 7 last (by decide +kernel) _ fun j => ?_
  blk_simp
  rw [after0_7, Pipeline.eq_sum_fin_of_reset_step_apply_last (fun n h => (outsAt0 m c n h).2.2) 32 (fun _ => 0) _
    (fun t h j => by rw [stepA m c t h]; exact (zero_add _).symm) (fun t h j => by rw [stepB m c t h]) (le_of_eq N_0) last rfl j, zero_add]
  unfold specDw
  refine Fin.sum_mul_add_congr (fun t k hl => ?_) (by have := N_0; change cfg0.N = 32 at this; rw [this])
  blk_simp [iblk, idx t]
  rw [entryGated m c]
  unfold gated unit
  blk_point [idx t]

end Cert.Kernel2Ideal.Val

end
-- ==== Proof.Claim2.lean ====
module

public import proofs.«01_k».proof.Defs
public import proofs.«01_k».proof.Proof.Kit
public import proofs.«01_k».proof.Proof.Val2b
public import proofs.«01_k».proof.Proof.Gen.Reference2Ideal.Read

@[expose] public section

set_option maxRecDepth 16384

noncomputable section

namespace Cert.Kernel2Ideal.Val

open Idealize.ShloMosaic Idealize.ShloMosaic.TcCoe Idealize.SL.Sem

open Cert.Reference2Ideal.Read in
/-- The plain derivative in the second branch, index by index. -/
theorem referenceDg3 (g1 : FVec Ideal S8192x2816 .f32) (w : FVec Ideal S2x2816x1024 .f32) (ct : FVec Ideal S8192x1024 .f32) :
    val_main_v16 (F := Ideal) g1 w ct = specDg3 g1 w ct := by
  funext j
  unfold specDg3 gate back unit
  pointwise [val_main_v16, val_main_v15, val_main_v14, val_main_v8, val_main_v7, val_main_v2_0, val_main_v2_1, val_main_v2_2, val_main_call0_v4, val_main_call0_cst_0, val_main_call0_v3, val_main_call0_v2, val_main_call0_cst, val_main_call0_v1, val_main_call0_v0, val_main_v1, val_main_v0]
  simp only [Ideal.logistic]
  exact mul_comm _ _

open Cert.Reference2Ideal.Read in
/-- The plain derivative in the weight, index by index. -/
theorem referenceDw (g1 g3 : FVec Ideal S8192x2816 .f32) (ct : FVec Ideal S8192x1024 .f32) :
    val_main_v17 (F := Ideal) g1 g3 ct = specDw g1 g3 ct := by
  funext j
  unfold specDw gated unit
  pointwise [val_main_v17, val_main_v6, val_main_v5, val_main_v3, val_main_v2_0, val_main_v2_1, val_main_v2_2, val_main_call0_v4, val_main_call0_cst_0, val_main_call0_v3, val_main_call0_v2, val_main_call0_cst, val_main_call0_v1, val_main_call0_v0]
  refine Finset.sum_congr rfl fun k _ => (mul_comm _ _).trans ?_
  simp only [Ideal.logistic]

open Cert.Reference2Ideal.Read in
/-- The plain derivative in the first branch, index by index. -/
theorem referenceDg1 (g1 g3 : FVec Ideal S8192x2816 .f32) (w : FVec Ideal S2x2816x1024 .f32) (ct : FVec Ideal S8192x1024 .f32)
    (h3 : ∀ i, ∃ r : ℝ, g3 i = r) (hw : ∀ i, ∃ r : ℝ, w i = r) (hc : ∀ i, ∃ r : ℝ, ct i = r) :
    val_main_v13 (F := Ideal) g1 g3 w ct = specDg1 g1 g3 w ct := by
  funext j
  have hb : ∃ r : ℝ, back w ct (j 1) (unit j) = r := Cert.Kit.sum_mul_real _ _ (fun _ => hc _) fun _ => hw _
  have hg : ∃ r : ℝ, back w ct (j 1) (unit j) * g3 (ix2 (j 1) (unit j)) = r := by
    obtain ⟨b, hb⟩ := hb
    obtain ⟨g, hg⟩ := h3 (ix2 (j 1) (unit j))
    exact ⟨b * g, by rw [hb, hg, EReal.coe_mul]⟩
  obtain ⟨g, hg⟩ := hg
  unfold specDg1 slope
  rw [← mul_assoc, hg, Cert.Kit.silu_pull, ← hg]
  unfold back unit
  pointwise [val_main_v13, val_main_v12, val_main_v11, val_main_v10, val_main_v9, val_main_call1_v2, val_main_call1_v1, val_main_call1_v0, val_main_v7, val_main_v2_0, val_main_v2_1, val_main_v2_2, val_main_call0_v7, val_main_call0_v6, val_main_call0_cst_1, val_main_call0_v4, val_main_call0_cst_0, val_main_call0_v3, val_main_call0_v2, val_main_call0_cst, val_main_call0_v1, val_main_call0_v0, val_main_v1, val_main_v0]
  simp [Ideal.logistic]

theorem algebraic [Cert.Pre_finite2.Facts] : Cert.algebraic_Kernel2Ideal_Reference2Ideal_pre_finite2 := by
  intro m g m' g' hpre hagree
  refine ⟨fun c => specDg1 (m ((c.tc : Thread nD τ).loc main_arg0)) (m ((c.tc : Thread nD τ).loc main_arg1)) (m ((c.tc : Thread nD τ).loc main_arg2)) (m ((c.tc : Thread nD τ).loc main_arg3)),
    fun c => specDg3 (m ((c.tc : Thread nD τ).loc main_arg0)) (m ((c.tc : Thread nD τ).loc main_arg2)) (m ((c.tc : Thread nD τ).loc main_arg3)),
    fun c => specDw (m ((c.tc : Thread nD τ).loc main_arg0)) (m ((c.tc : Thread nD τ).loc main_arg1)) (m ((c.tc : Thread nD τ).loc main_arg3)),
    (θ_run _ _ _).mono (fun r h c => ⟨(h c).1.trans (finalDg1 m c), (h c).2.1.trans (finalDg3 m c), (h c).2.2.1.trans (finalDw m c), (h c).2.2.2⟩) (Cert.Kernel2Ideal.Value.run_blocks m g),
    (θ_run _ _ _).mono (fun r h c => ⟨(h c).1.trans ?_, (h c).2.1.trans ?_, (h c).2.2.1.trans ?_, (h c).2.2.2⟩) (Cert.Reference2Ideal.Value.run m' g')⟩
  all_goals rw [(hagree c).1, (hagree c).2.2.2]
  · rw [(hagree c).2.1, (hagree c).2.2.1]
    refine referenceDg1 _ _ _ _ (fun i => Cert.Kit.real_of_bit _ ?_) (fun i => Cert.Kit.real_of_bit _ ?_) (fun i => Cert.Kit.real_of_bit _ ?_)
    · exact congrFun (hpre c).1 i
    · exact congrFun (hpre c).2.1 i
    · exact congrFun (hpre c).2.2 i
  · rw [(hagree c).2.2.1]
    exact referenceDg3 _ _ _
  · rw [(hagree c).2.1]
    exact referenceDw _ _ _

end Cert.Kernel2Ideal.Val

end
-- ==== Proof.Val3.lean ====
module

public import proofs.«01_k».proof.Proof.Gen.Kernel3Ideal.Value
public import proofs.«01_k».proof.Proof.Kit

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem stepA (c : Dev nD) (t : Fin cfg0.N) (hA : t.val % 8 = 0) (j : S4x704x1024.Idx) :
    outsAt0 m c t.val t.isLt j = ∑ k : Fin 1024, (show FVec Ideal S4x1024x704 .bf16 from iblk m c 0 t) (ix3 (j 0) k (j 1)) * (show FVec Ideal S1024x1024 .bf16 from iblk m c 1 t) (ix2 k (j 2)) := by
  rw [outsAt0_A m c t hA]
  frame_open
  simp (disch := decide) only [↓ View.readCov_skip, ↓ View.readCov_cons_toLoadRect, ↓ View.readCov_fill]
  frame_out
  refine (Cert.Kit.canon_recent _ [_, _, _, _] j (View.cover_of_tiled_head _ _ _ (by rfl) _)).trans ?_
  canon_tiles x h
  all_goals (open_payloads; pointwise; blk_point [])

theorem stepB (c : Dev nD) (t : Fin cfg0.N) (hB : ¬t.val % 8 = 0) (j : S4x704x1024.Idx) :
    outsAt0 m c t.val t.isLt j = outsAt0 m c (t.val - 1) (Nat.lt_of_le_of_lt (Nat.sub_le _ _) t.isLt) j
      + ∑ k : Fin 1024, (show FVec Ideal S4x1024x704 .bf16 from iblk m c 0 t) (ix3 (j 0) k (j 1)) * (show FVec Ideal S1024x1024 .bf16 from iblk m c 1 t) (ix2 k (j 2)) := by
  rw [outsAt0_B m c t hB]
  frame_open
  simp (disch := decide) only [↓ View.readCov_skip, ↓ View.readCov_cons_toLoadRect, ↓ View.readCov_fill]
  frame_out
  canon_tiles x h
  all_goals (open_payloads; pointwise; blk_point [])

theorem idx : ∀ t : Fin cfg0.N, win0_0.index t = ![0, t.val, 0] ∧ win0_1.index t = ![t.val, 0] :=
  (by decide +kernel : ∀ t : Fin grid0.N, _)

/-- Row `704 * chip + row` of the weight gradient, column by column: the sum over the tokens. -/
def spec (f : FVec Ideal S8192x1024 .f32) (dg : FVec Ideal S8192x2816 .f32) : FVec Ideal S4x704x1024 .f32 := fun j =>
  ∑ k : Fin 8192, dg (ix2 k ⟨(j 0).val * 704 + (j 1).val, by idx_bounds; omega⟩) * f (ix2 k (j 2))

theorem final (c : Dev nD) : (dats m 0 c).arrAt 2 cfg0.N
    = spec (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [stepA m c t h]; exact (zero_add _).symm) (fun t h j => by rw [stepB m c t h]) (le_of_eq N_0) t0_7 rfl j, zero_add]
  unfold spec
  refine Fin.sum_mul_add_congr (fun t k hl => ?_) (by have := N_0; change cfg0.N = 8 at this; rw [this])
  blk_point [iblk, idx t]

end Cert.Kernel3Ideal.Val

end
-- ==== Proof.Claim3.lean ====
module

public import proofs.«01_k».proof.Defs
public import proofs.«01_k».proof.Proof.Val3
public import proofs.«01_k».proof.Proof.Gen.Reference3Ideal.Run

@[expose] public section

set_option maxRecDepth 16384

noncomputable section

namespace Cert.Kernel3Ideal.Val

open Idealize.ShloMosaic Idealize.ShloMosaic.TcCoe Idealize.SL.Sem

/-- The plain derivative, index by index. -/
theorem reference (f : FVec Ideal S8192x1024 .f32) (dg : FVec Ideal S8192x2816 .f32) :
    shapeCast _ (transpose Cert.Reference3Ideal.S2816x1024 [1, 0] (transpose Cert.Reference3Ideal.S1024x2816 [1, 0] (Host.dotGeneral Cert.Reference3Ideal.dot_S8192x2816_S8192x1024_S2816x1024_0_0_1_1_n_n none dg f) Cert.Reference3Ideal.Gen.transposes_S2816x1024_S1024x2816_1_0) Cert.Reference3Ideal.Gen.transposes_S1024x2816_S2816x1024_1_0) Cert.Reference3Ideal.Gen.shapeCasts_S2816x1024_S4x704x1024 = spec f dg := by
  funext j
  unfold spec
  pointwise

theorem algebraic : Cert.algebraic_Kernel3Ideal_Reference3Ideal := by
  intro m g m' g' hpre hagree
  refine ⟨fun c => spec (m ((c.tc : Thread nD τ).loc main_arg0)) (m ((c.tc : Thread nD τ).loc main_arg1)), (θ_run _ _ _).mono (fun r h c => ⟨(h c).1.trans (final m c), (h c).2⟩) (Cert.Kernel3Ideal.Value.run_blocks m g),
    (θ_run _ _ _).mono (fun r h c => ⟨(h c).1.trans ?_, (h c).2⟩) (Cert.Reference3Ideal.Value.run m' g')⟩
  rw [(hagree c).1, (hagree c).2]
  exact reference _ _

end Cert.Kernel3Ideal.Val

end
-- ==== Proof.Norm.lean ====
module

public import proofs.«01_k».proof.Proof.Kit

@[expose] public section

noncomputable section

namespace Cert.Kit

open Idealize.ShloMosaic

/-- The inverse root mean square of a row. -/
def rstd (h : Fin 1024 → EReal) : EReal :=
  Ideal.rsqrt (Ideal.div (∑ x, h x * h x) (Ideal.ofBits FTy.f32 1149239296#32) + Ideal.ofBits FTy.f32 925353388#32)

/-- One entry of the row that comes back through the norm: `f` is what arrives, `g` the scale, `e` what is added. -/
def pulled (f g h : Fin 1024 → EReal) (e : EReal) (d : Fin 1024) : EReal :=
  e + (rstd h * (f d * g d) - h d * (rstd h * rstd h * rstd h)
    * Ideal.div (∑ x, f x * g x * h x) (Ideal.ofBits FTy.f32 1149239296#32))

/-- The product of two hidden rows with the two weights' columns, band by band. -/
def bands (y1 y3 w1 w3 : Fin 4 → Fin 704 → EReal) : EReal :=
  ∑ k, y1 0 k * w1 0 k + ∑ k, y1 1 k * w1 1 k + ∑ k, y1 2 k * w1 2 k + ∑ k, y1 3 k * w1 3 k
    + ∑ k, y3 0 k * w3 0 k + ∑ k, y3 1 k * w3 1 k + ∑ k, y3 2 k * w3 2 k + ∑ k, y3 3 k * w3 3 k

theorem add_real (x y : EReal) (hx : ∃ r : ℝ, x = r) (hy : ∃ r : ℝ, y = r) : ∃ r : ℝ, x + y = r := by
  obtain ⟨p, rfl⟩ := hx
  obtain ⟨q, rfl⟩ := hy
  exact ⟨p + q, (EReal.coe_add p q).symm⟩

theorem bands_real (y1 y3 w1 w3 : Fin 4 → Fin 704 → EReal) (h1 : ∀ s k, ∃ r : ℝ, y1 s k = r) (h3 : ∀ s k, ∃ r : ℝ, y3 s k = r)
    (hw1 : ∀ s k, ∃ r : ℝ, w1 s k = r) (hw3 : ∀ s k, ∃ r : ℝ, w3 s k = r) : ∃ r : ℝ, bands y1 y3 w1 w3 = r := by
  have a := fun s => sum_mul_real (y1 s) (w1 s) (h1 s) (hw1 s)
  have b := fun s => sum_mul_real (y3 s) (w3 s) (h3 s) (hw3 s)
  exact add_real _ _ (add_real _ _ (add_real _ _ (add_real _ _ (add_real _ _ (add_real _ _ (add_real _ _ (a 0) (a 1)) (a 2)) (a 3)) (b 0)) (b 1)) (b 2)) (b 3)

theorem width : Ideal.ofBits FTy.f32 1149239296#32 = ((1024 : ℝ) : EReal) := by
  have h : (8388608 : ℝ) * ((2 : ℝ) ^ 13)⁻¹ = 1024 := by norm_num
  rw [← h]
  simp [Ideal.ofBits, Ideal.ieee]

theorem small : ∃ e : ℝ, 0 < e ∧ Ideal.ofBits FTy.f32 925353388#32 = (e : EReal) := by
  refine ⟨_, ?_, by simp [Ideal.ofBits, Ideal.ieee]; norm_cast⟩
  positivity

theorem half : Ideal.ofBits FTy.f32 3204448256#32 = ((-(1 / 2) : ℝ) : EReal) := by
  have h : -((8388608 : ℝ) * ((2 : ℝ) ^ 24)⁻¹) = -(1 / 2) := by norm_num
  rw [← h]
  simp [Ideal.ofBits, Ideal.ieee]

/-- The form in which the product rule leaves the norm's derivative, for finite rows. -/
theorem pull_norm (f g h : Fin 1024 → EReal) (e : EReal) (d : Fin 1024)
    (hf : ∀ i, ∃ r : ℝ, f i = r) (hg : ∀ i, ∃ r : ℝ, g i = r) (hh : ∀ i, ∃ r : ℝ, h i = r) :
    pulled f g h e d = e + f d * g d * rstd h
      + h d * Ideal.div ((∑ x, h x * (f x * g x)) * (Ideal.ofBits FTy.f32 3204448256#32
        * Ideal.div (rstd h) (Ideal.div (∑ x, h x * h x) (Ideal.ofBits FTy.f32 1149239296#32) + Ideal.ofBits FTy.f32 925353388#32)))
          (Ideal.ofBits FTy.f32 1149239296#32)
      + Ideal.div ((∑ x, h x * (f x * g x)) * (Ideal.ofBits FTy.f32 3204448256#32
        * Ideal.div (rstd h) (Ideal.div (∑ x, h x * h x) (Ideal.ofBits FTy.f32 1149239296#32) + Ideal.ofBits FTy.f32 925353388#32)))
          (Ideal.ofBits FTy.f32 1149239296#32) * h d := by
  choose f' hf using hf
  choose g' hg using hg
  choose h' hh using hh
  obtain ⟨s, hs, hse⟩ := small
  have hm : Ideal.div (∑ x, h x * h x) (Ideal.ofBits FTy.f32 1149239296#32) + Ideal.ofBits FTy.f32 925353388#32
      = (((∑ x, h' x * h' x) / 1024 + s : ℝ) : EReal) := by
    rw [hse, width]
    simp only [hh, ← EReal.coe_mul]
    rw [← coe_sum, Ideal.div_coe (by norm_num), ← EReal.coe_mul, ← EReal.coe_add, mul_one_div]
  have hu : 0 < (∑ x, h' x * h' x) / 1024 + s :=
    add_pos_of_nonneg_of_pos (div_nonneg (Finset.sum_nonneg fun x _ => mul_self_nonneg _) (by norm_num)) hs
  have hr : rstd h = ((1 / Real.sqrt ((∑ x, h' x * h' x) / 1024 + s) : ℝ) : EReal) := by
    unfold rstd
    rw [hm, Ideal.rsqrt_coe, if_neg (not_lt.mpr hu.le), if_neg hu.ne', one_div]
  obtain ⟨u, hu'⟩ : ∃ u, u = (∑ x, h' x * h' x) / 1024 + s := ⟨_, rfl⟩
  unfold pulled
  rw [hm, hr, half, width, ← hu', Ideal.div_coe (x := _) (y := u) (by rw [hu']; exact hu.ne')]
  simp only [Ideal.div_coe (y := 1024) (by norm_num)]
  simp only [hh, hf, hg, ← EReal.coe_mul]
  rw [← coe_sum, ← coe_sum]
  simp only [← EReal.coe_mul, ← EReal.coe_sub, add_assoc, ← EReal.coe_add]
  congr 2
  have hs2 : Real.sqrt u * Real.sqrt u = u := Real.mul_self_sqrt (by rw [hu']; exact hu.le)
  have hs0 : Real.sqrt u ≠ 0 := (Real.sqrt_pos.mpr (by rw [hu']; exact hu)).ne'
  have hsum : ∑ x, h' x * (f' x * g' x) = ∑ x, f' x * g' x * h' x := Finset.sum_congr rfl fun x _ => mul_comm _ _
  rw [hsum]
  generalize Real.sqrt u = q at *
  subst hs2
  field_simp
  ring

end Cert.Kit

end
-- ==== Proof.Val4.lean ====
module

public import proofs.«01_k».proof.Proof.Gen.Kernel4Ideal.Value
public import proofs.«01_k».proof.Proof.Norm

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Idealize.ShloMosaic.Pipeline (Dat)
open Cert.Kit (rstd pulled bands)

variable (m : (ℓ : Loc nD τ sig) → Buf (Elt Ideal) ℓ)

/-- Row `i` of a block of the hidden layer, band by band. -/
def hid (y : FVec Ideal S4x512x704 .bf16) (i : Fin 512) : Fin 4 → Fin 704 → EReal := fun s k => y (ix3 s i k)

/-- Column `d` of the staged weight, band by band. -/
def col (w : FVec Ideal S4x1x704x1024 .bf16) (d : Fin 1024) : Fin 4 → Fin 704 → EReal := fun s k => w (ix4 s (0 : Fin 1) k d)

theorem out7At (c : Dev nD) (t : Fin cfg0.N) (a : Fin 512) (b : Fin 1024) :
    (outsAt0 m c t.val t.isLt).1 (ix2 a b) = pulled (fun d => bands (hid (show FVec Ideal S4x512x704 .bf16 from iblk m c 0 t) a) (hid (show FVec Ideal S4x512x704 .bf16 from iblk m c 1 t) a) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 a d)) ((show FVec Ideal S512x1024 .f32 from iblk m c 6 t) (ix2 a b)) b := by
  by_cases hA : t.val % 16 = 0
  · rw [outsAt0_A m c t hA]
    frame_open
    simp (disch := decide) only [↓ View.readCov_skip, ↓ View.readCov_cons_toLoadRect, ↓ View.readCov_fill]
    frame_out
    open_payloads
    pointwise
    unfold pulled bands rstd hid col
    blk_point []
  · rw [outsAt0_B m c t hA]
    frame_open
    simp (disch := decide) only [↓ View.readCov_skip, ↓ View.readCov_cons_toLoadRect, ↓ View.readCov_fill]
    frame_out
    open_payloads
    pointwise
    unfold pulled bands rstd hid col
    blk_point []

/-- What a grid point leaves in the block of the first result. -/
theorem out7 (c : Dev nD) (t : Fin cfg0.N) (j : S512x1024.Idx) :
    (outsAt0 m c t.val t.isLt).1 j = pulled (fun d => bands (hid (show FVec Ideal S4x512x704 .bf16 from iblk m c 0 t) (j 0)) (hid (show FVec Ideal S4x512x704 .bf16 from iblk m c 1 t) (j 0)) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 (j 0) d)) ((show FVec Ideal S512x1024 .f32 from iblk m c 6 t) (ix2 (j 0) (j 1))) (j 1) :=
  (congrArg _ (eq_ix2 j)).trans (out7At m c t (j 0) (j 1))

theorem step8A (c : Dev nD) (t : Fin cfg0.N) (h : t.val % 16 = 0) (j : S1x1024.Idx) :
    (outsAt0 m c t.val t.isLt).2.1 j = ∑ i : Fin 512, bands (hid (show FVec Ideal S4x512x704 .bf16 from iblk m c 0 t) i) (hid (show FVec Ideal S4x512x704 .bf16 from iblk m c 1 t) i) (col (show FVec Ideal S4x1x704x1024 .bf16 from iblk m c 2 t) (j 1)) (col (show FVec Ideal S4x1x704x1024 .bf16 from iblk m c 3 t) (j 1)) * ((show FVec Ideal S512x1024 .f32 from iblk m c 4 t) (ix2 i (j 1)) * rstd (fun d => (show FVec Ideal S512x1024 .f32 from iblk m c 4 t) (ix2 i d))) := by
  rw [outsAt0_A m c t h]
  frame_open
  simp (disch := decide) only [↓ View.readCov_skip, ↓ View.readCov_cons_toLoadRect, ↓ View.readCov_fill]
  frame_out
  open_payloads
  pointwise
  unfold bands rstd hid col
  blk_point []

theorem step8B (c : Dev nD) (t : Fin cfg0.N) (h : ¬t.val % 16 = 0) (j : S1x1024.Idx) :
    (outsAt0 m c t.val t.isLt).2.1 j = (outsAt0 m c (t.val - 1) (Nat.lt_of_le_of_lt (Nat.sub_le _ _) t.isLt)).2.1 j
      + ∑ i : Fin 512, bands (hid (show FVec Ideal S4x512x704 .bf16 from iblk m c 0 t) i) (hid (show FVec Ideal S4x512x704 .bf16 from iblk m c 1 t) i) (col (show FVec Ideal S4x1x704x1024 .bf16 from iblk m c 2 t) (j 1)) (col (show FVec Ideal S4x1x704x1024 .bf16 from iblk m c 3 t) (j 1)) * ((show FVec Ideal S512x1024 .f32 from iblk m c 4 t) (ix2 i (j 1)) * rstd (fun d => (show FVec Ideal S512x1024 .f32 from iblk m c 4 t) (ix2 i d))) := by
  rw [outsAt0_B m c t h]
  frame_open
  simp (disch := decide) only [↓ View.readCov_skip, ↓ View.readCov_cons_toLoadRect, ↓ View.readCov_fill]
  frame_out
  open_payloads
  pointwise
  unfold bands rstd hid col
  blk_point []

theorem step9A (c : Dev nD) (t : Fin cfg0.N) (h : t.val % 16 = 0) (j : S1x1024.Idx) :
    (outsAt0 m c t.val t.isLt).2.2 j = ∑ i : Fin 512, pulled (fun d => bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 i d)) ((show FVec Ideal S512x1024 .f32 from iblk m c 6 t) (ix2 i (j 1))) (j 1) := by
  rw [outsAt0_A m c t h]
  frame_open
  simp (disch := decide) only [↓ View.readCov_skip, ↓ View.readCov_cons_toLoadRect, ↓ View.readCov_fill]
  frame_out
  open_payloads
  pointwise
  unfold pulled bands rstd hid col
  blk_point []

theorem step9B (c : Dev nD) (t : Fin cfg0.N) (h : ¬t.val % 16 = 0) (j : S1x1024.Idx) :
    (outsAt0 m c t.val t.isLt).2.2 j = (outsAt0 m c (t.val - 1) (Nat.lt_of_le_of_lt (Nat.sub_le _ _) t.isLt)).2.2 j
      + ∑ i : Fin 512, pulled (fun d => bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 i d)) ((show FVec Ideal S512x1024 .f32 from iblk m c 6 t) (ix2 i (j 1))) (j 1) := by
  rw [outsAt0_B m c t h]
  frame_open
  simp (disch := decide) only [↓ View.readCov_skip, ↓ View.readCov_cons_toLoadRect, ↓ View.readCov_fill]
  frame_out
  open_payloads
  pointwise
  unfold pulled bands rstd hid col
  blk_point []

end Cert.Kernel4Ideal.Val

end
-- ==== Proof.Val4b.lean ====
module

public import proofs.«01_k».proof.Proof.Val4

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Idealize.ShloMosaic.Pipeline (Dat)
open Cert.Kit (rstd pulled bands)

variable (m : (ℓ : Loc nD τ sig) → Buf (Elt Ideal) ℓ)

theorem idx : ∀ t : Fin cfg0.N, win0_0.index t = ![0, t.val, 0] ∧ win0_1.index t = ![0, t.val, 0] ∧ win0_2.index t = ![0, 1, 0, 0] ∧ win0_3.index t = ![0, 1, 0, 0]
    ∧ win0_4.index t = ![t.val, 0] ∧ win0_5.index t = ![0, 0] ∧ win0_6.index t = ![t.val, 0] ∧ win0_7.index t = ![t.val, 0] :=
  (by decide +kernel : ∀ t : Fin grid0.N, _)

/-- What enters the norm: the residual stream with the bias added. -/
def stream (x : FVec Ideal S8192x1024 .f32) (b : FVec Ideal S1024 .f32) : FVec Ideal S8192x1024 .f32 := fun j => x j + b (ix1 (j 1))

/-- Row `i` of the hidden layer, band by band. -/
def row (y : FVec Ideal S8192x2816 .f32) (i : Fin 8192) : Fin 4 → Fin 704 → EReal := fun s k => y (ix2 i ⟨s.val * 704 + k.val, by omega⟩)

/-- Row `d` of layer 1 of a weight, band by band. -/
def weight (w : FVec Ideal S2x1024x2816 .f32) (d : Fin 1024) : Fin 4 → Fin 704 → EReal := fun s k => w (ix3 (1 : Fin 2) d ⟨s.val * 704 + k.val, by omega⟩)

/-- What comes back through the two products, token `i`, feature `d`. -/
def back (w1 w3 : FVec Ideal S2x1024x2816 .f32) (dg1 dg3 : FVec Ideal S8192x2816 .f32) (i : Fin 8192) (d : Fin 1024) : EReal :=
  bands (row dg1 i) (row dg3 i) (weight w1 d) (weight w3 d)

def spec7 (x : FVec Ideal S8192x1024 .f32) (b g : FVec Ideal S1024 .f32) (w1 w3 : FVec Ideal S2x1024x2816 .f32) (dh : FVec Ideal S8192x1024 .f32) (dg1 dg3 : FVec Ideal S8192x2816 .f32) : FVec Ideal S8192x1024 .f32 := fun j =>
  pulled (fun d => back w1 w3 dg1 dg3 (j 0) d) (fun d => g (ix1 d)) (fun d => stream x b (ix2 (j 0) d)) (dh (ix2 (j 0) (j 1))) (j 1)

def spec8 (x : FVec Ideal S8192x1024 .f32) (b : FVec Ideal S1024 .f32) (w1 w3 : FVec Ideal S2x1024x2816 .f32) (dg1 dg3 : FVec Ideal S8192x2816 .f32) : FVec Ideal S1x1024 .f32 := fun j =>
  ∑ i : Fin 8192, back w1 w3 dg1 dg3 i (j 1) * (stream x b (ix2 i (j 1)) * rstd (fun d => stream x b (ix2 i d)))

def spec9 (x : FVec Ideal S8192x1024 .f32) (b g : FVec Ideal S1024 .f32) (w1 w3 : FVec Ideal S2x1024x2816 .f32) (dh : FVec Ideal S8192x1024 .f32) (dg1 dg3 : FVec Ideal S8192x2816 .f32) : FVec Ideal S1x1024 .f32 := fun j => ∑ i : Fin 8192, spec7 x b g w1 w3 dh dg1 dg3 (ix2 i (j 1))

theorem entryStream (c : Dev nD) : V m c main_v16 = stream (m ((c : Thread nD τ).loc main_arg0)) (m ((c : Thread nD τ).loc main_arg1)) := by
  funext j
  unfold stream
  entry_read
  pointwise

/-- The token that row `i` of block `t` is. -/
def tok (t : Fin cfg0.N) (i : Fin 512) : Fin 8192 := ⟨t.val * 512 + i.val, by have := t.isLt; have : cfg0.N = 16 := N_0; omega⟩

theorem readHid0 (c : Dev nD) (t : Fin cfg0.N) (i : Fin 512) :
    hid (show FVec Ideal S4x512x704 .bf16 from iblk m c 0 t) i = row (m ((c : Thread nD τ).loc main_arg6)) (tok t i) := by
  funext s k
  unfold hid row tok
  blk_point [iblk, idx t]

theorem readHid1 (c : Dev nD) (t : Fin cfg0.N) (i : Fin 512) :
    hid (show FVec Ideal S4x512x704 .bf16 from iblk m c 1 t) i = row (m ((c : Thread nD τ).loc main_arg7)) (tok t i) := by
  funext s k
  unfold hid row tok
  blk_point [iblk, idx t]

theorem readCol0 (c : Dev nD) (t : Fin cfg0.N) (d : Fin 1024) :
    col (show FVec Ideal S4x1x704x1024 .bf16 from iblk m c 2 t) d = weight (m ((c : Thread nD τ).loc main_arg3)) d := by
  funext s k
  unfold col weight
  blk_point [iblk, idx t]

theorem readCol1 (c : Dev nD) (t : Fin cfg0.N) (d : Fin 1024) :
    col (show FVec Ideal S4x1x704x1024 .bf16 from iblk m c 3 t) d = weight (m ((c : Thread nD τ).loc main_arg4)) d := by
  funext s k
  unfold col weight
  blk_point [iblk, idx t]

theorem readStream (c : Dev nD) (t : Fin cfg0.N) (i : Fin 512) (d : Fin 1024) :
    (show FVec Ideal S512x1024 .f32 from iblk m c 4 t) (ix2 i d) = stream (m ((c : Thread nD τ).loc main_arg0)) (m ((c : Thread nD τ).loc main_arg1)) (ix2 (tok t i) d) := by
  unfold tok
  blk_simp [iblk, idx t]
  rw [entryStream m c]
  blk_point [idx t]

theorem readG (c : Dev nD) (t : Fin cfg0.N) (d : Fin 1024) :
    (show FVec Ideal S1x1024 .f32 from iblk m c 5 t) (ix2 (0 : Fin 1) d) = m ((c : Thread nD τ).loc main_arg2) (ix1 d) := by
  blk_point [iblk, idx t]

theorem readDh (c : Dev nD) (t : Fin cfg0.N) (i : Fin 512) (d : Fin 1024) :
    (show FVec Ideal S512x1024 .f32 from iblk m c 6 t) (ix2 i d) = m ((c : Thread nD τ).loc main_arg5) (ix2 (tok t i) d) := by
  unfold tok
  blk_point [iblk, idx t]

theorem readOut (c : Dev nD) (t : Fin cfg0.N) (i : Fin 512) (d : Fin 1024) :
    pulled (fun d => bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 i d)) ((show FVec Ideal S512x1024 .f32 from iblk m c 6 t) (ix2 i d)) d = spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t i) d) := by
  simp only [readHid0, readHid1, readCol0, readCol1, readStream, readG, readDh]
  rfl

theorem readDg (c : Dev nD) (t : Fin cfg0.N) (i : Fin 512) (d : Fin 1024) :
    bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d) * ((show FVec Ideal S512x1024 .f32 from iblk m c 4 t) (ix2 i d) * rstd (fun d => (show FVec Ideal S512x1024 .f32 from iblk m c 4 t) (ix2 i d))) = back (m ((c : Thread nD τ).loc main_arg3)) (m ((c : Thread nD τ).loc main_arg4)) (m ((c : Thread nD τ).loc main_arg6)) (m ((c : Thread nD τ).loc main_arg7)) (tok t i) d * (stream (m ((c : Thread nD τ).loc main_arg0)) (m ((c : Thread nD τ).loc main_arg1)) (ix2 (tok t i) d) * rstd (fun d => stream (m ((c : Thread nD τ).loc main_arg0)) (m ((c : Thread nD τ).loc main_arg1)) (ix2 (tok t i) d))) := by
  simp only [readHid0, readHid1, readCol0, readCol1, readStream]
  rfl

theorem place (t : Fin cfg0.N) (y : S512x1024.Idx) : (win0_7.blk t).view.emb y = ix2 (tok t (y 0)) (y 1) := by
  unfold tok
  blk_ext [idx t]

theorem final7 (c : Dev nD) : (dats m 0 c).arrAt 7 cfg0.N = spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t hf y => ?_
  blk_simp
  rw [after0_7, out7 m c t]
  exact (readOut m c t (y 0) (y 1)).trans (congrArg (spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (place t y).symm)

theorem final8 (c : Dev nD) : (dats m 0 c).arrAt 8 cfg0.N = spec8 (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0) _
    (fun t h j => by rw [step8A m c t h]; exact (zero_add _).symm) (fun t h j => by rw [step8B m c t h]) (le_of_eq N_0) t0_15 rfl j, zero_add]
  unfold spec8
  refine Fin.sum_mul_add_congr (fun t k hl => ?_) (by have := N_0; change cfg0.N = 16 at this; rw [this])
  exact readDg m c t k (j 1)

theorem final9 (c : Dev nD) : (dats m 0 c).arrAt 9 cfg0.N = spec9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => by rw [step9A m c t h]; exact (zero_add _).symm) (fun t h j => by rw [step9B m c t h]) (le_of_eq N_0) t0_15 rfl j, zero_add]
  unfold spec9
  refine Fin.sum_mul_add_congr (fun t k hl => ?_) (by have := N_0; change cfg0.N = 16 at this; rw [this])
  exact readOut m c t k (j 1)

end Cert.Kernel4Ideal.Val

end
-- ==== Proof.Claim4.lean ====
module

public import proofs.«01_k».proof.Defs
public import proofs.«01_k».proof.Proof.Kit
public import proofs.«01_k».proof.Proof.Val4b
public import proofs.«01_k».proof.Proof.Gen.Reference4Ideal.Read

@[expose] public section

set_option maxRecDepth 16384

noncomputable section

namespace Cert.Kernel4Ideal.Val

open Idealize.ShloMosaic Idealize.ShloMosaic.TcCoe Idealize.SL.Sem
open Cert.Kit (rstd pulled bands)
open Cert.Reference4Ideal.Read

section Reference

variable (x : FVec Ideal S8192x1024 .f32) (b g : FVec Ideal S1024 .f32) (w1 w3 : FVec Ideal S2x1024x2816 .f32)
  (dh : FVec Ideal S8192x1024 .f32) (dg1 dg3 : FVec Ideal S8192x2816 .f32)

theorem refStream (i : Fin 8192) (d : Fin 1024) : val_main_v6 (F := Ideal) x b (ix2 i d) = stream x b (ix2 i d) := by
  unfold stream
  pointwise [val_main_v6, val_main_v5, val_main_v4]

theorem refBack (i : Fin 8192) (d : Fin 1024) : val_main_v27 (F := Ideal) w1 w3 dg1 dg3 (ix2 i d) = back w1 w3 dg1 dg3 i d := by
  pointwise [val_main_v27, val_main_v26, val_main_v25, val_main_v3, val_main_v2, val_main_v1, val_main_v0]
  rw [Cert.Kit.sum_bands, Cert.Kit.sum_bands, add_comm]
  unfold back bands row weight
  simp only [← add_assoc]
  pointwise

theorem refRoot (i : Fin 8192) (k : Fin 1) : val_main_v14 (F := Ideal) x b (ix2 i k) = rstd (fun d => stream x b (ix2 i d)) := by
  unfold rstd
  pointwise [val_main_v14, val_main_v13, val_main_v12, val_main_v11, val_main_v10, val_main_v9, val_main_v8, val_main_v7, val_main_cst, val_main_cst_0, val_main_cst_1]
  simp only [refStream, zero_add]

theorem refScaled (i : Fin 8192) (d : Fin 1024) :
    val_main_v32 (F := Ideal) g w1 w3 dg1 dg3 (ix2 i d) = back w1 w3 dg1 dg3 i d * g (ix1 d) := by
  pointwise [val_main_v32, val_main_v31, val_main_v20]
  rw [refBack]

/-- What the mean of squares sends back to each entry of row `i`, without the entry itself. -/
theorem refMean (i : Fin 8192) (d : Fin 1024) :
    val_main_v44 (F := Ideal) x b g w1 w3 dg1 dg3 (ix2 i d)
      = Ideal.div ((∑ k : Fin 1024, stream x b (ix2 i k) * (back w1 w3 dg1 dg3 i k * g (ix1 k))) * (Ideal.ofBits FTy.f32 3204448256#32
        * Ideal.div (rstd (fun d => stream x b (ix2 i d))) (Ideal.div (∑ k : Fin 1024, stream x b (ix2 i k) * stream x b (ix2 i k)) (Ideal.ofBits FTy.f32 1149239296#32)
          + Ideal.ofBits FTy.f32 925353388#32))) (Ideal.ofBits FTy.f32 1149239296#32) := by
  pointwise [val_main_v44, val_main_v43, val_main_v42, val_main_v41, val_main_v40, val_main_v36, val_main_v35, val_main_v34, val_main_v17, val_main_v16, val_main_v15,
    val_main_v13, val_main_v12, val_main_v11, val_main_v10, val_main_v9, val_main_v8, val_main_v7, val_main_cst, val_main_cst_0, val_main_cst_1, val_main_cst_2, val_main_cst_5,
    val_main_cst_6, val_main_cst_7]
  simp only [refStream, refScaled, refRoot, zero_add, Finset.univ_unique, Finset.sum_singleton]

theorem streamReal (hx : ∀ i, ∃ r : ℝ, x i = r) (hb : ∀ i, ∃ r : ℝ, b i = r) (j : S8192x1024.Idx) : ∃ r : ℝ, stream x b j = r := by
  obtain ⟨p, hp⟩ := hx j
  obtain ⟨q, hq⟩ := hb (ix1 (j 1))
  exact ⟨p + q, by unfold stream; rw [hp, hq, EReal.coe_add]⟩

theorem backReal (h1 : ∀ i, ∃ r : ℝ, w1 i = r) (h3 : ∀ i, ∃ r : ℝ, w3 i = r) (hd1 : ∀ i, ∃ r : ℝ, dg1 i = r) (hd3 : ∀ i, ∃ r : ℝ, dg3 i = r)
    (i : Fin 8192) (d : Fin 1024) : ∃ r : ℝ, back w1 w3 dg1 dg3 i d = r := by
  unfold back
  exact Cert.Kit.bands_real _ _ _ _ (fun _ _ => hd1 _) (fun _ _ => hd3 _) (fun _ _ => h1 _) fun _ _ => h3 _

/-- The plain formula of the input gradient, token by token. -/
theorem reference7 (hx : ∀ i, ∃ r : ℝ, x i = r) (hb : ∀ i, ∃ r : ℝ, b i = r) (hg : ∀ i, ∃ r : ℝ, g i = r)
    (h1 : ∀ i, ∃ r : ℝ, w1 i = r) (h3 : ∀ i, ∃ r : ℝ, w3 i = r) (hd1 : ∀ i, ∃ r : ℝ, dg1 i = r) (hd3 : ∀ i, ∃ r : ℝ, dg3 i = r)
    (i : Fin 8192) (d : Fin 1024) :
    val_main_v48 (F := Ideal) x b g w1 w3 dh dg1 dg3 (ix2 i d) = spec7 x b g w1 w3 dh dg1 dg3 (ix2 i d) := by
  show _ = pulled (back w1 w3 dg1 dg3 i) (fun k => g (ix1 k)) (fun k => stream x b (ix2 i k)) (dh (ix2 i d)) d
  rw [Cert.Kit.pull_norm _ _ _ _ _ (fun k => backReal w1 w3 dg1 dg3 h1 h3 hd1 hd3 i k) (fun k => hg _) fun k => streamReal x b hx hb _]
  pointwise [val_main_v48, val_main_v47, val_main_v46, val_main_v45, val_main_v39, val_main_v38, val_main_v37]
  simp only [refStream, refScaled, refRoot, refMean]

/-- The plain formula of the gradient of the scale. -/
theorem reference8 (d : Fin 1024) :
    val_main_v52 (F := Ideal) x b w1 w3 dg1 dg3 (ix2 (0 : Fin 1) d) = spec8 x b w1 w3 dg1 dg3 (ix2 (0 : Fin 1) d) := by
  unfold spec8
  pointwise [val_main_v52, val_main_v33, val_main_v30, val_main_v29, val_main_v28, val_main_v19, val_main_v18, val_main_cst_3, val_main_cst_4]
  simp only [refStream, refBack, refRoot, zero_add, Finset.univ_unique, Finset.sum_singleton]
  exact Finset.sum_congr rfl fun k _ => mul_comm _ _

/-- The plain formula of the gradient of the bias. -/
theorem reference9 (hx : ∀ i, ∃ r : ℝ, x i = r) (hb : ∀ i, ∃ r : ℝ, b i = r) (hg : ∀ i, ∃ r : ℝ, g i = r)
    (h1 : ∀ i, ∃ r : ℝ, w1 i = r) (h3 : ∀ i, ∃ r : ℝ, w3 i = r) (hd1 : ∀ i, ∃ r : ℝ, dg1 i = r) (hd3 : ∀ i, ∃ r : ℝ, dg3 i = r) (d : Fin 1024) :
    val_main_v53 (F := Ideal) x b g w1 w3 dh dg1 dg3 (ix2 (0 : Fin 1) d) = spec9 x b g w1 w3 dh dg1 dg3 (ix2 (0 : Fin 1) d) := by
  unfold spec9
  pointwise [val_main_v53, val_main_v51, val_main_v50, val_main_v49, val_main_cst_8, val_main_cst_9]
  simp only [reference7 x b g w1 w3 dh dg1 dg3 hx hb hg h1 h3 hd1 hd3, zero_add, Finset.univ_unique, Finset.sum_singleton]

end Reference

theorem algebraic [Cert.Pre_finite4.Facts] : Cert.algebraic_Kernel4Ideal_Reference4Ideal_pre_finite4 := by
  intro m g m' g' hpre hagree
  refine ⟨fun c => spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => spec8 (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)), fun c => spec9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    (θ_run _ _ _).mono (fun r h c => ⟨(h c).1.trans (final7 m c), (h c).2.1.trans (final8 m c), (h c).2.2.1.trans (final9 m c), (h c).2.2.2⟩) (Cert.Kernel4Ideal.Value.run_blocks m g),
    (θ_run _ _ _).mono (fun r h c => ⟨(h c).1.trans ?_, (h c).2.1.trans ?_, (h c).2.2.1.trans ?_, (h c).2.2.2⟩) (Cert.Reference4Ideal.Value.run m' g')⟩
  · obtain ⟨e0, e1, e2, e3, e4, e5, e6, e7⟩ := hagree c
    rw [Cert.Reference4Ideal.Read.val_main_v48_eq, e0, e1, e2, e3, e4, e5, e6, e7]
    obtain ⟨h0, h1, h2, h3, h4, h5, h6⟩ := hpre c
    exact funext fun j => (congrArg _ (eq_ix2 j)).trans <| (reference7 _ _ _ _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (fun i => Cert.Kit.real_of_bit _ (congrFun h4 i))
      (fun i => Cert.Kit.real_of_bit _ (congrFun h5 i)) (fun i => Cert.Kit.real_of_bit _ (congrFun h6 i)) (j 0) (j 1)).trans (congrArg _ (eq_ix2 j).symm)
  · obtain ⟨e0, e1, e2, e3, e4, e5, e6, e7⟩ := hagree c
    rw [e0, e1, e3, e4, e6, e7]
    exact funext fun j => (congrArg _ ((eq_ix2 j).trans (congrArg (ix2 · (j 1)) (Subsingleton.elim (α := Fin 1) (j 0) 0)))).trans <|
      (reference8 _ _ _ _ _ _ (j 1)).trans rfl
  · obtain ⟨e0, e1, e2, e3, e4, e5, e6, e7⟩ := hagree c
    rw [Cert.Reference4Ideal.Read.val_main_v53_eq, e0, e1, e2, e3, e4, e5, e6, e7]
    obtain ⟨h0, h1, h2, h3, h4, h5, h6⟩ := hpre c
    exact funext fun j => (congrArg _ ((eq_ix2 j).trans (congrArg (ix2 · (j 1)) (Subsingleton.elim (α := Fin 1) (j 0) 0)))).trans <|
      (reference9 _ _ _ _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (fun i => Cert.Kit.real_of_bit _ (congrFun h4 i))
      (fun i => Cert.Kit.real_of_bit _ (congrFun h5 i)) (fun i => Cert.Kit.real_of_bit _ (congrFun h6 i)) (j 1)).trans rfl

end Cert.Kernel4Ideal.Val

end
-- ==== Proof.Val5.lean ====
module

public import proofs.«01_k».proof.Proof.Gen.Kernel5Ideal.Value
public import proofs.«01_k».proof.Proof.Kit

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 8, 0] ∧ win0_1.index t = ![t.val / 8, 1, 0, 0] ∧ win0_2.index t = ![t.val / 8, 1, 0, 0]
    ∧ win0_3.index t = ![t.val / 8, t.val % 8, 0] ∧ win0_4.index t = ![t.val / 8, t.val % 8, 0] ∧ win0_5.index t = ![t.val / 8, t.val % 8, 0] :=
  (by decide +kernel : ∀ t : Fin grid0.N, _)

/-- One entry of the product of the layer's input with layer 1 of a weight: token `t`, hidden unit `k`. -/
def proj (f : FVec Ideal S8192x1024 .f32) (w : FVec Ideal S2x1024x2816 .f32) (t : Fin 8192) (k : Fin 2816) : EReal :=
  ∑ l : Fin 1024, f (ix2 t l) * w (ix3 (1 : Fin 2) l k)

/-- The hidden unit that row band `j 0` has in column `j 2`. -/
def unit (j : S4x8192x704.Idx) : Fin 2816 := ⟨(j 0).val * 704 + (j 2).val, by idx_bounds; omega⟩

def specAct (f : FVec Ideal S8192x1024 .f32) (w1 : FVec Ideal S2x1024x2816 .f32) : FVec Ideal S4x8192x704 .bf16 := fun j =>
  proj f w1 (j 1) (unit j) * Ideal.logistic (proj f w1 (j 1) (unit j))

def specGate (f : FVec Ideal S8192x1024 .f32) (w1 w3 : FVec Ideal S2x1024x2816 .f32) : FVec Ideal S4x8192x704 .bf16 := fun j =>
  proj f w3 (j 1) (unit j) * (Ideal.logistic (proj f w1 (j 1) (unit j)) * (1 + proj f w1 (j 1) (unit j) * (1 - Ideal.logistic (proj f w1 (j 1) (unit j)))))

def specS (f : FVec Ideal S8192x1024 .f32) (w1 w3 : FVec Ideal S2x1024x2816 .f32) : FVec Ideal S4x8192x704 .bf16 := fun j =>
  proj f w1 (j 1) (unit j) * Ideal.logistic (proj f w1 (j 1) (unit j)) * proj f w3 (j 1) (unit j)

theorem finalAct (c : Dev nD) : (dats m 0 c).arrAt 3 cfg0.N
    = specAct (m ((c : Thread nD τ).loc main_arg0)) (m ((c : Thread nD τ).loc main_arg1)) := by
  refine (dats m 0 c).arrAt_eq_of_covers 3 _ (by decide +kernel) fun t hf y => ?_
  blk_simp [idx t]
  rw [after0_3]
  unfold specAct proj unit
  frame_out
  open_payloads
  pointwise
  blk_point [iblk, idx t]

theorem finalGate (c : Dev nD) : (dats m 0 c).arrAt 4 cfg0.N
    = specGate (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  unfold specGate proj unit
  frame_out
  open_payloads
  pointwise
  blk_point [iblk, idx t]

theorem finalS (c : Dev nD) : (dats m 0 c).arrAt 5 cfg0.N
    = specS (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp [idx t]
  rw [after0_5]
  unfold specS proj unit
  frame_out
  open_payloads
  pointwise
  blk_point [iblk, idx t]

end Cert.Kernel5Ideal.Val

end
-- ==== Proof.Claim5.lean ====
module

public import proofs.«01_k».proof.Defs
public import proofs.«01_k».proof.Proof.Val5
public import proofs.«01_k».proof.Proof.Gen.Reference5Ideal.Read

@[expose] public section

set_option maxRecDepth 16384

noncomputable section

namespace Cert.Kernel5Ideal.Val

open Idealize.ShloMosaic Idealize.ShloMosaic.TcCoe Idealize.SL.Sem

open Cert.Reference5Ideal.Read in
/-- The plain formula of the gate's activation, index by index. -/
theorem referenceAct (f : FVec Ideal S8192x1024 .f32) (w1 : FVec Ideal S2x1024x2816 .f32) :
    val_main_v14 (F := Ideal) f w1 = specAct f w1 := by
  funext j
  unfold specAct proj unit
  pointwise [val_main_v14, val_main_v13, val_main_v12, val_main_v9, val_main_v6_0, val_main_v8, val_main_cst, val_main_v6_2, val_main_call0_v4, val_main_call0_cst_0, val_main_call0_v3, val_main_call0_v2, val_main_call0_cst, val_main_call0_v1, val_main_call0_v0, val_main_v2, val_main_v1, val_main_v0]
  simp [Ideal.logistic]

open Cert.Reference5Ideal.Read in
/-- The plain formula of the product that goes into the second weight, index by index. -/
theorem referenceS (f : FVec Ideal S8192x1024 .f32) (w1 w3 : FVec Ideal S2x1024x2816 .f32) :
    val_main_v20 (F := Ideal) f w1 w3 = specS f w1 w3 := by
  funext j
  unfold specS proj unit
  pointwise [val_main_v20, val_main_v19, val_main_v18, val_main_v7, val_main_v6_0, val_main_v6_2, val_main_call0_v4, val_main_call0_cst_0, val_main_call0_v3, val_main_call0_v2, val_main_call0_cst, val_main_call0_v1, val_main_call0_v0, val_main_v2, val_main_v1, val_main_v0, val_main_v5, val_main_v4, val_main_v3]
  simp [Ideal.logistic]

open Cert.Reference5Ideal.Read in
/-- The derivative of the gate by its first input, times the other projection. -/
theorem referenceGate (f : FVec Ideal S8192x1024 .f32) (w1 w3 : FVec Ideal S2x1024x2816 .f32)
    (hf : ∀ i, ∃ r : ℝ, f i = r) (hw : ∀ i, ∃ r : ℝ, w3 i = r) :
    val_main_v17 (F := Ideal) f w1 w3 = specGate f w1 w3 := by
  funext j
  have hg : ∃ r : ℝ, proj f w3 (j 1) (unit j) = r := Cert.Kit.sum_mul_real _ _ (fun _ => hf _) fun _ => hw _
  obtain ⟨g, hg⟩ := hg
  unfold specGate
  rw [hg, Cert.Kit.silu_pull, ← hg]
  unfold proj unit
  pointwise [val_main_v17, val_main_v16, val_main_v15, val_main_v11, val_main_call1_v2, val_main_call1_v1, val_main_call1_v0, val_main_v10, val_main_v8, val_main_cst, val_main_v6_1, val_main_call0_v7, val_main_call0_v6, val_main_call0_cst_1, val_main_v6_2, val_main_call0_v4, val_main_call0_cst_0, val_main_call0_v3, val_main_call0_v2, val_main_call0_cst, val_main_call0_v1, val_main_call0_v0, val_main_v2, val_main_v1, val_main_v0, val_main_v5, val_main_v4, val_main_v3]
  simp [Ideal.logistic]

theorem algebraic [Cert.Pre_finite5.Facts] : Cert.algebraic_Kernel5Ideal_Reference5Ideal_pre_finite5 := by
  intro m g m' g' hpre hagree
  refine ⟨fun c => specAct (m ((c.tc : Thread nD τ).loc main_arg0)) (m ((c.tc : Thread nD τ).loc main_arg1)),
    fun c => specGate (m ((c.tc : Thread nD τ).loc main_arg0)) (m ((c.tc : Thread nD τ).loc main_arg1)) (m ((c.tc : Thread nD τ).loc main_arg2)),
    fun c => specS (m ((c.tc : Thread nD τ).loc main_arg0)) (m ((c.tc : Thread nD τ).loc main_arg1)) (m ((c.tc : Thread nD τ).loc main_arg2)),
    (θ_run _ _ _).mono (fun r h c => ⟨(h c).1.trans (finalAct m c), (h c).2.1.trans (finalGate m c), (h c).2.2.1.trans (finalS m c), (h c).2.2.2⟩) (Cert.Kernel5Ideal.Value.run_blocks m g),
    (θ_run _ _ _).mono (fun r h c => ⟨(h c).1.trans ?_, (h c).2.1.trans ?_, (h c).2.2.1.trans ?_, (h c).2.2.2⟩) (Cert.Reference5Ideal.Value.run m' g')⟩
  all_goals rw [(hagree c).1, (hagree c).2.1]
  · exact referenceAct _ _
  · rw [(hagree c).2.2]
    refine referenceGate _ _ _ (fun i => Cert.Kit.real_of_bit _ ?_) (fun i => Cert.Kit.real_of_bit _ ?_)
    · exact congrFun (hpre c).1 i
    · exact congrFun (hpre c).2 i
  · rw [(hagree c).2.2]
    exact referenceS _ _ _

end Cert.Kernel5Ideal.Val

end
-- ==== Proof.Val6.lean ====
module

public import proofs.«01_k».proof.Proof.Gen.Kernel6Ideal.Value
public import proofs.«01_k».proof.Proof.Kit

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val, 0] ∧ win0_1.index t = ![0, 0, 0, 0] ∧ win0_2.index t = ![t.val, 0] ∧ win0_3.index t = ![t.val, 0] :=
  (by decide +kernel : ∀ t : Fin grid0.N, _)

/-- The residual plus the product, index by index. -/
def spec (s : FVec Ideal S8192x2816 .f32) (w : FVec Ideal S2x2816x1024 .f32) (r : FVec Ideal S8192x1024 .f32) : FVec Ideal S8192x1024 .f32 := fun j =>
  r j + ∑ k : Fin 2816, s (ix2 (j 0) k) * w (ix3 (0 : Fin 2) k (j 1))

theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [idx t]
  rw [after0_3]
  unfold spec
  rw [Cert.Kit.sum_bands]
  frame_out
  unfold k0_pay1
  pointwise
  simp only [← add_assoc]
  blk_point [iblk, idx t]

end Cert.Kernel6Ideal.Val

end
-- ==== Proof.Claim6.lean ====
module

public import proofs.«01_k».proof.Defs
public import proofs.«01_k».proof.Proof.Val6
public import proofs.«01_k».proof.Proof.Gen.Reference6Ideal.Read

@[expose] public section

set_option maxRecDepth 16384

noncomputable section

namespace Cert.Kernel6Ideal.Val

open Idealize.ShloMosaic Idealize.ShloMosaic.TcCoe Idealize.SL.Sem

open Cert.Reference6Ideal in
/-- The plain formula, index by index. -/
theorem reference (s : FVec Ideal Cert.Kernel6Ideal.S8192x2816 .f32) (w : FVec Ideal Cert.Kernel6Ideal.S2x2816x1024 .f32) (r : FVec Ideal Cert.Kernel6Ideal.S8192x1024 .f32) :
    Cert.Reference6Ideal.Read.val_main_v3 (F := Ideal) s w r = spec s w r := by
  funext j
  unfold spec Read.val_main_v3 Read.val_main_v2 Read.val_main_v1 Read.val_main_v0
  pointwise

theorem algebraic : Cert.algebraic_Kernel6Ideal_Reference6Ideal := by
  intro m g m' g' hpre hagree
  refine ⟨fun c => spec (m ((c.tc : Thread nD τ).loc main_arg0)) (m ((c.tc : Thread nD τ).loc main_arg1)) (m ((c.tc : Thread nD τ).loc main_arg2)), (θ_run _ _ _).mono (fun r h c => ⟨(h c).1.trans (final m c), (h c).2⟩) (Cert.Kernel6Ideal.Value.run_blocks m g),
    (θ_run _ _ _).mono (fun r h c => ⟨(h c).1.trans ?_, (h c).2⟩) (Cert.Reference6Ideal.Value.run m' g')⟩
  rw [(hagree c).1, (hagree c).2.1, (hagree c).2.2]
  exact reference _ _ _

end Cert.Kernel6Ideal.Val

end
-- ==== Proof.Val7.lean ====
module

public import proofs.«01_k».proof.Proof.Gen.Kernel7Ideal.Value
public import proofs.«01_k».proof.Proof.Kit

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- What a grid point leaves in the block of output 5. -/
theorem dg1 (c : Dev nD) (t : Fin cfg0.N) (j : S4x256x704.Idx) :
    (outsAt0 m c t.val t.isLt).1 j = (∑ d : Fin 1024, (show FVec Ideal S256x1024 .f32 from iblk m c 0 t) (ix2 (j 1) d) * (show FVec Ideal S4x1x704x1024 .bf16 from iblk m c 1 t) (ix4 (j 0) (0 : Fin 1) (j 2) d)) * (show FVec Ideal S4x256x704 .bf16 from iblk m c 3 t) j := by
  by_cases hA : t.val % 32 = 0
  · rw [outsAt0_A m c t hA]
    frame_open
    simp (disch := decide) only [↓ View.readCov_skip, ↓ View.readCov_cons_toLoadRect, ↓ View.readCov_fill]
    frame_out
    canon_tiles x h
    all_goals (open_payloads; pointwise; blk_point [])
  · rw [outsAt0_B m c t hA]
    frame_open
    simp (disch := decide) only [↓ View.readCov_skip, ↓ View.readCov_cons_toLoadRect, ↓ View.readCov_fill]
    frame_out
    canon_tiles x h
    all_goals (open_payloads; pointwise; blk_point [])

/-- What a grid point leaves in the block of output 6. -/
theorem dg3 (c : Dev nD) (t : Fin cfg0.N) (j : S4x256x704.Idx) :
    (outsAt0 m c t.val t.isLt).2.1 j = (∑ d : Fin 1024, (show FVec Ideal S256x1024 .f32 from iblk m c 0 t) (ix2 (j 1) d) * (show FVec Ideal S4x1x704x1024 .bf16 from iblk m c 1 t) (ix4 (j 0) (0 : Fin 1) (j 2) d)) * (show FVec Ideal S4x256x704 .bf16 from iblk m c 2 t) j := by
  by_cases hA : t.val % 32 = 0
  · rw [outsAt0_A m c t hA]
    frame_open
    simp (disch := decide) only [↓ View.readCov_skip, ↓ View.readCov_cons_toLoadRect, ↓ View.readCov_fill]
    frame_out
    canon_tiles x h
    all_goals (open_payloads; pointwise; blk_point [])
  · rw [outsAt0_B m c t hA]
    frame_open
    simp (disch := decide) only [↓ View.readCov_skip, ↓ View.readCov_cons_toLoadRect, ↓ View.readCov_fill]
    frame_out
    canon_tiles x h
    all_goals (open_payloads; pointwise; blk_point [])

theorem stepA (c : Dev nD) (t : Fin cfg0.N) (hA : t.val % 32 = 0) (j : S4x704x1024.Idx) :
    (outsAt0 m c t.val t.isLt).2.2 j = ∑ k : Fin 256, (show FVec Ideal S4x256x704 .bf16 from iblk m c 4 t) (ix3 (j 0) k (j 1)) * (show FVec Ideal S256x1024 .f32 from iblk m c 0 t) (ix2 k (j 2)) := by
  rw [outsAt0_A m c t hA]
  frame_open
  simp (disch := decide) only [↓ View.readCov_skip, ↓ View.readCov_cons_toLoadRect, ↓ View.readCov_fill]
  frame_out
  refine (Cert.Kit.canon_recent _ [_, _, _, _] j (View.cover_of_tiled_head _ _ _ (by rfl) _)).trans ?_
  canon_tiles x h
  all_goals (open_payloads; pointwise; blk_point [])

theorem stepB (c : Dev nD) (t : Fin cfg0.N) (hB : ¬t.val % 32 = 0) (j : S4x704x1024.Idx) :
    (outsAt0 m c t.val t.isLt).2.2 j = (outsAt0 m c (t.val - 1) (Nat.lt_of_le_of_lt (Nat.sub_le _ _) t.isLt)).2.2 j
      + ∑ k : Fin 256, (show FVec Ideal S4x256x704 .bf16 from iblk m c 4 t) (ix3 (j 0) k (j 1)) * (show FVec Ideal S256x1024 .f32 from iblk m c 0 t) (ix2 k (j 2)) := by
  rw [outsAt0_B m c t hB]
  frame_open
  simp (disch := decide) only [↓ View.readCov_skip, ↓ View.readCov_cons_toLoadRect, ↓ View.readCov_fill]
  frame_out
  canon_tiles x h
  all_goals (open_payloads; pointwise; blk_point [])

end Cert.Kernel7Ideal.Val

end
-- ==== Proof.Val7b.lean ====
module

public import proofs.«01_k».proof.Proof.Val7

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0, 0, 0] ∧ win0_2.index t = ![0, t.val, 0] ∧ win0_3.index t = ![0, t.val, 0]
    ∧ win0_4.index t = ![0, t.val, 0] ∧ win0_5.index t = ![0, t.val, 0] ∧ win0_6.index t = ![0, t.val, 0] :=
  (by decide +kernel : ∀ t : Fin grid0.N, _)

/-- The gradient that comes back through layer 0 of the weight: token `t`, hidden unit `k`. -/
def back (w : FVec Ideal S2x2816x1024 .f32) (ct : FVec Ideal S8192x1024 .f32) (t : Fin 8192) (k : Fin 2816) : EReal :=
  ∑ d : Fin 1024, ct (ix2 t d) * w (ix3 (0 : Fin 2) k d)

/-- The hidden unit that row band `j 0` has in column `j 2`. -/
def unit (j : S4x8192x704.Idx) : Fin 2816 := ⟨(j 0).val * 704 + (j 2).val, by idx_bounds; omega⟩

/-- The gate. -/
def gate (g1 : FVec Ideal S8192x2816 .f32) : FVec Ideal S4x8192x704 .bf16 := fun j => g1 (ix2 (j 1) (unit j)) * Ideal.logistic (g1 (ix2 (j 1) (unit j)))

/-- The gated branch. -/
def gated (g1 g3 : FVec Ideal S8192x2816 .f32) : FVec Ideal S4x8192x704 .bf16 := fun j => g1 (ix2 (j 1) (unit j)) * Ideal.logistic (g1 (ix2 (j 1) (unit j))) * g3 (ix2 (j 1) (unit j))

/-- The derivative of the gated branch in the first branch. -/
def slope (g1 g3 : FVec Ideal S8192x2816 .f32) : FVec Ideal S4x8192x704 .bf16 := fun j =>
  g3 (ix2 (j 1) (unit j)) * (Ideal.logistic (g1 (ix2 (j 1) (unit j))) * (1 + g1 (ix2 (j 1) (unit j)) * (1 - Ideal.logistic (g1 (ix2 (j 1) (unit j))))))

def specDg1 (g1 g3 : FVec Ideal S8192x2816 .f32) (w : FVec Ideal S2x2816x1024 .f32) (ct : FVec Ideal S8192x1024 .f32) : FVec Ideal S4x8192x704 .bf16 := fun j =>
  back w ct (j 1) (unit j) * slope g1 g3 j

def specDg3 (g1 : FVec Ideal S8192x2816 .f32) (w : FVec Ideal S2x2816x1024 .f32) (ct : FVec Ideal S8192x1024 .f32) : FVec Ideal S4x8192x704 .bf16 := fun j =>
  back w ct (j 1) (unit j) * gate g1 j

def specDw (g1 g3 : FVec Ideal S8192x2816 .f32) (ct : FVec Ideal S8192x1024 .f32) : FVec Ideal S4x704x1024 .f32 := fun j =>
  ∑ k : Fin 8192, gated g1 g3 (ix3 (j 0) k (j 1)) * ct (ix2 k (j 2))

theorem entrySlope (c : Dev nD) : V m c main_v22 = slope (m ((c : Thread nD τ).loc main_arg0)) (m ((c : Thread nD τ).loc main_arg1)) := by
  funext j
  unfold slope unit
  entry_read
  pointwise
  simp [Ideal.logistic]

theorem entryGate (c : Dev nD) : V m c main_v18 = gate (m ((c : Thread nD τ).loc main_arg0)) := by
  funext j
  unfold gate unit
  entry_read
  pointwise
  simp [Ideal.logistic]

theorem entryGated (c : Dev nD) : V m c main_v26 = gated (m ((c : Thread nD τ).loc main_arg0)) (m ((c : Thread nD τ).loc main_arg1)) := by
  funext j
  unfold gated unit
  entry_read
  pointwise
  simp [Ideal.logistic]

theorem finalDg1 (c : Dev nD) : (dats m 0 c).arrAt 5 cfg0.N
    = specDg1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5, dg1 m c t]
  blk_simp [iblk, idx t]
  rw [entrySlope m c]
  unfold specDg1 slope back unit
  blk_point [idx t]

theorem finalDg3 (c : Dev nD) : (dats m 0 c).arrAt 6 cfg0.N
    = specDg3 (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp [idx t]
  rw [after0_6, dg3 m c t]
  blk_simp [iblk, idx t]
  rw [entryGate m c]
  unfold specDg3 gate back unit
  blk_point [idx t]

/-- The last grid point. -/
def last : Fin cfg0.N := ⟨31, by rw [show cfg0.N = 32 from N_0]; decide⟩

theorem finalDw (c : Dev nD) : (dats m 0 c).arrAt 7 cfg0.N
    = specDw (m ((c : Thread nD τ).loc main_arg0)) (m ((c : Thread nD τ).loc main_arg1)) (m ((c : Thread nD τ).loc main_arg3)) := by
  refine (dats m 0 c).arrAt_eq_of_after_last 7 last (by decide +kernel) _ fun j => ?_
  blk_simp
  rw [after0_7, Pipeline.eq_sum_fin_of_reset_step_apply_last (fun n h => (outsAt0 m c n h).2.2) 32 (fun _ => 0) _
    (fun t h j => by rw [stepA m c t h]; exact (zero_add _).symm) (fun t h j => by rw [stepB m c t h]) (le_of_eq N_0) last rfl j, zero_add]
  unfold specDw
  refine Fin.sum_mul_add_congr (fun t k hl => ?_) (by have := N_0; change cfg0.N = 32 at this; rw [this])
  blk_simp [iblk, idx t]
  rw [entryGated m c]
  unfold gated unit
  blk_point [idx t]

end Cert.Kernel7Ideal.Val

end
-- ==== Proof.Claim7.lean ====
module

public import proofs.«01_k».proof.Defs
public import proofs.«01_k».proof.Proof.Kit
public import proofs.«01_k».proof.Proof.Val7b
public import proofs.«01_k».proof.Proof.Gen.Reference7Ideal.Read

@[expose] public section

set_option maxRecDepth 16384

noncomputable section

namespace Cert.Kernel7Ideal.Val

open Idealize.ShloMosaic Idealize.ShloMosaic.TcCoe Idealize.SL.Sem

open Cert.Reference7Ideal.Read in
/-- The plain derivative in the second branch, index by index. -/
theorem referenceDg3 (g1 : FVec Ideal S8192x2816 .f32) (w : FVec Ideal S2x2816x1024 .f32) (ct : FVec Ideal S8192x1024 .f32) :
    val_main_v16 (F := Ideal) g1 w ct = specDg3 g1 w ct := by
  funext j
  unfold specDg3 gate back unit
  pointwise [val_main_v16, val_main_v15, val_main_v14, val_main_v8, val_main_v7, val_main_v2_0, val_main_v2_1, val_main_v2_2, val_main_call0_v4, val_main_call0_cst_0, val_main_call0_v3, val_main_call0_v2, val_main_call0_cst, val_main_call0_v1, val_main_call0_v0, val_main_v1, val_main_v0]
  simp only [Ideal.logistic]
  exact mul_comm _ _

open Cert.Reference7Ideal.Read in
/-- The plain derivative in the weight, index by index. -/
theorem referenceDw (g1 g3 : FVec Ideal S8192x2816 .f32) (ct : FVec Ideal S8192x1024 .f32) :
    val_main_v17 (F := Ideal) g1 g3 ct = specDw g1 g3 ct := by
  funext j
  unfold specDw gated unit
  pointwise [val_main_v17, val_main_v6, val_main_v5, val_main_v3, val_main_v2_0, val_main_v2_1, val_main_v2_2, val_main_call0_v4, val_main_call0_cst_0, val_main_call0_v3, val_main_call0_v2, val_main_call0_cst, val_main_call0_v1, val_main_call0_v0]
  refine Finset.sum_congr rfl fun k _ => (mul_comm _ _).trans ?_
  simp only [Ideal.logistic]

open Cert.Reference7Ideal.Read in
/-- The plain derivative in the first branch, index by index. -/
theorem referenceDg1 (g1 g3 : FVec Ideal S8192x2816 .f32) (w : FVec Ideal S2x2816x1024 .f32) (ct : FVec Ideal S8192x1024 .f32)
    (h3 : ∀ i, ∃ r : ℝ, g3 i = r) (hw : ∀ i, ∃ r : ℝ, w i = r) (hc : ∀ i, ∃ r : ℝ, ct i = r) :
    val_main_v13 (F := Ideal) g1 g3 w ct = specDg1 g1 g3 w ct := by
  funext j
  have hb : ∃ r : ℝ, back w ct (j 1) (unit j) = r := Cert.Kit.sum_mul_real _ _ (fun _ => hc _) fun _ => hw _
  have hg : ∃ r : ℝ, back w ct (j 1) (unit j) * g3 (ix2 (j 1) (unit j)) = r := by
    obtain ⟨b, hb⟩ := hb
    obtain ⟨g, hg⟩ := h3 (ix2 (j 1) (unit j))
    exact ⟨b * g, by rw [hb, hg, EReal.coe_mul]⟩
  obtain ⟨g, hg⟩ := hg
  unfold specDg1 slope
  rw [← mul_assoc, hg, Cert.Kit.silu_pull, ← hg]
  unfold back unit
  pointwise [val_main_v13, val_main_v12, val_main_v11, val_main_v10, val_main_v9, val_main_call1_v2, val_main_call1_v1, val_main_call1_v0, val_main_v7, val_main_v2_0, val_main_v2_1, val_main_v2_2, val_main_call0_v7, val_main_call0_v6, val_main_call0_cst_1, val_main_call0_v4, val_main_call0_cst_0, val_main_call0_v3, val_main_call0_v2, val_main_call0_cst, val_main_call0_v1, val_main_call0_v0, val_main_v1, val_main_v0]
  simp [Ideal.logistic]

theorem algebraic [Cert.Pre_finite7.Facts] : Cert.algebraic_Kernel7Ideal_Reference7Ideal_pre_finite7 := by
  intro m g m' g' hpre hagree
  refine ⟨fun c => specDg1 (m ((c.tc : Thread nD τ).loc main_arg0)) (m ((c.tc : Thread nD τ).loc main_arg1)) (m ((c.tc : Thread nD τ).loc main_arg2)) (m ((c.tc : Thread nD τ).loc main_arg3)),
    fun c => specDg3 (m ((c.tc : Thread nD τ).loc main_arg0)) (m ((c.tc : Thread nD τ).loc main_arg2)) (m ((c.tc : Thread nD τ).loc main_arg3)),
    fun c => specDw (m ((c.tc : Thread nD τ).loc main_arg0)) (m ((c.tc : Thread nD τ).loc main_arg1)) (m ((c.tc : Thread nD τ).loc main_arg3)),
    (θ_run _ _ _).mono (fun r h c => ⟨(h c).1.trans (finalDg1 m c), (h c).2.1.trans (finalDg3 m c), (h c).2.2.1.trans (finalDw m c), (h c).2.2.2⟩) (Cert.Kernel7Ideal.Value.run_blocks m g),
    (θ_run _ _ _).mono (fun r h c => ⟨(h c).1.trans ?_, (h c).2.1.trans ?_, (h c).2.2.1.trans ?_, (h c).2.2.2⟩) (Cert.Reference7Ideal.Value.run m' g')⟩
  all_goals rw [(hagree c).1, (hagree c).2.2.2]
  · rw [(hagree c).2.1, (hagree c).2.2.1]
    refine referenceDg1 _ _ _ _ (fun i => Cert.Kit.real_of_bit _ ?_) (fun i => Cert.Kit.real_of_bit _ ?_) (fun i => Cert.Kit.real_of_bit _ ?_)
    · exact congrFun (hpre c).1 i
    · exact congrFun (hpre c).2.1 i
    · exact congrFun (hpre c).2.2 i
  · rw [(hagree c).2.2.1]
    exact referenceDg3 _ _ _
  · rw [(hagree c).2.1]
    exact referenceDw _ _ _

end Cert.Kernel7Ideal.Val

end
-- ==== Proof.Val8.lean ====
module

public import proofs.«01_k».proof.Proof.Gen.Kernel8Ideal.Value
public import proofs.«01_k».proof.Proof.Norm

@[expose] public section

set_option maxRecDepth 16384

noncomputable section

namespace Cert.Kernel8Ideal.Val

open Cert.Kernel8Ideal Cert.Kernel8Ideal.Gen Idealize.ShloMosaic Idealize.ShloMosaic.TcCoe Idealize.SL.Sem
open Idealize.ShloMosaic.Pipeline (Dat)
open Cert.Kit (rstd pulled bands)

variable (m : (ℓ : Loc nD τ sig) → Buf (Elt Ideal) ℓ)

/-- Row `i` of a block of the hidden layer, band by band. -/
def hid (y : FVec Ideal S4x512x704 .bf16) (i : Fin 512) : Fin 4 → Fin 704 → EReal := fun s k => y (ix3 s i k)

/-- Column `d` of the staged weight, band by band. -/
def col (w : FVec Ideal S4x1x704x1024 .bf16) (d : Fin 1024) : Fin 4 → Fin 704 → EReal := fun s k => w (ix4 s (0 : Fin 1) k d)

theorem out7At (c : Dev nD) (t : Fin cfg0.N) (a : Fin 512) (b : Fin 1024) :
    (outsAt0 m c t.val t.isLt).1 (ix2 a b) = pulled (fun d => bands (hid (show FVec Ideal S4x512x704 .bf16 from iblk m c 0 t) a) (hid (show FVec Ideal S4x512x704 .bf16 from iblk m c 1 t) a) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 a d)) ((show FVec Ideal S512x1024 .f32 from iblk m c 6 t) (ix2 a b)) b := by
  by_cases hA : t.val % 16 = 0
  · rw [outsAt0_A m c t hA]
    frame_open
    simp (disch := decide) only [↓ View.readCov_skip, ↓ View.readCov_cons_toLoadRect, ↓ View.readCov_fill]
    frame_out
    open_payloads
    pointwise
    unfold pulled bands rstd hid col
    blk_point []
  · rw [outsAt0_B m c t hA]
    frame_open
    simp (disch := decide) only [↓ View.readCov_skip, ↓ View.readCov_cons_toLoadRect, ↓ View.readCov_fill]
    frame_out
    open_payloads
    pointwise
    unfold pulled bands rstd hid col
    blk_point []

/-- What a grid point leaves in the block of the first result. -/
theorem out7 (c : Dev nD) (t : Fin cfg0.N) (j : S512x1024.Idx) :
    (outsAt0 m c t.val t.isLt).1 j = pulled (fun d => bands (hid (show FVec Ideal S4x512x704 .bf16 from iblk m c 0 t) (j 0)) (hid (show FVec Ideal S4x512x704 .bf16 from iblk m c 1 t) (j 0)) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 (j 0) d)) ((show FVec Ideal S512x1024 .f32 from iblk m c 6 t) (ix2 (j 0) (j 1))) (j 1) :=
  (congrArg _ (eq_ix2 j)).trans (out7At m c t (j 0) (j 1))

theorem step8A (c : Dev nD) (t : Fin cfg0.N) (h : t.val % 16 = 0) (j : S1x1024.Idx) :
    (outsAt0 m c t.val t.isLt).2.1 j = ∑ i : Fin 512, bands (hid (show FVec Ideal S4x512x704 .bf16 from iblk m c 0 t) i) (hid (show FVec Ideal S4x512x704 .bf16 from iblk m c 1 t) i) (col (show FVec Ideal S4x1x704x1024 .bf16 from iblk m c 2 t) (j 1)) (col (show FVec Ideal S4x1x704x1024 .bf16 from iblk m c 3 t) (j 1)) * ((show FVec Ideal S512x1024 .f32 from iblk m c 4 t) (ix2 i (j 1)) * rstd (fun d => (show FVec Ideal S512x1024 .f32 from iblk m c 4 t) (ix2 i d))) := by
  rw [outsAt0_A m c t h]
  frame_open
  simp (disch := decide) only [↓ View.readCov_skip, ↓ View.readCov_cons_toLoadRect, ↓ View.readCov_fill]
  frame_out
  open_payloads
  pointwise
  unfold bands rstd hid col
  blk_point []

theorem step8B (c : Dev nD) (t : Fin cfg0.N) (h : ¬t.val % 16 = 0) (j : S1x1024.Idx) :
    (outsAt0 m c t.val t.isLt).2.1 j = (outsAt0 m c (t.val - 1) (Nat.lt_of_le_of_lt (Nat.sub_le _ _) t.isLt)).2.1 j
      + ∑ i : Fin 512, bands (hid (show FVec Ideal S4x512x704 .bf16 from iblk m c 0 t) i) (hid (show FVec Ideal S4x512x704 .bf16 from iblk m c 1 t) i) (col (show FVec Ideal S4x1x704x1024 .bf16 from iblk m c 2 t) (j 1)) (col (show FVec Ideal S4x1x704x1024 .bf16 from iblk m c 3 t) (j 1)) * ((show FVec Ideal S512x1024 .f32 from iblk m c 4 t) (ix2 i (j 1)) * rstd (fun d => (show FVec Ideal S512x1024 .f32 from iblk m c 4 t) (ix2 i d))) := by
  rw [outsAt0_B m c t h]
  frame_open
  simp (disch := decide) only [↓ View.readCov_skip, ↓ View.readCov_cons_toLoadRect, ↓ View.readCov_fill]
  frame_out
  open_payloads
  pointwise
  unfold bands rstd hid col
  blk_point []

theorem step9A (c : Dev nD) (t : Fin cfg0.N) (h : t.val % 16 = 0) (j : S1x1024.Idx) :
    (outsAt0 m c t.val t.isLt).2.2 j = ∑ i : Fin 512, pulled (fun d => bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 i d)) ((show FVec Ideal S512x1024 .f32 from iblk m c 6 t) (ix2 i (j 1))) (j 1) := by
  rw [outsAt0_A m c t h]
  frame_open
  simp (disch := decide) only [↓ View.readCov_skip, ↓ View.readCov_cons_toLoadRect, ↓ View.readCov_fill]
  frame_out
  open_payloads
  pointwise
  unfold pulled bands rstd hid col
  blk_point []

theorem step9B (c : Dev nD) (t : Fin cfg0.N) (h : ¬t.val % 16 = 0) (j : S1x1024.Idx) :
    (outsAt0 m c t.val t.isLt).2.2 j = (outsAt0 m c (t.val - 1) (Nat.lt_of_le_of_lt (Nat.sub_le _ _) t.isLt)).2.2 j
      + ∑ i : Fin 512, pulled (fun d => bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 i d)) ((show FVec Ideal S512x1024 .f32 from iblk m c 6 t) (ix2 i (j 1))) (j 1) := by
  rw [outsAt0_B m c t h]
  frame_open
  simp (disch := decide) only [↓ View.readCov_skip, ↓ View.readCov_cons_toLoadRect, ↓ View.readCov_fill]
  frame_out
  open_payloads
  pointwise
  unfold pulled bands rstd hid col
  blk_point []

end Cert.Kernel8Ideal.Val

end
-- ==== Proof.Val8b.lean ====
module

public import proofs.«01_k».proof.Proof.Val8

@[expose] public section

set_option maxRecDepth 16384

noncomputable section

namespace Cert.Kernel8Ideal.Val

open Cert.Kernel8Ideal Cert.Kernel8Ideal.Gen Idealize.ShloMosaic Idealize.ShloMosaic.TcCoe Idealize.SL.Sem
open Idealize.ShloMosaic.Pipeline (Dat)
open Cert.Kit (rstd pulled bands)

variable (m : (ℓ : Loc nD τ sig) → Buf (Elt Ideal) ℓ)

theorem idx : ∀ t : Fin cfg0.N, win0_0.index t = ![0, t.val, 0] ∧ win0_1.index t = ![0, t.val, 0] ∧ win0_2.index t = ![0, 0, 0, 0] ∧ win0_3.index t = ![0, 0, 0, 0]
    ∧ win0_4.index t = ![t.val, 0] ∧ win0_5.index t = ![0, 0] ∧ win0_6.index t = ![t.val, 0] ∧ win0_7.index t = ![t.val, 0] :=
  (by decide +kernel : ∀ t : Fin grid0.N, _)

/-- What enters the norm: the residual stream with the bias added. -/
def stream (x : FVec Ideal S8192x1024 .f32) (b : FVec Ideal S1024 .f32) : FVec Ideal S8192x1024 .f32 := fun j => x j + b (ix1 (j 1))

/-- Row `i` of the hidden layer, band by band. -/
def row (y : FVec Ideal S8192x2816 .f32) (i : Fin 8192) : Fin 4 → Fin 704 → EReal := fun s k => y (ix2 i ⟨s.val * 704 + k.val, by omega⟩)

/-- Row `d` of layer 0 of a weight, band by band. -/
def weight (w : FVec Ideal S2x1024x2816 .f32) (d : Fin 1024) : Fin 4 → Fin 704 → EReal := fun s k => w (ix3 (0 : Fin 2) d ⟨s.val * 704 + k.val, by omega⟩)

/-- What comes back through the two products, token `i`, feature `d`. -/
def back (w1 w3 : FVec Ideal S2x1024x2816 .f32) (dg1 dg3 : FVec Ideal S8192x2816 .f32) (i : Fin 8192) (d : Fin 1024) : EReal :=
  bands (row dg1 i) (row dg3 i) (weight w1 d) (weight w3 d)

def spec7 (x : FVec Ideal S8192x1024 .f32) (b g : FVec Ideal S1024 .f32) (w1 w3 : FVec Ideal S2x1024x2816 .f32) (dh : FVec Ideal S8192x1024 .f32) (dg1 dg3 : FVec Ideal S8192x2816 .f32) : FVec Ideal S8192x1024 .f32 := fun j =>
  pulled (fun d => back w1 w3 dg1 dg3 (j 0) d) (fun d => g (ix1 d)) (fun d => stream x b (ix2 (j 0) d)) (dh (ix2 (j 0) (j 1))) (j 1)

def spec8 (x : FVec Ideal S8192x1024 .f32) (b : FVec Ideal S1024 .f32) (w1 w3 : FVec Ideal S2x1024x2816 .f32) (dg1 dg3 : FVec Ideal S8192x2816 .f32) : FVec Ideal S1x1024 .f32 := fun j =>
  ∑ i : Fin 8192, back w1 w3 dg1 dg3 i (j 1) * (stream x b (ix2 i (j 1)) * rstd (fun d => stream x b (ix2 i d)))

def spec9 (x : FVec Ideal S8192x1024 .f32) (b g : FVec Ideal S1024 .f32) (w1 w3 : FVec Ideal S2x1024x2816 .f32) (dh : FVec Ideal S8192x1024 .f32) (dg1 dg3 : FVec Ideal S8192x2816 .f32) : FVec Ideal S1x1024 .f32 := fun j => ∑ i : Fin 8192, spec7 x b g w1 w3 dh dg1 dg3 (ix2 i (j 1))

theorem entryStream (c : Dev nD) : V m c main_v16 = stream (m ((c : Thread nD τ).loc main_arg0)) (m ((c : Thread nD τ).loc main_arg1)) := by
  funext j
  unfold stream
  entry_read
  pointwise

/-- The token that row `i` of block `t` is. -/
def tok (t : Fin cfg0.N) (i : Fin 512) : Fin 8192 := ⟨t.val * 512 + i.val, by have := t.isLt; have : cfg0.N = 16 := N_0; omega⟩

theorem readHid0 (c : Dev nD) (t : Fin cfg0.N) (i : Fin 512) :
    hid (show FVec Ideal S4x512x704 .bf16 from iblk m c 0 t) i = row (m ((c : Thread nD τ).loc main_arg6)) (tok t i) := by
  funext s k
  unfold hid row tok
  blk_point [iblk, idx t]

theorem readHid1 (c : Dev nD) (t : Fin cfg0.N) (i : Fin 512) :
    hid (show FVec Ideal S4x512x704 .bf16 from iblk m c 1 t) i = row (m ((c : Thread nD τ).loc main_arg7)) (tok t i) := by
  funext s k
  unfold hid row tok
  blk_point [iblk, idx t]

theorem readCol0 (c : Dev nD) (t : Fin cfg0.N) (d : Fin 1024) :
    col (show FVec Ideal S4x1x704x1024 .bf16 from iblk m c 2 t) d = weight (m ((c : Thread nD τ).loc main_arg3)) d := by
  funext s k
  unfold col weight
  blk_point [iblk, idx t]

theorem readCol1 (c : Dev nD) (t : Fin cfg0.N) (d : Fin 1024) :
    col (show FVec Ideal S4x1x704x1024 .bf16 from iblk m c 3 t) d = weight (m ((c : Thread nD τ).loc main_arg4)) d := by
  funext s k
  unfold col weight
  blk_point [iblk, idx t]

theorem readStream (c : Dev nD) (t : Fin cfg0.N) (i : Fin 512) (d : Fin 1024) :
    (show FVec Ideal S512x1024 .f32 from iblk m c 4 t) (ix2 i d) = stream (m ((c : Thread nD τ).loc main_arg0)) (m ((c : Thread nD τ).loc main_arg1)) (ix2 (tok t i) d) := by
  unfold tok
  blk_simp [iblk, idx t]
  rw [entryStream m c]
  blk_point [idx t]

theorem readG (c : Dev nD) (t : Fin cfg0.N) (d : Fin 1024) :
    (show FVec Ideal S1x1024 .f32 from iblk m c 5 t) (ix2 (0 : Fin 1) d) = m ((c : Thread nD τ).loc main_arg2) (ix1 d) := by
  blk_point [iblk, idx t]

theorem readDh (c : Dev nD) (t : Fin cfg0.N) (i : Fin 512) (d : Fin 1024) :
    (show FVec Ideal S512x1024 .f32 from iblk m c 6 t) (ix2 i d) = m ((c : Thread nD τ).loc main_arg5) (ix2 (tok t i) d) := by
  unfold tok
  blk_point [iblk, idx t]

theorem readOut (c : Dev nD) (t : Fin cfg0.N) (i : Fin 512) (d : Fin 1024) :
    pulled (fun d => bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d)) (fun d => (show FVec Ideal S1x1024 .f32 from iblk m c 5 t) (ix2 (0 : Fin 1) d)) (fun d => (show FVec Ideal S512x1024 .f32 from iblk m c 4 t) (ix2 i d)) ((show FVec Ideal S512x1024 .f32 from iblk m c 6 t) (ix2 i d)) d = spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t i) d) := by
  simp only [readHid0, readHid1, readCol0, readCol1, readStream, readG, readDh]
  rfl

theorem readDg (c : Dev nD) (t : Fin cfg0.N) (i : Fin 512) (d : Fin 1024) :
    bands (hid (show FVec Ideal S4x512x704 .bf16 from iblk m c 0 t) i) (hid (show FVec Ideal S4x512x704 .bf16 from iblk m c 1 t) i) (col (show FVec Ideal S4x1x704x1024 .bf16 from iblk m c 2 t) d) (col (show FVec Ideal S4x1x704x1024 .bf16 from iblk m c 3 t) d) * ((show FVec Ideal S512x1024 .f32 from iblk m c 4 t) (ix2 i d) * rstd (fun d => (show FVec Ideal S512x1024 .f32 from iblk m c 4 t) (ix2 i d))) = back (m ((c : Thread nD τ).loc main_arg3)) (m ((c : Thread nD τ).loc main_arg4)) (m ((c : Thread nD τ).loc main_arg6)) (m ((c : Thread nD τ).loc main_arg7)) (tok t i) d * (stream (m ((c : Thread nD τ).loc main_arg0)) (m ((c : Thread nD τ).loc main_arg1)) (ix2 (tok t i) d) * rstd (fun d => stream (m ((c : Thread nD τ).loc main_arg0)) (m ((c : Thread nD τ).loc main_arg1)) (ix2 (tok t i) d))) := by
  simp only [readHid0, readHid1, readCol0, readCol1, readStream]
  rfl

theorem place (t : Fin cfg0.N) (y : S512x1024.Idx) : (win0_7.blk t).view.emb y = ix2 (tok t (y 0)) (y 1) := by
  unfold tok
  blk_ext [idx t]

theorem final7 (c : Dev nD) : (dats m 0 c).arrAt 7 cfg0.N = spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t hf y => ?_
  blk_simp
  rw [after0_7, out7 m c t]
  exact (readOut m c t (y 0) (y 1)).trans (congrArg (spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (place t y).symm)

theorem final8 (c : Dev nD) : (dats m 0 c).arrAt 8 cfg0.N = spec8 (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0) _
    (fun t h j => by rw [step8A m c t h]; exact (zero_add _).symm) (fun t h j => by rw [step8B m c t h]) (le_of_eq N_0) t0_15 rfl j, zero_add]
  unfold spec8
  refine Fin.sum_mul_add_congr (fun t k hl => ?_) (by have := N_0; change cfg0.N = 16 at this; rw [this])
  exact readDg m c t k (j 1)

theorem final9 (c : Dev nD) : (dats m 0 c).arrAt 9 cfg0.N = spec9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => by rw [step9A m c t h]; exact (zero_add _).symm) (fun t h j => by rw [step9B m c t h]) (le_of_eq N_0) t0_15 rfl j, zero_add]
  unfold spec9
  refine Fin.sum_mul_add_congr (fun t k hl => ?_) (by have := N_0; change cfg0.N = 16 at this; rw [this])
  exact readOut m c t k (j 1)

end Cert.Kernel8Ideal.Val

end
-- ==== Proof.Claim8.lean ====
module

public import proofs.«01_k».proof.Defs
public import proofs.«01_k».proof.Proof.Kit
public import proofs.«01_k».proof.Proof.Val8b
public import proofs.«01_k».proof.Proof.Gen.Reference8Ideal.Read

@[expose] public section

set_option maxRecDepth 16384

noncomputable section

namespace Cert.Kernel8Ideal.Val

open Idealize.ShloMosaic Idealize.ShloMosaic.TcCoe Idealize.SL.Sem
open Cert.Kit (rstd pulled bands)
open Cert.Reference8Ideal.Read

section Reference

variable (x : FVec Ideal S8192x1024 .f32) (b g : FVec Ideal S1024 .f32) (w1 w3 : FVec Ideal S2x1024x2816 .f32)
  (dh : FVec Ideal S8192x1024 .f32) (dg1 dg3 : FVec Ideal S8192x2816 .f32)

theorem refStream (i : Fin 8192) (d : Fin 1024) : val_main_v6 (F := Ideal) x b (ix2 i d) = stream x b (ix2 i d) := by
  unfold stream
  pointwise [val_main_v6, val_main_v5, val_main_v4]

theorem refBack (i : Fin 8192) (d : Fin 1024) : val_main_v27 (F := Ideal) w1 w3 dg1 dg3 (ix2 i d) = back w1 w3 dg1 dg3 i d := by
  pointwise [val_main_v27, val_main_v26, val_main_v25, val_main_v3, val_main_v2, val_main_v1, val_main_v0]
  rw [Cert.Kit.sum_bands, Cert.Kit.sum_bands, add_comm]
  unfold back bands row weight
  simp only [← add_assoc]
  pointwise

theorem refRoot (i : Fin 8192) (k : Fin 1) : val_main_v14 (F := Ideal) x b (ix2 i k) = rstd (fun d => stream x b (ix2 i d)) := by
  unfold rstd
  pointwise [val_main_v14, val_main_v13, val_main_v12, val_main_v11, val_main_v10, val_main_v9, val_main_v8, val_main_v7, val_main_cst, val_main_cst_0, val_main_cst_1]
  simp only [refStream, zero_add]

theorem refScaled (i : Fin 8192) (d : Fin 1024) :
    val_main_v32 (F := Ideal) g w1 w3 dg1 dg3 (ix2 i d) = back w1 w3 dg1 dg3 i d * g (ix1 d) := by
  pointwise [val_main_v32, val_main_v31, val_main_v20]
  rw [refBack]

/-- What the mean of squares sends back to each entry of row `i`, without the entry itself. -/
theorem refMean (i : Fin 8192) (d : Fin 1024) :
    val_main_v44 (F := Ideal) x b g w1 w3 dg1 dg3 (ix2 i d)
      = Ideal.div ((∑ k : Fin 1024, stream x b (ix2 i k) * (back w1 w3 dg1 dg3 i k * g (ix1 k))) * (Ideal.ofBits FTy.f32 3204448256#32
        * Ideal.div (rstd (fun d => stream x b (ix2 i d))) (Ideal.div (∑ k : Fin 1024, stream x b (ix2 i k) * stream x b (ix2 i k)) (Ideal.ofBits FTy.f32 1149239296#32)
          + Ideal.ofBits FTy.f32 925353388#32))) (Ideal.ofBits FTy.f32 1149239296#32) := by
  pointwise [val_main_v44, val_main_v43, val_main_v42, val_main_v41, val_main_v40, val_main_v36, val_main_v35, val_main_v34, val_main_v17, val_main_v16, val_main_v15,
    val_main_v13, val_main_v12, val_main_v11, val_main_v10, val_main_v9, val_main_v8, val_main_v7, val_main_cst, val_main_cst_0, val_main_cst_1, val_main_cst_2, val_main_cst_5,
    val_main_cst_6, val_main_cst_7]
  simp only [refStream, refScaled, refRoot, zero_add, Finset.univ_unique, Finset.sum_singleton]

theorem streamReal (hx : ∀ i, ∃ r : ℝ, x i = r) (hb : ∀ i, ∃ r : ℝ, b i = r) (j : S8192x1024.Idx) : ∃ r : ℝ, stream x b j = r := by
  obtain ⟨p, hp⟩ := hx j
  obtain ⟨q, hq⟩ := hb (ix1 (j 1))
  exact ⟨p + q, by unfold stream; rw [hp, hq, EReal.coe_add]⟩

theorem backReal (h1 : ∀ i, ∃ r : ℝ, w1 i = r) (h3 : ∀ i, ∃ r : ℝ, w3 i = r) (hd1 : ∀ i, ∃ r : ℝ, dg1 i = r) (hd3 : ∀ i, ∃ r : ℝ, dg3 i = r)
    (i : Fin 8192) (d : Fin 1024) : ∃ r : ℝ, back w1 w3 dg1 dg3 i d = r := by
  unfold back
  exact Cert.Kit.bands_real _ _ _ _ (fun _ _ => hd1 _) (fun _ _ => hd3 _) (fun _ _ => h1 _) fun _ _ => h3 _

/-- The plain formula of the input gradient, token by token. -/
theorem reference7 (hx : ∀ i, ∃ r : ℝ, x i = r) (hb : ∀ i, ∃ r : ℝ, b i = r) (hg : ∀ i, ∃ r : ℝ, g i = r)
    (h1 : ∀ i, ∃ r : ℝ, w1 i = r) (h3 : ∀ i, ∃ r : ℝ, w3 i = r) (hd1 : ∀ i, ∃ r : ℝ, dg1 i = r) (hd3 : ∀ i, ∃ r : ℝ, dg3 i = r)
    (i : Fin 8192) (d : Fin 1024) :
    val_main_v48 (F := Ideal) x b g w1 w3 dh dg1 dg3 (ix2 i d) = spec7 x b g w1 w3 dh dg1 dg3 (ix2 i d) := by
  show _ = pulled (back w1 w3 dg1 dg3 i) (fun k => g (ix1 k)) (fun k => stream x b (ix2 i k)) (dh (ix2 i d)) d
  rw [Cert.Kit.pull_norm _ _ _ _ _ (fun k => backReal w1 w3 dg1 dg3 h1 h3 hd1 hd3 i k) (fun k => hg _) fun k => streamReal x b hx hb _]
  pointwise [val_main_v48, val_main_v47, val_main_v46, val_main_v45, val_main_v39, val_main_v38, val_main_v37]
  simp only [refStream, refScaled, refRoot, refMean]

/-- The plain formula of the gradient of the scale. -/
theorem reference8 (d : Fin 1024) :
    val_main_v52 (F := Ideal) x b w1 w3 dg1 dg3 (ix2 (0 : Fin 1) d) = spec8 x b w1 w3 dg1 dg3 (ix2 (0 : Fin 1) d) := by
  unfold spec8
  pointwise [val_main_v52, val_main_v33, val_main_v30, val_main_v29, val_main_v28, val_main_v19, val_main_v18, val_main_cst_3, val_main_cst_4]
  simp only [refStream, refBack, refRoot, zero_add, Finset.univ_unique, Finset.sum_singleton]
  exact Finset.sum_congr rfl fun k _ => mul_comm _ _

/-- The plain formula of the gradient of the bias. -/
theorem reference9 (hx : ∀ i, ∃ r : ℝ, x i = r) (hb : ∀ i, ∃ r : ℝ, b i = r) (hg : ∀ i, ∃ r : ℝ, g i = r)
    (h1 : ∀ i, ∃ r : ℝ, w1 i = r) (h3 : ∀ i, ∃ r : ℝ, w3 i = r) (hd1 : ∀ i, ∃ r : ℝ, dg1 i = r) (hd3 : ∀ i, ∃ r : ℝ, dg3 i = r) (d : Fin 1024) :
    val_main_v53 (F := Ideal) x b g w1 w3 dh dg1 dg3 (ix2 (0 : Fin 1) d) = spec9 x b g w1 w3 dh dg1 dg3 (ix2 (0 : Fin 1) d) := by
  unfold spec9
  pointwise [val_main_v53, val_main_v51, val_main_v50, val_main_v49, val_main_cst_8, val_main_cst_9]
  simp only [reference7 x b g w1 w3 dh dg1 dg3 hx hb hg h1 h3 hd1 hd3, zero_add, Finset.univ_unique, Finset.sum_singleton]

end Reference

theorem algebraic [Cert.Pre_finite8.Facts] : Cert.algebraic_Kernel8Ideal_Reference8Ideal_pre_finite8 := by
  intro m g m' g' hpre hagree
  refine ⟨fun c => spec7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => spec8 (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)), fun c => spec9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    (θ_run _ _ _).mono (fun r h c => ⟨(h c).1.trans (final7 m c), (h c).2.1.trans (final8 m c), (h c).2.2.1.trans (final9 m c), (h c).2.2.2⟩) (Cert.Kernel8Ideal.Value.run_blocks m g),
    (θ_run _ _ _).mono (fun r h c => ⟨(h c).1.trans ?_, (h c).2.1.trans ?_, (h c).2.2.1.trans ?_, (h c).2.2.2⟩) (Cert.Reference8Ideal.Value.run m' g')⟩
  · obtain ⟨e0, e1, e2, e3, e4, e5, e6, e7⟩ := hagree c
    rw [Cert.Reference8Ideal.Read.val_main_v48_eq, e0, e1, e2, e3, e4, e5, e6, e7]
    obtain ⟨h0, h1, h2, h3, h4, h5, h6⟩ := hpre c
    exact funext fun j => (congrArg _ (eq_ix2 j)).trans <| (reference7 _ _ _ _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (fun i => Cert.Kit.real_of_bit _ (congrFun h4 i))
      (fun i => Cert.Kit.real_of_bit _ (congrFun h5 i)) (fun i => Cert.Kit.real_of_bit _ (congrFun h6 i)) (j 0) (j 1)).trans (congrArg _ (eq_ix2 j).symm)
  · obtain ⟨e0, e1, e2, e3, e4, e5, e6, e7⟩ := hagree c
    rw [e0, e1, e3, e4, e6, e7]
    exact funext fun j => (congrArg _ ((eq_ix2 j).trans (congrArg (ix2 · (j 1)) (Subsingleton.elim (α := Fin 1) (j 0) 0)))).trans <|
      (reference8 _ _ _ _ _ _ (j 1)).trans rfl
  · obtain ⟨e0, e1, e2, e3, e4, e5, e6, e7⟩ := hagree c
    rw [Cert.Reference8Ideal.Read.val_main_v53_eq, e0, e1, e2, e3, e4, e5, e6, e7]
    obtain ⟨h0, h1, h2, h3, h4, h5, h6⟩ := hpre c
    exact funext fun j => (congrArg _ ((eq_ix2 j).trans (congrArg (ix2 · (j 1)) (Subsingleton.elim (α := Fin 1) (j 0) 0)))).trans <|
      (reference9 _ _ _ _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (fun i => Cert.Kit.real_of_bit _ (congrFun h4 i))
      (fun i => Cert.Kit.real_of_bit _ (congrFun h5 i)) (fun i => Cert.Kit.real_of_bit _ (congrFun h6 i)) (j 1)).trans rfl

end Cert.Kernel8Ideal.Val

end
-- ==== Proof.Val9.lean ====
module

public import proofs.«01_k».proof.Proof.Gen.Kernel9Ideal.Value
public import proofs.«01_k».proof.Proof.Kit

@[expose] public section

set_option maxRecDepth 16384
set_option maxHeartbeats 200000

noncomputable section

namespace Cert.Kernel9Ideal.Val

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 8, 0] ∧ win0_1.index t = ![t.val / 8, 0, 0, 0] ∧ win0_2.index t = ![t.val / 8, 0, 0, 0]
    ∧ win0_3.index t = ![t.val / 8, t.val % 8, 0] ∧ win0_4.index t = ![t.val / 8, t.val % 8, 0] ∧ win0_5.index t = ![t.val / 8, t.val % 8, 0] :=
  (by decide +kernel : ∀ t : Fin grid0.N, _)

/-- One entry of the product of the layer's input with layer 0 of a weight: token `t`, hidden unit `k`. -/
def proj (f : FVec Ideal S8192x1024 .f32) (w : FVec Ideal S2x1024x2816 .f32) (t : Fin 8192) (k : Fin 2816) : EReal :=
  ∑ l : Fin 1024, f (ix2 t l) * w (ix3 (0 : Fin 2) l k)

/-- The hidden unit that row band `j 0` has in column `j 2`. -/
def unit (j : S4x8192x704.Idx) : Fin 2816 := ⟨(j 0).val * 704 + (j 2).val, by idx_bounds; omega⟩

def specAct (f : FVec Ideal S8192x1024 .f32) (w1 : FVec Ideal S2x1024x2816 .f32) : FVec Ideal S4x8192x704 .bf16 := fun j =>
  proj f w1 (j 1) (unit j) * Ideal.logistic (proj f w1 (j 1) (unit j))

def specGate (f : FVec Ideal S8192x1024 .f32) (w1 w3 : FVec Ideal S2x1024x2816 .f32) : FVec Ideal S4x8192x704 .bf16 := fun j =>
  proj f w3 (j 1) (unit j) * (Ideal.logistic (proj f w1 (j 1) (unit j)) * (1 + proj f w1 (j 1) (unit j) * (1 - Ideal.logistic (proj f w1 (j 1) (unit j)))))

def specS (f : FVec Ideal S8192x1024 .f32) (w1 w3 : FVec Ideal S2x1024x2816 .f32) : FVec Ideal S4x8192x704 .bf16 := fun j =>
  proj f w1 (j 1) (unit j) * Ideal.logistic (proj f w1 (j 1) (unit j)) * proj f w3 (j 1) (unit j)

/-- The token that row `r` of a grid point's block is, and the hidden unit that its column `k` is. -/
def tok (t : Fin cfg0.N) (r : Fin 1024) : Fin 8192 := ⟨t.val % 8 * 1024 + r.val, by omega⟩
def band (t : Fin cfg0.N) : Fin 4 := ⟨t.val / 8, by have := t.isLt; have : cfg0.N = 32 := N_0; omega⟩

def unitOf (a : Fin 4) (k : Fin 704) : Fin 2816 := ⟨a.val * 704 + k.val, by omega⟩

/-- The product of row `r` with column `k` of the staged weight, for the block of a grid point. -/
def sum1 (c : Dev nD) (t : Fin cfg0.N) (r : Fin 1024) (k : Fin 704) : EReal :=
  ∑ l : Fin 1024, (show FVec Ideal S1024x1024 .bf16 from iblk m c 0 t) (ix2 r l) * (show FVec Ideal S1x1x704x1024 .bf16 from iblk m c 1 t) (ix4 (0 : Fin 1) (0 : Fin 1) k l)

theorem read1 (c : Dev nD) (t : Fin cfg0.N) (r : Fin 1024) (k : Fin 704) :
    sum1 m c t r k = proj (m ((c : Thread nD τ).loc main_arg0)) (m ((c : Thread nD τ).loc main_arg1)) (tok t r) (unitOf (band t) k) := by
  unfold sum1 proj tok unitOf band
  refine Finset.sum_congr rfl fun l _ => ?_
  congr 1
  · blk_point [iblk, idx t]
  · blk_point [iblk, idx t]

/-- The product of row `r` with column `k` of the staged weight, for the block of a grid point. -/
def sum2 (c : Dev nD) (t : Fin cfg0.N) (r : Fin 1024) (k : Fin 704) : EReal :=
  ∑ l : Fin 1024, (show FVec Ideal S1024x1024 .bf16 from iblk m c 0 t) (ix2 r l) * (show FVec Ideal S1x1x704x1024 .bf16 from iblk m c 2 t) (ix4 (0 : Fin 1) (0 : Fin 1) k l)

theorem read2 (c : Dev nD) (t : Fin cfg0.N) (r : Fin 1024) (k : Fin 704) :
    sum2 m c t r k = proj (m ((c : Thread nD τ).loc main_arg0)) (m ((c : Thread nD τ).loc main_arg2)) (tok t r) (unitOf (band t) k) := by
  unfold sum2 proj tok unitOf band
  refine Finset.sum_congr rfl fun l _ => ?_
  congr 1
  · blk_point [iblk, idx t]
  · blk_point [iblk, idx t]

theorem specAct_at (f : FVec Ideal S8192x1024 .f32) (w1 : FVec Ideal S2x1024x2816 .f32) (a : Fin 4) (b : Fin 8192) (d : Fin 704) :
    specAct f w1 (ix3 a b d) = proj f w1 b (unitOf a d) * Ideal.logistic (proj f w1 b (unitOf a d)) := rfl

theorem specGate_at (f : FVec Ideal S8192x1024 .f32) (w1 w3 : FVec Ideal S2x1024x2816 .f32) (a : Fin 4) (b : Fin 8192) (d : Fin 704) :
    specGate f w1 w3 (ix3 a b d) = proj f w3 b (unitOf a d) * (Ideal.logistic (proj f w1 b (unitOf a d)) * (1 + proj f w1 b (unitOf a d) * (1 - Ideal.logistic (proj f w1 b (unitOf a d))))) := rfl

theorem specS_at (f : FVec Ideal S8192x1024 .f32) (w1 w3 : FVec Ideal S2x1024x2816 .f32) (a : Fin 4) (b : Fin 8192) (d : Fin 704) :
    specS f w1 w3 (ix3 a b d) = proj f w1 b (unitOf a d) * Ideal.logistic (proj f w1 b (unitOf a d)) * proj f w3 b (unitOf a d) := rfl

theorem outAct (c : Dev nD) (t : Fin cfg0.N) (y : S1x1024x704.Idx) : (show FVec Ideal S1x1024x704 .bf16 from (dats m 0 c).after 3 t) y = sum1 m c t (y 1) (y 2) * Ideal.logistic (sum1 m c t (y 1) (y 2)) := by
  rw [after0_3]
  unfold sum1
  frame_out
  open_payloads
  pointwise

theorem placeAct (t : Fin cfg0.N) (y : S1x1024x704.Idx) : (win0_3.blk t).view.emb y = ix3 (band t) (tok t (y 1)) (y 2) := by
  unfold band tok
  blk_ext [idx t]

theorem valAct (c : Dev nD) (t : Fin cfg0.N) (r : Fin 1024) (k : Fin 704) :
    sum1 m c t r k * Ideal.logistic (sum1 m c t r k) = specAct (m ((c : Thread nD τ).loc main_arg0)) (m ((c : Thread nD τ).loc main_arg1)) (ix3 (band t) (tok t r) k) := by
  rw [specAct_at, read1]

theorem finalAct (c : Dev nD) : (dats m 0 c).arrAt 3 cfg0.N = specAct (m ((c : Thread nD τ).loc main_arg0)) (m ((c : Thread nD τ).loc main_arg1)) := by
  refine (dats m 0 c).arrAt_eq_of_covers 3 _ (by decide +kernel) fun t hf y => ?_
  blk_simp
  refine (outAct m c t y).trans ?_
  exact (valAct m c t (y 1) (y 2)).trans (congrArg (specAct (m ((c : Thread nD τ).loc main_arg0)) (m ((c : Thread nD τ).loc main_arg1))) (placeAct t y).symm)

theorem outGate (c : Dev nD) (t : Fin cfg0.N) (y : S1x1024x704.Idx) : (show FVec Ideal S1x1024x704 .bf16 from (dats m 0 c).after 4 t) y = sum2 m c t (y 1) (y 2) * (Ideal.logistic (sum1 m c t (y 1) (y 2)) * (1 + sum1 m c t (y 1) (y 2) * (1 - Ideal.logistic (sum1 m c t (y 1) (y 2))))) := by
  rw [after0_4]
  unfold sum1 sum2
  frame_out
  open_payloads
  pointwise

theorem placeGate (t : Fin cfg0.N) (y : S1x1024x704.Idx) : (win0_4.blk t).view.emb y = ix3 (band t) (tok t (y 1)) (y 2) := by
  unfold band tok
  blk_ext [idx t]

theorem valGate (c : Dev nD) (t : Fin cfg0.N) (r : Fin 1024) (k : Fin 704) :
    sum2 m c t r k * (Ideal.logistic (sum1 m c t r k) * (1 + sum1 m c t r k * (1 - Ideal.logistic (sum1 m c t r k)))) = specGate (m ((c : Thread nD τ).loc main_arg0)) (m ((c : Thread nD τ).loc main_arg1)) (m ((c : Thread nD τ).loc main_arg2)) (ix3 (band t) (tok t r) k) := by
  rw [specGate_at, read1, read2]

theorem finalGate (c : Dev nD) : (dats m 0 c).arrAt 4 cfg0.N = specGate (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  refine (outGate m c t y).trans ?_
  exact (valGate m c t (y 1) (y 2)).trans (congrArg (specGate (m ((c : Thread nD τ).loc main_arg0)) (m ((c : Thread nD τ).loc main_arg1)) (m ((c : Thread nD τ).loc main_arg2))) (placeGate t y).symm)

theorem outS (c : Dev nD) (t : Fin cfg0.N) (y : S1x1024x704.Idx) : (show FVec Ideal S1x1024x704 .bf16 from (dats m 0 c).after 5 t) y = sum1 m c t (y 1) (y 2) * Ideal.logistic (sum1 m c t (y 1) (y 2)) * sum2 m c t (y 1) (y 2) := by
  rw [after0_5]
  unfold sum1 sum2
  frame_out
  open_payloads
  pointwise

theorem placeS (t : Fin cfg0.N) (y : S1x1024x704.Idx) : (win0_5.blk t).view.emb y = ix3 (band t) (tok t (y 1)) (y 2) := by
  unfold band tok
  blk_ext [idx t]

theorem valS (c : Dev nD) (t : Fin cfg0.N) (r : Fin 1024) (k : Fin 704) :
    sum1 m c t r k * Ideal.logistic (sum1 m c t r k) * sum2 m c t r k = specS (m ((c : Thread nD τ).loc main_arg0)) (m ((c : Thread nD τ).loc main_arg1)) (m ((c : Thread nD τ).loc main_arg2)) (ix3 (band t) (tok t r) k) := by
  rw [specS_at, read1, read2]

theorem finalS (c : Dev nD) : (dats m 0 c).arrAt 5 cfg0.N = specS (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  refine (outS m c t y).trans ?_
  exact (valS m c t (y 1) (y 2)).trans (congrArg (specS (m ((c : Thread nD τ).loc main_arg0)) (m ((c : Thread nD τ).loc main_arg1)) (m ((c : Thread nD τ).loc main_arg2))) (placeS t y).symm)

end Cert.Kernel9Ideal.Val

end
-- ==== Proof.Claim9.lean ====
module

public import proofs.«01_k».proof.Defs
public import proofs.«01_k».proof.Proof.Val9
public import proofs.«01_k».proof.Proof.Gen.Reference9Ideal.Read

@[expose] public section

set_option maxRecDepth 16384

noncomputable section

namespace Cert.Kernel9Ideal.Val

open Idealize.ShloMosaic Idealize.ShloMosaic.TcCoe Idealize.SL.Sem

open Cert.Reference9Ideal.Read in
/-- The plain formula of the gate's activation, index by index. -/
theorem referenceAct (f : FVec Ideal S8192x1024 .f32) (w1 : FVec Ideal S2x1024x2816 .f32) :
    val_main_v14 (F := Ideal) f w1 = specAct f w1 := by
  funext j
  unfold specAct proj unit
  pointwise [val_main_v14, val_main_v13, val_main_v12, val_main_v9, val_main_v6_0, val_main_v8, val_main_cst, val_main_v6_2, val_main_call0_v4, val_main_call0_cst_0, val_main_call0_v3, val_main_call0_v2, val_main_call0_cst, val_main_call0_v1, val_main_call0_v0, val_main_v2, val_main_v1, val_main_v0]
  simp [Ideal.logistic]

open Cert.Reference9Ideal.Read in
/-- The plain formula of the product that goes into the second weight, index by index. -/
theorem referenceS (f : FVec Ideal S8192x1024 .f32) (w1 w3 : FVec Ideal S2x1024x2816 .f32) :
    val_main_v20 (F := Ideal) f w1 w3 = specS f w1 w3 := by
  funext j
  unfold specS proj unit
  pointwise [val_main_v20, val_main_v19, val_main_v18, val_main_v7, val_main_v6_0, val_main_v6_2, val_main_call0_v4, val_main_call0_cst_0, val_main_call0_v3, val_main_call0_v2, val_main_call0_cst, val_main_call0_v1, val_main_call0_v0, val_main_v2, val_main_v1, val_main_v0, val_main_v5, val_main_v4, val_main_v3]
  simp [Ideal.logistic]

open Cert.Reference9Ideal.Read in
/-- The derivative of the gate by its first input, times the other projection. -/
theorem referenceGate (f : FVec Ideal S8192x1024 .f32) (w1 w3 : FVec Ideal S2x1024x2816 .f32)
    (hf : ∀ i, ∃ r : ℝ, f i = r) (hw : ∀ i, ∃ r : ℝ, w3 i = r) :
    val_main_v17 (F := Ideal) f w1 w3 = specGate f w1 w3 := by
  funext j
  have hg : ∃ r : ℝ, proj f w3 (j 1) (unit j) = r := Cert.Kit.sum_mul_real _ _ (fun _ => hf _) fun _ => hw _
  obtain ⟨g, hg⟩ := hg
  unfold specGate
  rw [hg, Cert.Kit.silu_pull, ← hg]
  unfold proj unit
  pointwise [val_main_v17, val_main_v16, val_main_v15, val_main_v11, val_main_call1_v2, val_main_call1_v1, val_main_call1_v0, val_main_v10, val_main_v8, val_main_cst, val_main_v6_1, val_main_call0_v7, val_main_call0_v6, val_main_call0_cst_1, val_main_v6_2, val_main_call0_v4, val_main_call0_cst_0, val_main_call0_v3, val_main_call0_v2, val_main_call0_cst, val_main_call0_v1, val_main_call0_v0, val_main_v2, val_main_v1, val_main_v0, val_main_v5, val_main_v4, val_main_v3]
  simp [Ideal.logistic]

theorem algebraic [Cert.Pre_finite9.Facts] : Cert.algebraic_Kernel9Ideal_Reference9Ideal_pre_finite9 := by
  intro m g m' g' hpre hagree
  refine ⟨fun c => specAct (m ((c.tc : Thread nD τ).loc main_arg0)) (m ((c.tc : Thread nD τ).loc main_arg1)),
    fun c => specGate (m ((c.tc : Thread nD τ).loc main_arg0)) (m ((c.tc : Thread nD τ).loc main_arg1)) (m ((c.tc : Thread nD τ).loc main_arg2)),
    fun c => specS (m ((c.tc : Thread nD τ).loc main_arg0)) (m ((c.tc : Thread nD τ).loc main_arg1)) (m ((c.tc : Thread nD τ).loc main_arg2)),
    (θ_run _ _ _).mono (fun r h c => ⟨(h c).1.trans (finalAct m c), (h c).2.1.trans (finalGate m c), (h c).2.2.1.trans (finalS m c), (h c).2.2.2⟩) (Cert.Kernel9Ideal.Value.run_blocks m g),
    (θ_run _ _ _).mono (fun r h c => ⟨(h c).1.trans ?_, (h c).2.1.trans ?_, (h c).2.2.1.trans ?_, (h c).2.2.2⟩) (Cert.Reference9Ideal.Value.run m' g')⟩
  all_goals rw [(hagree c).1, (hagree c).2.1]
  · exact referenceAct _ _
  · rw [(hagree c).2.2]
    refine referenceGate _ _ _ (fun i => Cert.Kit.real_of_bit _ ?_) (fun i => Cert.Kit.real_of_bit _ ?_)
    · exact congrFun (hpre c).1 i
    · exact congrFun (hpre c).2 i
  · rw [(hagree c).2.2]
    exact referenceS _ _ _

end Cert.Kernel9Ideal.Val

end
-- ==== Proof.Split.lean ====
module

public import proofs.«01_k».proof.Proof.Norm

@[expose] public section

noncomputable section

namespace Cert.Kit

open Idealize.ShloMosaic

/-- The product of a row with a column, the queries' part and the keys' and values' part. -/
def proj (yq wq : Fin 1024 → EReal) (yk wk : Fin 256 → EReal) : EReal := ∑ k, yq k * wq k + ∑ k, yk k * wk k

/-- The product of a row with a column, quarter by quarter. -/
def quads (y : Fin 2048 → EReal) (w : Fin 4 → Fin 512 → EReal) : EReal :=
  ∑ k : Fin 512, y ⟨k.val, by omega⟩ * w 0 k + ∑ k : Fin 512, y ⟨512 + k.val, by omega⟩ * w 1 k
    + ∑ k : Fin 512, y ⟨1024 + k.val, by omega⟩ * w 2 k + ∑ k : Fin 512, y ⟨1536 + k.val, by omega⟩ * w 3 k

theorem proj_real (yq wq : Fin 1024 → EReal) (yk wk : Fin 256 → EReal) (hq : ∀ k, ∃ r : ℝ, yq k = r) (hwq : ∀ k, ∃ r : ℝ, wq k = r)
    (hk : ∀ k, ∃ r : ℝ, yk k = r) (hwk : ∀ k, ∃ r : ℝ, wk k = r) : ∃ r : ℝ, proj yq wq yk wk = r :=
  add_real _ _ (sum_mul_real yq wq hq hwq) (sum_mul_real yk wk hk hwk)

theorem quads_real (y : Fin 2048 → EReal) (w : Fin 4 → Fin 512 → EReal) (hy : ∀ k, ∃ r : ℝ, y k = r) (hw : ∀ s k, ∃ r : ℝ, w s k = r) : ∃ r : ℝ, quads y w = r :=
  add_real _ _ (add_real _ _ (add_real _ _ (sum_mul_real _ (w 0) (fun _ => hy _) (hw 0)) (sum_mul_real _ (w 1) (fun _ => hy _) (hw 1)))
    (sum_mul_real _ (w 2) (fun _ => hy _) (hw 2))) (sum_mul_real _ (w 3) (fun _ => hy _) (hw 3))

/-- A sum over 1280, its first 1024 terms and its last 256. -/
theorem sum_proj (f : Fin 1280 → EReal) :
    ∑ k : Fin 1280, f k = (∑ k : Fin 1024, f ⟨k.val, by omega⟩) + ∑ k : Fin 256, f ⟨1024 + k.val, by omega⟩ :=
  Fin.sum_univ_add (a := 1024) (b := 256) f

/-- A sum over 2048 in four quarters. -/
theorem sum_quads (f : Fin 2048 → EReal) :
    ∑ k : Fin 2048, f k = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  have h : ∑ s : Fin 4, ∑ k : Fin 512, f ⟨s.val * 512 + k.val, by omega⟩ = ∑ k : Fin 2048, f k :=
    Fin.sum_mul_add_congr (fun s k hl => rfl) (by norm_num)
  rw [← h, Fin.sum_univ_four]
  have h0 : ∀ k : Fin 512, f ⟨(0 : Fin 4).val * 512 + k.val, by omega⟩ = f ⟨k.val, by omega⟩ := fun k => congrArg f (Fin.ext (by simp))
  rw [Finset.sum_congr rfl fun k _ => h0 k]
  rfl

end Cert.Kit

end
-- ==== Proof.Val10.lean ====
module

public import proofs.«01_k».proof.Proof.Gen.Kernel10Ideal.Value
public import proofs.«01_k».proof.Proof.Split

@[expose] public section

set_option maxRecDepth 16384
set_option maxHeartbeats 400000

noncomputable section

namespace Cert.Kernel10Ideal.Val

open Cert.Kernel10Ideal Cert.Kernel10Ideal.Gen Idealize.ShloMosaic Idealize.ShloMosaic.TcCoe Idealize.SL.Sem
open Idealize.ShloMosaic.Pipeline (Dat)
open Cert.Kit (rstd pulled proj)

variable (m : (ℓ : Loc nD τ sig) → Buf (Elt Ideal) ℓ)

/-- Row `i` of a block. -/
def rowQ (y : FVec Ideal S512x1024 .bf16) (i : Fin 512) : Fin 1024 → EReal := fun k => y (ix2 i k)
def rowK (y : FVec Ideal S512x256 .bf16) (i : Fin 512) : Fin 256 → EReal := fun k => y (ix2 i k)

/-- Column `d` of a staged weight. -/
def colQ (w : FVec Ideal S1024x1024 .bf16) (d : Fin 1024) : Fin 1024 → EReal := fun k => w (ix2 k d)
def colK (w : FVec Ideal S256x1024 .bf16) (d : Fin 1024) : Fin 256 → EReal := fun k => w (ix2 k d)

theorem outAt (c : Dev nD) (t : Fin cfg0.N) (a : Fin 512) (b : Fin 1024) :
    (outsAt0 m c t.val t.isLt).1 (ix2 a b) = pulled (fun d => proj (rowQ (show FVec Ideal S512x1024 .bf16 from iblk m c 0 t) a) (colQ (show FVec Ideal S1024x1024 .bf16 from iblk m c 2 t) d) (rowK (show FVec Ideal S512x256 .bf16 from iblk m c 1 t) a) (colK (show FVec Ideal S256x1024 .bf16 from iblk m c 3 t) d)) (fun d => (show FVec Ideal S1x1024 .f32 from iblk m c 5 t) (ix2 (0 : Fin 1) d)) (fun d => (show FVec Ideal S512x1024 .f32 from iblk m c 4 t) (ix2 a d)) ((show FVec Ideal S512x1024 .f32 from iblk m c 6 t) (ix2 a b)) b := by
  by_cases hA : t.val % 16 = 0
  · rw [outsAt0_A m c t hA]
    frame_open
    simp (disch := decide) only [↓ View.readCov_skip, ↓ View.readCov_cons_toLoadRect, ↓ View.readCov_fill]
    frame_out
    open_payloads
    pointwise
    unfold pulled proj rstd rowQ rowK colQ colK
    first
      | (beta_reduce; rfl)
      | blk_point []
  · rw [outsAt0_B m c t hA]
    frame_open
    simp (disch := decide) only [↓ View.readCov_skip, ↓ View.readCov_cons_toLoadRect, ↓ View.readCov_fill]
    frame_out
    open_payloads
    pointwise
    unfold pulled proj rstd rowQ rowK colQ colK
    first
      | (beta_reduce; rfl)
      | blk_point []

/-- What a grid point leaves in the block of the first result. -/
theorem out (c : Dev nD) (t : Fin cfg0.N) (j : S512x1024.Idx) :
    (outsAt0 m c t.val t.isLt).1 j = pulled (fun d => proj (rowQ (show FVec Ideal S512x1024 .bf16 from iblk m c 0 t) (j 0)) (colQ (show FVec Ideal S1024x1024 .bf16 from iblk m c 2 t) d) (rowK (show FVec Ideal S512x256 .bf16 from iblk m c 1 t) (j 0)) (colK (show FVec Ideal S256x1024 .bf16 from iblk m c 3 t) d)) (fun d => (show FVec Ideal S1x1024 .f32 from iblk m c 5 t) (ix2 (0 : Fin 1) d)) (fun d => (show FVec Ideal S512x1024 .f32 from iblk m c 4 t) (ix2 (j 0) d)) ((show FVec Ideal S512x1024 .f32 from iblk m c 6 t) (ix2 (j 0) (j 1))) (j 1) :=
  (congrArg _ (eq_ix2 j)).trans (outAt m c t (j 0) (j 1))

theorem stepA (c : Dev nD) (t : Fin cfg0.N) (h : t.val % 16 = 0) (j : S1x1024.Idx) :
    (outsAt0 m c t.val t.isLt).2.1 j = ∑ i : Fin 512, proj (rowQ (show FVec Ideal S512x1024 .bf16 from iblk m c 0 t) i) (colQ (show FVec Ideal S1024x1024 .bf16 from iblk m c 2 t) (j 1)) (rowK (show FVec Ideal S512x256 .bf16 from iblk m c 1 t) i) (colK (show FVec Ideal S256x1024 .bf16 from iblk m c 3 t) (j 1)) * ((show FVec Ideal S512x1024 .f32 from iblk m c 4 t) (ix2 i (j 1)) * rstd (fun d => (show FVec Ideal S512x1024 .f32 from iblk m c 4 t) (ix2 i d))) := by
  rw [outsAt0_A m c t h]
  frame_open
  simp (disch := decide) only [↓ View.readCov_skip, ↓ View.readCov_cons_toLoadRect, ↓ View.readCov_fill]
  frame_out
  open_payloads
  pointwise
  unfold proj rstd rowQ rowK colQ colK
  first
    | (beta_reduce; rfl)
    | blk_point []

theorem stepB (c : Dev nD) (t : Fin cfg0.N) (h : ¬t.val % 16 = 0) (j : S1x1024.Idx) :
    (outsAt0 m c t.val t.isLt).2.1 j = (outsAt0 m c (t.val - 1) (Nat.lt_of_le_of_lt (Nat.sub_le _ _) t.isLt)).2.1 j
      + ∑ i : Fin 512, proj (rowQ (show FVec Ideal S512x1024 .bf16 from iblk m c 0 t) i) (colQ (show FVec Ideal S1024x1024 .bf16 from iblk m c 2 t) (j 1)) (rowK (show FVec Ideal S512x256 .bf16 from iblk m c 1 t) i) (colK (show FVec Ideal S256x1024 .bf16 from iblk m c 3 t) (j 1)) * ((show FVec Ideal S512x1024 .f32 from iblk m c 4 t) (ix2 i (j 1)) * rstd (fun d => (show FVec Ideal S512x1024 .f32 from iblk m c 4 t) (ix2 i d))) := by
  rw [outsAt0_B m c t h]
  frame_open
  simp (disch := decide) only [↓ View.readCov_skip, ↓ View.readCov_cons_toLoadRect, ↓ View.readCov_fill]
  frame_out
  open_payloads
  pointwise
  unfold proj rstd rowQ rowK colQ colK
  first
    | (beta_reduce; rfl)
    | blk_point []

end Cert.Kernel10Ideal.Val

end
-- ==== Proof.Val10b.lean ====
module

public import proofs.«01_k».proof.Proof.Val10

@[expose] public section

set_option maxRecDepth 16384
set_option maxHeartbeats 400000

noncomputable section

namespace Cert.Kernel10Ideal.Val

open Cert.Kernel10Ideal Cert.Kernel10Ideal.Gen Idealize.ShloMosaic Idealize.ShloMosaic.TcCoe Idealize.SL.Sem
open Idealize.ShloMosaic.Pipeline (Dat)
open Cert.Kit (rstd pulled proj)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![t.val, 0] ∧ win0_7.index t = ![t.val, 0] :=
  (by decide +kernel : ∀ t : Fin grid0.N, _)

/-- Token `i` of what arrives: the queries' part, the keys' and values' part. -/
def tokenQ (y : FVec Ideal S8192x1280 .f32) (i : Fin 8192) : Fin 1024 → EReal := fun k => y (ix2 i ⟨k.val, by omega⟩)
def tokenK (y : FVec Ideal S8192x1280 .f32) (i : Fin 8192) : Fin 256 → EReal := fun k => y (ix2 i ⟨1024 + k.val, by omega⟩)

/-- Row `d` of the weight, in the same two parts. -/
def weightQ (w : FVec Ideal S1024x1280 .f32) (d : Fin 1024) : Fin 1024 → EReal := fun k => w (ix2 d ⟨k.val, by omega⟩)
def weightK (w : FVec Ideal S1024x1280 .f32) (d : Fin 1024) : Fin 256 → EReal := fun k => w (ix2 d ⟨1024 + k.val, by omega⟩)

/-- What comes back through the product, token `i`, feature `d`. -/
def back (w : FVec Ideal S1024x1280 .f32) (dy : FVec Ideal S8192x1280 .f32) (i : Fin 8192) (d : Fin 1024) : EReal :=
  proj (tokenQ dy i) (weightQ w d) (tokenK dy i) (weightK w d)

/-- The gradient of what entered the norm, with what the residual carries. -/
def specX (x : FVec Ideal S8192x1024 .f32) (g : FVec Ideal S1024 .f32) (w : FVec Ideal S1024x1280 .f32) (dh : FVec Ideal S8192x1024 .f32) (dy : FVec Ideal S8192x1280 .f32) : FVec Ideal S8192x1024 .f32 := fun j =>
  pulled (fun d => back w dy (j 0) d) (fun d => g (ix1 d)) (fun d => x (ix2 (j 0) d)) (dh (ix2 (j 0) (j 1))) (j 1)

/-- The gradient of the norm's scale. -/
def specG (x : FVec Ideal S8192x1024 .f32) (w : FVec Ideal S1024x1280 .f32) (dy : FVec Ideal S8192x1280 .f32) : FVec Ideal S1x1024 .f32 := fun j =>
  ∑ i : Fin 8192, back w dy i (j 1) * (x (ix2 i (j 1)) * rstd (fun d => x (ix2 i d)))

/-- The token that row `i` of block `t` is. -/
def tok (t : Fin cfg0.N) (i : Fin 512) : Fin 8192 := ⟨t.val * 512 + i.val, by have := t.isLt; have : cfg0.N = 16 := N_0; omega⟩

theorem readQ0 (c : Dev nD) (t : Fin cfg0.N) (i : Fin 512) :
    rowQ (show FVec Ideal S512x1024 .bf16 from iblk m c 0 t) i = tokenQ (m ((c : Thread nD τ).loc main_arg4)) (tok t i) := by
  funext k
  unfold rowQ tokenQ tok
  blk_point [iblk, idx t]

theorem readK1 (c : Dev nD) (t : Fin cfg0.N) (i : Fin 512) :
    rowK (show FVec Ideal S512x256 .bf16 from iblk m c 1 t) i = tokenK (m ((c : Thread nD τ).loc main_arg4)) (tok t i) := by
  funext k
  unfold rowK tokenK tok
  blk_point [iblk, idx t]

theorem readQ2 (c : Dev nD) (t : Fin cfg0.N) (d : Fin 1024) :
    colQ (show FVec Ideal S1024x1024 .bf16 from iblk m c 2 t) d = weightQ (m ((c : Thread nD τ).loc main_arg2)) d := by
  funext k
  unfold colQ weightQ
  blk_point [iblk, idx t]

theorem readK3 (c : Dev nD) (t : Fin cfg0.N) (d : Fin 1024) :
    colK (show FVec Ideal S256x1024 .bf16 from iblk m c 3 t) d = weightK (m ((c : Thread nD τ).loc main_arg2)) d := by
  funext k
  unfold colK weightK
  blk_point [iblk, idx t]

theorem readX (c : Dev nD) (t : Fin cfg0.N) (i : Fin 512) (d : Fin 1024) :
    (show FVec Ideal S512x1024 .f32 from iblk m c 4 t) (ix2 i d) = m ((c : Thread nD τ).loc main_arg0) (ix2 (tok t i) d) := by
  unfold tok
  blk_point [iblk, idx t]

theorem readG (c : Dev nD) (t : Fin cfg0.N) (d : Fin 1024) :
    (show FVec Ideal S1x1024 .f32 from iblk m c 5 t) (ix2 (0 : Fin 1) d) = m ((c : Thread nD τ).loc main_arg1) (ix1 d) := by
  blk_point [iblk, idx t]

theorem readDh (c : Dev nD) (t : Fin cfg0.N) (i : Fin 512) (d : Fin 1024) :
    (show FVec Ideal S512x1024 .f32 from iblk m c 6 t) (ix2 i d) = m ((c : Thread nD τ).loc main_arg3) (ix2 (tok t i) d) := by
  unfold tok
  blk_point [iblk, idx t]

theorem readOut (c : Dev nD) (t : Fin cfg0.N) (i : Fin 512) (d : Fin 1024) :
    pulled (fun d => proj (rowQ (show FVec Ideal S512x1024 .bf16 from iblk m c 0 t) i) (colQ (show FVec Ideal S1024x1024 .bf16 from iblk m c 2 t) d) (rowK (show FVec Ideal S512x256 .bf16 from iblk m c 1 t) i) (colK (show FVec Ideal S256x1024 .bf16 from iblk m c 3 t) d)) (fun d => (show FVec Ideal S1x1024 .f32 from iblk m c 5 t) (ix2 (0 : Fin 1) d)) (fun d => (show FVec Ideal S512x1024 .f32 from iblk m c 4 t) (ix2 i d)) ((show FVec Ideal S512x1024 .f32 from iblk m c 6 t) (ix2 i d)) d = specX (m ((c : Thread nD τ).loc main_arg0)) (m ((c : Thread nD τ).loc main_arg1)) (m ((c : Thread nD τ).loc main_arg2)) (m ((c : Thread nD τ).loc main_arg3)) (m ((c : Thread nD τ).loc main_arg4)) (ix2 (tok t i) d) := by
  simp only [readQ0, readK1, readQ2, readK3, readX, readG, readDh]
  rfl

theorem readDg (c : Dev nD) (t : Fin cfg0.N) (i : Fin 512) (d : Fin 1024) :
    proj (rowQ (show FVec Ideal S512x1024 .bf16 from iblk m c 0 t) i) (colQ (show FVec Ideal S1024x1024 .bf16 from iblk m c 2 t) d) (rowK (show FVec Ideal S512x256 .bf16 from iblk m c 1 t) i) (colK (show FVec Ideal S256x1024 .bf16 from iblk m c 3 t) d) * ((show FVec Ideal S512x1024 .f32 from iblk m c 4 t) (ix2 i d) * rstd (fun d => (show FVec Ideal S512x1024 .f32 from iblk m c 4 t) (ix2 i d))) = back (m ((c : Thread nD τ).loc main_arg2)) (m ((c : Thread nD τ).loc main_arg4)) (tok t i) d * ((show FVec Ideal S8192x1024 .f32 from m ((c : Thread nD τ).loc main_arg0)) (ix2 (tok t i) d) * rstd (fun d => m ((c : Thread nD τ).loc main_arg0) (ix2 (tok t i) d))) := by
  simp only [readQ0, readK1, readQ2, readK3, readX]
  rfl

theorem place (t : Fin cfg0.N) (y : S512x1024.Idx) : (win0_7.blk t).view.emb y = ix2 (tok t (y 0)) (y 1) := by
  unfold tok
  blk_ext [idx t]

theorem finalX (c : Dev nD) : (dats m 0 c).arrAt 7 cfg0.N = specX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out m c t]
  exact (readOut m c t (y 0) (y 1)).trans (congrArg (specX (m ((c : Thread nD τ).loc main_arg0)) (m ((c : Thread nD τ).loc main_arg1)) (m ((c : Thread nD τ).loc main_arg2)) (m ((c : Thread nD τ).loc main_arg3)) (m ((c : Thread nD τ).loc main_arg4))) (place t y).symm)

theorem finalG (c : Dev nD) : (dats m 0 c).arrAt 8 cfg0.N = specG (m ((c : Thread nD τ).loc main_arg0)) (m ((c : Thread nD τ).loc main_arg2)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0) _
    (fun t h j => by rw [stepA m c t h]; exact (zero_add _).symm) (fun t h j => by rw [stepB m c t h]) (le_of_eq N_0) t0_15 rfl j, zero_add]
  unfold specG
  refine Fin.sum_mul_add_congr (fun t k hl => ?_) (by have := N_0; change cfg0.N = 16 at this; rw [this])
  exact readDg m c t k (j 1)

end Cert.Kernel10Ideal.Val

end
-- ==== Proof.Claim10.lean ====
module

public import proofs.«01_k».proof.Defs
public import proofs.«01_k».proof.Proof.Val10b
public import proofs.«01_k».proof.Proof.Gen.Reference10Ideal.Read

@[expose] public section

set_option maxRecDepth 16384
set_option maxHeartbeats 400000

noncomputable section

namespace Cert.Kernel10Ideal.Val

open Idealize.ShloMosaic Idealize.ShloMosaic.TcCoe Idealize.SL.Sem
open Cert.Kit (rstd pulled)
open Cert.Reference10Ideal.Read

section Reference

variable (x : FVec Ideal S8192x1024 .f32) (g : FVec Ideal S1024 .f32) (w : FVec Ideal S1024x1280 .f32) (dh : FVec Ideal S8192x1024 .f32) (dy : FVec Ideal S8192x1280 .f32)

theorem refBack (i : Fin 8192) (d : Fin 1024) : val_main_v17 (F := Ideal) w dy (ix2 i d) = back w dy i d := by
  pointwise [val_main_v17]
  rw [Cert.Kit.sum_proj]
  unfold back Cert.Kit.proj tokenQ tokenK weightQ weightK
  pointwise

theorem refRoot (i : Fin 8192) (k : Fin 1) : val_main_v7 (F := Ideal) x (ix2 i k) = rstd (fun d => x (ix2 i d)) := by
  unfold rstd
  pointwise [val_main_v7, val_main_v6, val_main_v5, val_main_v4, val_main_v3, val_main_v2, val_main_v1, val_main_v0, val_main_cst, val_main_cst_0, val_main_cst_1]

theorem refScaled (i : Fin 8192) (d : Fin 1024) : val_main_v22 (F := Ideal) g w dy (ix2 i d) = back w dy i d * g (ix1 d) := by
  pointwise [val_main_v22, val_main_v21, val_main_v13]
  rw [refBack]

/-- What the mean of squares sends back to each entry of row `i`, without the entry itself. -/
theorem refMean (i : Fin 8192) (d : Fin 1024) :
    val_main_v34 (F := Ideal) x g w dy (ix2 i d)
      = Ideal.div ((∑ k : Fin 1024, x (ix2 i k) * (back w dy i k * g (ix1 k))) * (Ideal.ofBits FTy.f32 3204448256#32
        * Ideal.div (rstd (fun d => x (ix2 i d))) (Ideal.div (∑ k : Fin 1024, x (ix2 i k) * x (ix2 i k)) (Ideal.ofBits FTy.f32 1149239296#32)
          + Ideal.ofBits FTy.f32 925353388#32))) (Ideal.ofBits FTy.f32 1149239296#32) := by
  pointwise [val_main_v34, val_main_v33, val_main_v32, val_main_v31, val_main_v30, val_main_v26, val_main_v25, val_main_v24, val_main_v10, val_main_v9, val_main_v8,
    val_main_v6, val_main_v5, val_main_v4, val_main_v3, val_main_v2, val_main_v1, val_main_v0, val_main_cst, val_main_cst_0, val_main_cst_1, val_main_cst_2, val_main_cst_5,
    val_main_cst_6, val_main_cst_7]
  simp only [refScaled, refRoot, zero_add, Finset.univ_unique, Finset.sum_singleton]

theorem backReal (hw : ∀ i, ∃ r : ℝ, w i = r) (hd : ∀ i, ∃ r : ℝ, dy i = r) (i : Fin 8192) (d : Fin 1024) : ∃ r : ℝ, back w dy i d = r := by
  unfold back
  exact Cert.Kit.proj_real _ _ _ _ (fun _ => hd _) (fun _ => hw _) (fun _ => hd _) fun _ => hw _

/-- The plain formula of the input gradient, token by token. -/
theorem referenceX (hx : ∀ i, ∃ r : ℝ, x i = r) (hg : ∀ i, ∃ r : ℝ, g i = r) (hw : ∀ i, ∃ r : ℝ, w i = r) (hd : ∀ i, ∃ r : ℝ, dy i = r)
    (i : Fin 8192) (d : Fin 1024) : val_main_v38 (F := Ideal) x g w dh dy (ix2 i d) = specX x g w dh dy (ix2 i d) := by
  show _ = pulled (back w dy i) (fun k => g (ix1 k)) (fun k => x (ix2 i k)) (dh (ix2 i d)) d
  rw [Cert.Kit.pull_norm _ _ _ _ _ (fun k => backReal w dy hw hd i k) (fun k => hg _) fun k => hx _]
  pointwise [val_main_v38, val_main_v37, val_main_v36, val_main_v35, val_main_v29, val_main_v28, val_main_v27]
  simp only [refScaled, refRoot, refMean]

/-- The plain formula of the gradient of the scale. -/
theorem referenceG (d : Fin 1024) : val_main_v39 (F := Ideal) x w dy (ix2 (0 : Fin 1) d) = specG x w dy (ix2 (0 : Fin 1) d) := by
  unfold specG
  pointwise [val_main_v39, val_main_v23, val_main_v20, val_main_v19, val_main_v18, val_main_v12, val_main_v11, val_main_cst_3, val_main_cst_4]
  simp only [refBack, refRoot, zero_add, Finset.univ_unique, Finset.sum_singleton]
  exact Finset.sum_congr rfl fun k _ => mul_comm _ _

end Reference

theorem algebraic [Cert.Pre_finite10.Facts] : Cert.algebraic_Kernel10Ideal_Reference10Ideal_pre_finite10 := by
  intro m g m' g' hpre hagree
  refine ⟨fun c => specX (m ((c : Thread nD τ).loc main_arg0)) (m ((c : Thread nD τ).loc main_arg1)) (m ((c : Thread nD τ).loc main_arg2)) (m ((c : Thread nD τ).loc main_arg3)) (m ((c : Thread nD τ).loc main_arg4)), fun c => specG (m ((c : Thread nD τ).loc main_arg0)) (m ((c : Thread nD τ).loc main_arg2)) (m ((c : Thread nD τ).loc main_arg4)),
    (θ_run _ _ _).mono (fun r h c => ⟨(h c).1.trans (finalX m c), (h c).2.1.trans (finalG m c), (h c).2.2.2⟩) (Cert.Kernel10Ideal.Value.run_blocks m g),
    (θ_run _ _ _).mono (fun r h c => ⟨(h c).1.trans ?_, (h c).2.1.trans ?_, (h c).2.2⟩) (Cert.Reference10Ideal.Value.run m' g')⟩
  · obtain ⟨e0, e1, e2, e3, e4⟩ := hagree c
    rw [Cert.Reference10Ideal.Read.val_main_v38_eq, e0, e1, e2, e3, e4]
    obtain ⟨h0, h1, h2, h3⟩ := hpre c
    exact funext fun j => (congrArg _ (eq_ix2 j)).trans <| (referenceX _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (j 0) (j 1)).trans (congrArg _ (eq_ix2 j).symm)
  · obtain ⟨e0, e1, e2, e3, e4⟩ := hagree c
    rw [e0, e2, e4]
    exact funext fun j => (congrArg _ ((eq_ix2 j).trans (congrArg (ix2 · (j 1)) (Subsingleton.elim (α := Fin 1) (j 0) 0)))).trans <|
      (referenceG _ _ _ (j 1)).trans rfl

end Cert.Kernel10Ideal.Val

end
-- ==== Proof.Val11.lean ====
module

public import proofs.«01_k».proof.Proof.Gen.Kernel11Ideal.Value
public import proofs.«01_k».proof.Proof.Split

@[expose] public section

set_option maxRecDepth 16384
set_option maxHeartbeats 400000

noncomputable section

namespace Cert.Kernel11Ideal.Val

open Cert.Kernel11Ideal Cert.Kernel11Ideal.Gen Idealize.ShloMosaic Idealize.ShloMosaic.TcCoe Idealize.SL.Sem
open Idealize.ShloMosaic.Pipeline (Dat)
open Cert.Kit (rstd pulled quads)

variable (m : (ℓ : Loc nD τ sig) → Buf (Elt Ideal) ℓ)

/-- Row `i` of a block. -/
def rowD (y : FVec Ideal S512x2048 .bf16) (i : Fin 512) : Fin 2048 → EReal := fun k => y (ix2 i k)

/-- Row `d` of the staged weight, quarter by quarter. -/
def colW (w : FVec Ideal S4x1024x512 .bf16) (d : Fin 1024) : Fin 4 → Fin 512 → EReal := fun s k => w (ix3 s d k)

theorem outAt (c : Dev nD) (t : Fin cfg0.N) (a : Fin 512) (b : Fin 1024) :
    (outsAt0 m c t.val t.isLt).1 (ix2 a b) = pulled (fun d => quads (rowD (show FVec Ideal S512x2048 .bf16 from iblk m c 0 t) a) (colW (show FVec Ideal S4x1024x512 .bf16 from iblk m c 1 t) d)) (fun d => (show FVec Ideal S1x1024 .f32 from iblk m c 3 t) (ix2 (0 : Fin 1) d)) (fun d => (show FVec Ideal S512x1024 .f32 from iblk m c 2 t) (ix2 a d)) ((show FVec Ideal S512x1024 .f32 from iblk m c 4 t) (ix2 a b)) b := by
  by_cases hA : t.val % 16 = 0
  · rw [outsAt0_A m c t hA]
    frame_open
    simp (disch := decide) only [↓ View.readCov_skip, ↓ View.readCov_cons_toLoadRect, ↓ View.readCov_fill]
    frame_out
    open_payloads
    pointwise
    unfold pulled quads rstd rowD colW
    first
      | (beta_reduce; rfl)
      | blk_point []
  · rw [outsAt0_B m c t hA]
    frame_open
    simp (disch := decide) only [↓ View.readCov_skip, ↓ View.readCov_cons_toLoadRect, ↓ View.readCov_fill]
    frame_out
    open_payloads
    pointwise
    unfold pulled quads rstd rowD colW
    first
      | (beta_reduce; rfl)
      | blk_point []

/-- What a grid point leaves in the block of the first result. -/
theorem out (c : Dev nD) (t : Fin cfg0.N) (j : S512x1024.Idx) :
    (outsAt0 m c t.val t.isLt).1 j = pulled (fun d => quads (rowD (show FVec Ideal S512x2048 .bf16 from iblk m c 0 t) (j 0)) (colW (show FVec Ideal S4x1024x512 .bf16 from iblk m c 1 t) d)) (fun d => (show FVec Ideal S1x1024 .f32 from iblk m c 3 t) (ix2 (0 : Fin 1) d)) (fun d => (show FVec Ideal S512x1024 .f32 from iblk m c 2 t) (ix2 (j 0) d)) ((show FVec Ideal S512x1024 .f32 from iblk m c 4 t) (ix2 (j 0) (j 1))) (j 1) :=
  (congrArg _ (eq_ix2 j)).trans (outAt m c t (j 0) (j 1))

theorem stepA (c : Dev nD) (t : Fin cfg0.N) (h : t.val % 16 = 0) (j : S1x1024.Idx) :
    (outsAt0 m c t.val t.isLt).2.1 j = ∑ i : Fin 512, quads (rowD (show FVec Ideal S512x2048 .bf16 from iblk m c 0 t) i) (colW (show FVec Ideal S4x1024x512 .bf16 from iblk m c 1 t) (j 1)) * ((show FVec Ideal S512x1024 .f32 from iblk m c 2 t) (ix2 i (j 1)) * rstd (fun d => (show FVec Ideal S512x1024 .f32 from iblk m c 2 t) (ix2 i d))) := by
  rw [outsAt0_A m c t h]
  frame_open
  simp (disch := decide) only [↓ View.readCov_skip, ↓ View.readCov_cons_toLoadRect, ↓ View.readCov_fill]
  frame_out
  open_payloads
  pointwise
  unfold quads rstd rowD colW
  first
    | (beta_reduce; rfl)
    | blk_point []

theorem stepB (c : Dev nD) (t : Fin cfg0.N) (h : ¬t.val % 16 = 0) (j : S1x1024.Idx) :
    (outsAt0 m c t.val t.isLt).2.1 j = (outsAt0 m c (t.val - 1) (Nat.lt_of_le_of_lt (Nat.sub_le _ _) t.isLt)).2.1 j
      + ∑ i : Fin 512, quads (rowD (show FVec Ideal S512x2048 .bf16 from iblk m c 0 t) i) (colW (show FVec Ideal S4x1024x512 .bf16 from iblk m c 1 t) (j 1)) * ((show FVec Ideal S512x1024 .f32 from iblk m c 2 t) (ix2 i (j 1)) * rstd (fun d => (show FVec Ideal S512x1024 .f32 from iblk m c 2 t) (ix2 i d))) := by
  rw [outsAt0_B m c t h]
  frame_open
  simp (disch := decide) only [↓ View.readCov_skip, ↓ View.readCov_cons_toLoadRect, ↓ View.readCov_fill]
  frame_out
  open_payloads
  pointwise
  unfold quads rstd rowD colW
  first
    | (beta_reduce; rfl)
    | blk_point []

end Cert.Kernel11Ideal.Val

end
-- ==== Proof.Val11b.lean ====
module

public import proofs.«01_k».proof.Proof.Val11

@[expose] public section

set_option maxRecDepth 16384
set_option maxHeartbeats 400000

noncomputable section

namespace Cert.Kernel11Ideal.Val

open Cert.Kernel11Ideal Cert.Kernel11Ideal.Gen Idealize.ShloMosaic Idealize.ShloMosaic.TcCoe Idealize.SL.Sem
open Idealize.ShloMosaic.Pipeline (Dat)
open Cert.Kit (rstd pulled quads)

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] :=
  (by decide +kernel : ∀ t : Fin grid0.N, _)

/-- Token `i` of what arrives. -/
def token (y : FVec Ideal S8192x2048 .f32) (i : Fin 8192) : Fin 2048 → EReal := fun k => y (ix2 i k)

/-- Row `d` of the weight, quarter by quarter. -/
def weight (w : FVec Ideal S1024x2048 .f32) (d : Fin 1024) : Fin 4 → Fin 512 → EReal := fun s k => w (ix2 d ⟨s.val * 512 + k.val, by omega⟩)

/-- What comes back through the product, token `i`, feature `d`. -/
def back (w : FVec Ideal S1024x2048 .f32) (dy : FVec Ideal S8192x2048 .f32) (i : Fin 8192) (d : Fin 1024) : EReal :=
  quads (token dy i) (weight w d)

/-- The gradient of what entered the norm, with what the residual carries. -/
def specX (x : FVec Ideal S8192x1024 .f32) (g : FVec Ideal S1024 .f32) (w : FVec Ideal S1024x2048 .f32) (dh : FVec Ideal S8192x1024 .f32) (dy : FVec Ideal S8192x2048 .f32) : FVec Ideal S8192x1024 .f32 := fun j =>
  pulled (fun d => back w dy (j 0) d) (fun d => g (ix1 d)) (fun d => x (ix2 (j 0) d)) (dh (ix2 (j 0) (j 1))) (j 1)

/-- The gradient of the norm's scale. -/
def specG (x : FVec Ideal S8192x1024 .f32) (w : FVec Ideal S1024x2048 .f32) (dy : FVec Ideal S8192x2048 .f32) : FVec Ideal S1x1024 .f32 := fun j =>
  ∑ i : Fin 8192, back w dy i (j 1) * (x (ix2 i (j 1)) * rstd (fun d => x (ix2 i d)))

/-- The token that row `i` of block `t` is. -/
def tok (t : Fin cfg0.N) (i : Fin 512) : Fin 8192 := ⟨t.val * 512 + i.val, by have := t.isLt; have : cfg0.N = 16 := N_0; omega⟩

theorem readD (c : Dev nD) (t : Fin cfg0.N) (i : Fin 512) :
    rowD (show FVec Ideal S512x2048 .bf16 from iblk m c 0 t) i = token (m ((c : Thread nD τ).loc main_arg4)) (tok t i) := by
  funext k
  unfold rowD token tok
  blk_point [iblk, idx t]

theorem readW (c : Dev nD) (t : Fin cfg0.N) (d : Fin 1024) :
    colW (show FVec Ideal S4x1024x512 .bf16 from iblk m c 1 t) d = weight (m ((c : Thread nD τ).loc main_arg2)) d := by
  funext s k
  unfold colW weight
  blk_point [iblk, idx t]

theorem readX (c : Dev nD) (t : Fin cfg0.N) (i : Fin 512) (d : Fin 1024) :
    (show FVec Ideal S512x1024 .f32 from iblk m c 2 t) (ix2 i d) = m ((c : Thread nD τ).loc main_arg0) (ix2 (tok t i) d) := by
  unfold tok
  blk_point [iblk, idx t]

theorem readG (c : Dev nD) (t : Fin cfg0.N) (d : Fin 1024) :
    (show FVec Ideal S1x1024 .f32 from iblk m c 3 t) (ix2 (0 : Fin 1) d) = m ((c : Thread nD τ).loc main_arg1) (ix1 d) := by
  blk_point [iblk, idx t]

theorem readDh (c : Dev nD) (t : Fin cfg0.N) (i : Fin 512) (d : Fin 1024) :
    (show FVec Ideal S512x1024 .f32 from iblk m c 4 t) (ix2 i d) = m ((c : Thread nD τ).loc main_arg3) (ix2 (tok t i) d) := by
  unfold tok
  blk_point [iblk, idx t]

theorem readOut (c : Dev nD) (t : Fin cfg0.N) (i : Fin 512) (d : Fin 1024) :
    pulled (fun d => quads (rowD (show FVec Ideal S512x2048 .bf16 from iblk m c 0 t) i) (colW (show FVec Ideal S4x1024x512 .bf16 from iblk m c 1 t) d)) (fun d => (show FVec Ideal S1x1024 .f32 from iblk m c 3 t) (ix2 (0 : Fin 1) d)) (fun d => (show FVec Ideal S512x1024 .f32 from iblk m c 2 t) (ix2 i d)) ((show FVec Ideal S512x1024 .f32 from iblk m c 4 t) (ix2 i d)) d = specX (m ((c : Thread nD τ).loc main_arg0)) (m ((c : Thread nD τ).loc main_arg1)) (m ((c : Thread nD τ).loc main_arg2)) (m ((c : Thread nD τ).loc main_arg3)) (m ((c : Thread nD τ).loc main_arg4)) (ix2 (tok t i) d) := by
  simp only [readD, readW, readX, readG, readDh]
  rfl

theorem readDg (c : Dev nD) (t : Fin cfg0.N) (i : Fin 512) (d : Fin 1024) :
    quads (rowD (show FVec Ideal S512x2048 .bf16 from iblk m c 0 t) i) (colW (show FVec Ideal S4x1024x512 .bf16 from iblk m c 1 t) d) * ((show FVec Ideal S512x1024 .f32 from iblk m c 2 t) (ix2 i d) * rstd (fun d => (show FVec Ideal S512x1024 .f32 from iblk m c 2 t) (ix2 i d))) = back (m ((c : Thread nD τ).loc main_arg2)) (m ((c : Thread nD τ).loc main_arg4)) (tok t i) d * ((show FVec Ideal S8192x1024 .f32 from m ((c : Thread nD τ).loc main_arg0)) (ix2 (tok t i) d) * rstd (fun d => m ((c : Thread nD τ).loc main_arg0) (ix2 (tok t i) d))) := by
  simp only [readD, readW, readX]
  rfl

theorem place (t : Fin cfg0.N) (y : S512x1024.Idx) : (win0_5.blk t).view.emb y = ix2 (tok t (y 0)) (y 1) := by
  unfold tok
  blk_ext [idx t]

theorem finalX (c : Dev nD) : (dats m 0 c).arrAt 5 cfg0.N = specX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out m c t]
  exact (readOut m c t (y 0) (y 1)).trans (congrArg (specX (m ((c : Thread nD τ).loc main_arg0)) (m ((c : Thread nD τ).loc main_arg1)) (m ((c : Thread nD τ).loc main_arg2)) (m ((c : Thread nD τ).loc main_arg3)) (m ((c : Thread nD τ).loc main_arg4))) (place t y).symm)

theorem finalG (c : Dev nD) : (dats m 0 c).arrAt 6 cfg0.N = specG (m ((c : Thread nD τ).loc main_arg0)) (m ((c : Thread nD τ).loc main_arg2)) (m ((c : Thread nD τ).loc main_arg4)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => by rw [stepA m c t h]; exact (zero_add _).symm) (fun t h j => by rw [stepB m c t h]) (le_of_eq N_0) t0_15 rfl j, zero_add]
  unfold specG
  refine Fin.sum_mul_add_congr (fun t k hl => ?_) (by have := N_0; change cfg0.N = 16 at this; rw [this])
  exact readDg m c t k (j 1)

end Cert.Kernel11Ideal.Val

end
-- ==== Proof.Claim11.lean ====
module

public import proofs.«01_k».proof.Defs
public import proofs.«01_k».proof.Proof.Val11b
public import proofs.«01_k».proof.Proof.Gen.Reference11Ideal.Read

@[expose] public section

set_option maxRecDepth 16384
set_option maxHeartbeats 400000

noncomputable section

namespace Cert.Kernel11Ideal.Val

open Idealize.ShloMosaic Idealize.ShloMosaic.TcCoe Idealize.SL.Sem
open Cert.Kit (rstd pulled)
open Cert.Reference11Ideal.Read

section Reference

variable (x : FVec Ideal S8192x1024 .f32) (g : FVec Ideal S1024 .f32) (w : FVec Ideal S1024x2048 .f32) (dh : FVec Ideal S8192x1024 .f32) (dy : FVec Ideal S8192x2048 .f32)

theorem refBack (i : Fin 8192) (d : Fin 1024) : val_main_v17 (F := Ideal) w dy (ix2 i d) = back w dy i d := by
  pointwise [val_main_v17]
  rw [Cert.Kit.sum_quads]
  unfold back Cert.Kit.quads token weight
  pointwise

theorem refRoot (i : Fin 8192) (k : Fin 1) : val_main_v7 (F := Ideal) x (ix2 i k) = rstd (fun d => x (ix2 i d)) := by
  unfold rstd
  pointwise [val_main_v7, val_main_v6, val_main_v5, val_main_v4, val_main_v3, val_main_v2, val_main_v1, val_main_v0, val_main_cst, val_main_cst_0, val_main_cst_1]

theorem refScaled (i : Fin 8192) (d : Fin 1024) : val_main_v22 (F := Ideal) g w dy (ix2 i d) = back w dy i d * g (ix1 d) := by
  pointwise [val_main_v22, val_main_v21, val_main_v13]
  rw [refBack]

/-- What the mean of squares sends back to each entry of row `i`, without the entry itself. -/
theorem refMean (i : Fin 8192) (d : Fin 1024) :
    val_main_v34 (F := Ideal) x g w dy (ix2 i d)
      = Ideal.div ((∑ k : Fin 1024, x (ix2 i k) * (back w dy i k * g (ix1 k))) * (Ideal.ofBits FTy.f32 3204448256#32
        * Ideal.div (rstd (fun d => x (ix2 i d))) (Ideal.div (∑ k : Fin 1024, x (ix2 i k) * x (ix2 i k)) (Ideal.ofBits FTy.f32 1149239296#32)
          + Ideal.ofBits FTy.f32 925353388#32))) (Ideal.ofBits FTy.f32 1149239296#32) := by
  pointwise [val_main_v34, val_main_v33, val_main_v32, val_main_v31, val_main_v30, val_main_v26, val_main_v25, val_main_v24, val_main_v10, val_main_v9, val_main_v8,
    val_main_v6, val_main_v5, val_main_v4, val_main_v3, val_main_v2, val_main_v1, val_main_v0, val_main_cst, val_main_cst_0, val_main_cst_1, val_main_cst_2, val_main_cst_5,
    val_main_cst_6, val_main_cst_7]
  simp only [refScaled, refRoot, zero_add, Finset.univ_unique, Finset.sum_singleton]

theorem backReal (hw : ∀ i, ∃ r : ℝ, w i = r) (hd : ∀ i, ∃ r : ℝ, dy i = r) (i : Fin 8192) (d : Fin 1024) : ∃ r : ℝ, back w dy i d = r := by
  unfold back
  exact Cert.Kit.quads_real _ _ (fun _ => hd _) fun _ _ => hw _

/-- The plain formula of the input gradient, token by token. -/
theorem referenceX (hx : ∀ i, ∃ r : ℝ, x i = r) (hg : ∀ i, ∃ r : ℝ, g i = r) (hw : ∀ i, ∃ r : ℝ, w i = r) (hd : ∀ i, ∃ r : ℝ, dy i = r)
    (i : Fin 8192) (d : Fin 1024) : val_main_v38 (F := Ideal) x g w dh dy (ix2 i d) = specX x g w dh dy (ix2 i d) := by
  show _ = pulled (back w dy i) (fun k => g (ix1 k)) (fun k => x (ix2 i k)) (dh (ix2 i d)) d
  rw [Cert.Kit.pull_norm _ _ _ _ _ (fun k => backReal w dy hw hd i k) (fun k => hg _) fun k => hx _]
  pointwise [val_main_v38, val_main_v37, val_main_v36, val_main_v35, val_main_v29, val_main_v28, val_main_v27]
  simp only [refScaled, refRoot, refMean]

/-- The plain formula of the gradient of the scale. -/
theorem referenceG (d : Fin 1024) : val_main_v39 (F := Ideal) x w dy (ix2 (0 : Fin 1) d) = specG x w dy (ix2 (0 : Fin 1) d) := by
  unfold specG
  pointwise [val_main_v39, val_main_v23, val_main_v20, val_main_v19, val_main_v18, val_main_v12, val_main_v11, val_main_cst_3, val_main_cst_4]
  simp only [refBack, refRoot, zero_add, Finset.univ_unique, Finset.sum_singleton]
  exact Finset.sum_congr rfl fun k _ => mul_comm _ _

end Reference

theorem algebraic [Cert.Pre_finite11.Facts] : Cert.algebraic_Kernel11Ideal_Reference11Ideal_pre_finite11 := by
  intro m g m' g' hpre hagree
  refine ⟨fun c => specX (m ((c : Thread nD τ).loc main_arg0)) (m ((c : Thread nD τ).loc main_arg1)) (m ((c : Thread nD τ).loc main_arg2)) (m ((c : Thread nD τ).loc main_arg3)) (m ((c : Thread nD τ).loc main_arg4)), fun c => specG (m ((c : Thread nD τ).loc main_arg0)) (m ((c : Thread nD τ).loc main_arg2)) (m ((c : Thread nD τ).loc main_arg4)),
    (θ_run _ _ _).mono (fun r h c => ⟨(h c).1.trans (finalX m c), (h c).2.1.trans (finalG m c), (h c).2.2.2⟩) (Cert.Kernel11Ideal.Value.run_blocks m g),
    (θ_run _ _ _).mono (fun r h c => ⟨(h c).1.trans ?_, (h c).2.1.trans ?_, (h c).2.2⟩) (Cert.Reference11Ideal.Value.run m' g')⟩
  · obtain ⟨e0, e1, e2, e3, e4⟩ := hagree c
    rw [Cert.Reference11Ideal.Read.val_main_v38_eq, e0, e1, e2, e3, e4]
    obtain ⟨h0, h1, h2, h3⟩ := hpre c
    exact funext fun j => (congrArg _ (eq_ix2 j)).trans <| (referenceX _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (j 0) (j 1)).trans (congrArg _ (eq_ix2 j).symm)
  · obtain ⟨e0, e1, e2, e3, e4⟩ := hagree c
    rw [e0, e2, e4]
    exact funext fun j => (congrArg _ ((eq_ix2 j).trans (congrArg (ix2 · (j 1)) (Subsingleton.elim (α := Fin 1) (j 0) 0)))).trans <|
      (referenceG _ _ _ (j 1)).trans rfl

end Cert.Kernel11Ideal.Val

end
-- ==== Proof.Val12.lean ====
module

public import proofs.«01_k».proof.Proof.Gen.Kernel12Ideal.Value
public import proofs.«01_k».proof.Proof.Kit

@[expose] public section

set_option maxRecDepth 16384
set_option maxHeartbeats 1000000

noncomputable section

namespace Cert.Kernel12Ideal.Val

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

theorem stepA (c : Dev nD) (t : Fin cfg0.N) (h : t.val % 8 = 0) (j : S4x1024x512.Idx) :
    outsAt0 m c t.val t.isLt j = ∑ k : Fin 1024, (show FVec Ideal S1024x1024 .bf16 from iblk m c 0 t) (ix2 k (j 1)) * (show FVec Ideal S1024x2048 .bf16 from iblk m c 1 t) (ix2 k ⟨(j 0).val * 512 + (j 2).val, by idx_bounds; omega⟩) := by
  rw [outsAt0_A m c t h]
  frame_open
  simp (disch := decide) only [↓ View.readCov_skip, ↓ View.readCov_cons_toLoadRect, ↓ View.readCov_fill]
  frame_out
  refine (Cert.Kit.canon_recent _ [_, _, _, _] j (View.cover_of_tiled_head _ _ _ (by rfl) _)).trans ?_
  canon_tiles x h
  all_goals (open_payloads; pointwise; blk_point [])

theorem stepB (c : Dev nD) (t : Fin cfg0.N) (h : ¬t.val % 8 = 0) (j : S4x1024x512.Idx) :
    outsAt0 m c t.val t.isLt j = outsAt0 m c (t.val - 1) (Nat.lt_of_le_of_lt (Nat.sub_le _ _) t.isLt) j
      + ∑ k : Fin 1024, (show FVec Ideal S1024x1024 .bf16 from iblk m c 0 t) (ix2 k (j 1)) * (show FVec Ideal S1024x2048 .bf16 from iblk m c 1 t) (ix2 k ⟨(j 0).val * 512 + (j 2).val, by idx_bounds; omega⟩) := by
  rw [outsAt0_B m c t h]
  frame_open
  simp (disch := decide) only [↓ View.readCov_skip, ↓ View.readCov_cons_toLoadRect, ↓ View.readCov_fill]
  frame_out
  canon_tiles x h
  all_goals (open_payloads; pointwise; blk_point [])

theorem idx : ∀ t : Fin cfg0.N, win0_0.index t = ![t.val, 0] ∧ win0_1.index t = ![t.val, 0] :=
  (by decide +kernel : ∀ t : Fin grid0.N, _)

/-- The column `512 * chip + column` of the weight gradient: the sum over the tokens. -/
def spec (y : FVec Ideal S8192x1024 .f32) (da : FVec Ideal S8192x2048 .f32) : FVec Ideal S4x1024x512 .f32 := fun j =>
  ∑ k : Fin 8192, y (ix2 k (j 1)) * da (ix2 k ⟨(j 0).val * 512 + (j 2).val, by idx_bounds; omega⟩)

theorem final (c : Dev nD) : (dats m 0 c).arrAt 2 cfg0.N = spec (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [stepA m c t h]; exact (zero_add _).symm) (fun t h j => by rw [stepB m c t h]) (le_of_eq N_0) t0_7 rfl j, zero_add]
  unfold spec
  refine Fin.sum_mul_add_congr (fun t k hl => ?_) (by have := N_0; change cfg0.N = 8 at this; rw [this])
  blk_point [iblk, idx t]

end Cert.Kernel12Ideal.Val

end
-- ==== Proof.Claim12.lean ====
module

public import proofs.«01_k».proof.Defs
public import proofs.«01_k».proof.Proof.Val12
public import proofs.«01_k».proof.Proof.Gen.Reference12Ideal.Run

@[expose] public section

set_option maxRecDepth 16384

noncomputable section

namespace Cert.Kernel12Ideal.Val

open Idealize.ShloMosaic Idealize.ShloMosaic.TcCoe Idealize.SL.Sem

open Cert.Reference12Ideal Cert.Reference12Ideal.Gen in
/-- The plain derivative, index by index. -/
theorem reference (y : FVec Ideal Cert.Kernel12Ideal.S8192x1024 .f32) (da : FVec Ideal Cert.Kernel12Ideal.S8192x2048 .f32) :
    transpose S4x1024x512 [1, 0, 2] (shapeCast _ (transpose S1024x2048 [1, 0] (Host.dotGeneral dot_S8192x2048_S8192x1024_S2048x1024_0_0_1_1_n_n none da y) transposes_S2048x1024_S1024x2048_1_0) shapeCasts_S1024x2048_S1024x4x512) transposes_S1024x4x512_S4x1024x512_1_0_2 = spec y da := by
  funext j
  unfold spec
  pointwise
  exact Finset.sum_congr rfl fun k _ => mul_comm _ _

theorem algebraic : Cert.algebraic_Kernel12Ideal_Reference12Ideal := by
  intro m g m' g' hpre hagree
  refine ⟨fun c => spec (m ((c.tc : Thread nD τ).loc main_arg0)) (m ((c.tc : Thread nD τ).loc main_arg1)), (θ_run _ _ _).mono (fun r h c => ⟨(h c).1.trans (final m c), (h c).2⟩) (Cert.Kernel12Ideal.Value.run_blocks m g),
    (θ_run _ _ _).mono (fun r h c => ⟨(h c).1.trans ?_, (h c).2⟩) (Cert.Reference12Ideal.Value.run m' g')⟩
  rw [(hagree c).1, (hagree c).2]
  exact reference _ _

end Cert.Kernel12Ideal.Val

end
-- ==== Proof.Val13.lean ====
module

public import proofs.«01_k».proof.Proof.Gen.Kernel13Ideal.Value
public import proofs.«01_k».proof.Proof.Kit

@[expose] public section

set_option maxRecDepth 16384
set_option maxHeartbeats 1000000

noncomputable section

namespace Cert.Kernel13Ideal.Val

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

theorem stepA (c : Dev nD) (t : Fin cfg0.N) (h : t.val % 8 = 0) (j : S1024x1024.Idx) :
    outsAt0 m c t.val t.isLt j = ∑ k : Fin 1024, (show FVec Ideal S1024x1024 .bf16 from iblk m c 0 t) (ix2 k (j 0)) * (show FVec Ideal S1024x1024 .f32 from iblk m c 1 t) (ix2 k (j 1)) := by
  rw [outsAt0_A m c t h]
  frame_open
  simp (disch := decide) only [↓ View.readCov_skip, ↓ View.readCov_cons_toLoadRect, ↓ View.readCov_fill]
  frame_out
  open_payloads
  pointwise

theorem stepB (c : Dev nD) (t : Fin cfg0.N) (h : ¬t.val % 8 = 0) (j : S1024x1024.Idx) :
    outsAt0 m c t.val t.isLt j = outsAt0 m c (t.val - 1) (Nat.lt_of_le_of_lt (Nat.sub_le _ _) t.isLt) j
      + ∑ k : Fin 1024, (show FVec Ideal S1024x1024 .bf16 from iblk m c 0 t) (ix2 k (j 0)) * (show FVec Ideal S1024x1024 .f32 from iblk m c 1 t) (ix2 k (j 1)) := by
  rw [outsAt0_B m c t h]
  frame_open
  simp (disch := decide) only [↓ View.readCov_skip, ↓ View.readCov_cons_toLoadRect, ↓ View.readCov_fill]
  frame_out
  open_payloads
  pointwise

theorem idx : ∀ t : Fin cfg0.N, win0_0.index t = ![t.val, 0] ∧ win0_1.index t = ![t.val, 0] :=
  (by decide +kernel : ∀ t : Fin grid0.N, _)

/-- Index by index: the sum over the tokens. -/
def spec (y dh : FVec Ideal S8192x1024 .f32) : FVec Ideal S1024x1024 .f32 := fun j =>
  ∑ k : Fin 8192, y (ix2 k (j 0)) * dh (ix2 k (j 1))

theorem final (c : Dev nD) : (dats m 0 c).arrAt 2 cfg0.N = spec (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [stepA m c t h]; exact (zero_add _).symm) (fun t h j => by rw [stepB m c t h]) (le_of_eq N_0) t0_7 rfl j, zero_add]
  unfold spec
  refine Fin.sum_mul_add_congr (fun t k hl => ?_) (by have := N_0; change cfg0.N = 8 at this; rw [this])
  blk_point [iblk, idx t]

end Cert.Kernel13Ideal.Val

end
-- ==== Proof.Claim13.lean ====
module

public import proofs.«01_k».proof.Defs
public import proofs.«01_k».proof.Proof.Val13
public import proofs.«01_k».proof.Proof.Gen.Reference13Ideal.Run

@[expose] public section

set_option maxRecDepth 16384

noncomputable section

namespace Cert.Kernel13Ideal.Val

open Idealize.ShloMosaic Idealize.ShloMosaic.TcCoe Idealize.SL.Sem

open Cert.Reference13Ideal Cert.Reference13Ideal.Gen in
/-- The plain derivative, index by index. -/
theorem reference (y : FVec Ideal Cert.Kernel13Ideal.S8192x1024 .f32) (dh : FVec Ideal Cert.Kernel13Ideal.S8192x1024 .f32) :
    transpose S1024x1024 [1, 0] (Host.dotGeneral dot_S8192x1024_S8192x1024_S1024x1024_0_0_1_1_n_n none dh y) transposes_S1024x1024_S1024x1024_1_0 = spec y dh := by
  funext j
  unfold spec
  pointwise
  exact Finset.sum_congr rfl fun k _ => mul_comm _ _

theorem algebraic : Cert.algebraic_Kernel13Ideal_Reference13Ideal := by
  intro m g m' g' hpre hagree
  refine ⟨fun c => spec (m ((c.tc : Thread nD τ).loc main_arg0)) (m ((c.tc : Thread nD τ).loc main_arg1)), (θ_run _ _ _).mono (fun r h c => ⟨(h c).1.trans (final m c), (h c).2⟩) (Cert.Kernel13Ideal.Value.run_blocks m g),
    (θ_run _ _ _).mono (fun r h c => ⟨(h c).1.trans ?_, (h c).2⟩) (Cert.Reference13Ideal.Value.run m' g')⟩
  rw [(hagree c).1, (hagree c).2]
  exact reference _ _

end Cert.Kernel13Ideal.Val

end
-- ==== Proof.Val14.lean ====
module

public import proofs.«01_k».proof.Proof.Gen.Kernel14Ideal.Value
public import proofs.«01_k».proof.Proof.Kit

@[expose] public section

set_option maxRecDepth 16384
set_option maxHeartbeats 1000000

noncomputable section

namespace Cert.Kernel14Ideal.Val

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

theorem stepA (c : Dev nD) (t : Fin cfg0.N) (h : t.val % 8 = 0) (j : S1024x1024.Idx) :
    outsAt0 m c t.val t.isLt j = ∑ k : Fin 1024, (show FVec Ideal S1024x1024 .bf16 from iblk m c 0 t) (ix2 k (j 0)) * (show FVec Ideal S1024x1024 .bf16 from iblk m c 1 t) (ix2 k (j 1)) := by
  rw [outsAt0_A m c t h]
  frame_open
  simp (disch := decide) only [↓ View.readCov_skip, ↓ View.readCov_cons_toLoadRect, ↓ View.readCov_fill]
  frame_out
  open_payloads
  pointwise

theorem stepB (c : Dev nD) (t : Fin cfg0.N) (h : ¬t.val % 8 = 0) (j : S1024x1024.Idx) :
    outsAt0 m c t.val t.isLt j = outsAt0 m c (t.val - 1) (Nat.lt_of_le_of_lt (Nat.sub_le _ _) t.isLt) j
      + ∑ k : Fin 1024, (show FVec Ideal S1024x1024 .bf16 from iblk m c 0 t) (ix2 k (j 0)) * (show FVec Ideal S1024x1024 .bf16 from iblk m c 1 t) (ix2 k (j 1)) := by
  rw [outsAt0_B m c t h]
  frame_open
  simp (disch := decide) only [↓ View.readCov_skip, ↓ View.readCov_cons_toLoadRect, ↓ View.readCov_fill]
  frame_out
  open_payloads
  pointwise

theorem idx : ∀ t : Fin cfg0.N, win0_0.index t = ![t.val, 0] ∧ win0_1.index t = ![t.val, 0] :=
  (by decide +kernel : ∀ t : Fin grid0.N, _)

/-- Index by index: the sum over the tokens. -/
def spec (y dq : FVec Ideal S8192x1024 .f32) : FVec Ideal S1024x1024 .f32 := fun j =>
  ∑ k : Fin 8192, dq (ix2 k (j 0)) * y (ix2 k (j 1))

theorem final (c : Dev nD) : (dats m 0 c).arrAt 2 cfg0.N = spec (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [stepA m c t h]; exact (zero_add _).symm) (fun t h j => by rw [stepB m c t h]) (le_of_eq N_0) t0_7 rfl j, zero_add]
  unfold spec
  refine Fin.sum_mul_add_congr (fun t k hl => ?_) (by have := N_0; change cfg0.N = 8 at this; rw [this])
  blk_point [iblk, idx t]

end Cert.Kernel14Ideal.Val

end
-- ==== Proof.Claim14.lean ====
module

public import proofs.«01_k».proof.Defs
public import proofs.«01_k».proof.Proof.Val14
public import proofs.«01_k».proof.Proof.Gen.Reference14Ideal.Run

@[expose] public section

set_option maxRecDepth 16384

noncomputable section

namespace Cert.Kernel14Ideal.Val

open Idealize.ShloMosaic Idealize.ShloMosaic.TcCoe Idealize.SL.Sem

open Cert.Reference14Ideal Cert.Reference14Ideal.Gen in
/-- The plain derivative, index by index. -/
theorem reference (y : FVec Ideal Cert.Kernel14Ideal.S8192x1024 .f32) (dq : FVec Ideal Cert.Kernel14Ideal.S8192x1024 .f32) :
    transpose S1024x1024 [1, 0] (transpose S1024x1024 [1, 0] (Host.dotGeneral dot_S8192x1024_S8192x1024_S1024x1024_0_0_1_1_n_n none dq y) transposes_S1024x1024_S1024x1024_1_0) transposes_S1024x1024_S1024x1024_1_0 = spec y dq := by
  funext j
  unfold spec
  pointwise

theorem algebraic : Cert.algebraic_Kernel14Ideal_Reference14Ideal := by
  intro m g m' g' hpre hagree
  refine ⟨fun c => spec (m ((c.tc : Thread nD τ).loc main_arg0)) (m ((c.tc : Thread nD τ).loc main_arg1)), (θ_run _ _ _).mono (fun r h c => ⟨(h c).1.trans (final m c), (h c).2⟩) (Cert.Kernel14Ideal.Value.run_blocks m g),
    (θ_run _ _ _).mono (fun r h c => ⟨(h c).1.trans ?_, (h c).2⟩) (Cert.Reference14Ideal.Value.run m' g')⟩
  rw [(hagree c).1, (hagree c).2]
  exact reference _ _

end Cert.Kernel14Ideal.Val

end
-- ==== Proof.Val15.lean ====
module

public import proofs.«01_k».proof.Proof.Gen.Kernel15Ideal.Value
public import proofs.«01_k».proof.Proof.Kit

@[expose] public section

set_option maxRecDepth 16384
set_option maxHeartbeats 1000000

noncomputable section

namespace Cert.Kernel15Ideal.Val

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

theorem stepA (c : Dev nD) (t : Fin cfg0.N) (h : t.val % 8 = 0) (j : S256x1024.Idx) :
    outsAt0 m c t.val t.isLt j = ∑ k : Fin 1024, (show FVec Ideal S1024x256 .bf16 from iblk m c 0 t) (ix2 k (j 0)) * (show FVec Ideal S1024x1024 .bf16 from iblk m c 1 t) (ix2 k (j 1)) := by
  rw [outsAt0_A m c t h]
  frame_open
  simp (disch := decide) only [↓ View.readCov_skip, ↓ View.readCov_cons_toLoadRect, ↓ View.readCov_fill]
  frame_out
  open_payloads
  pointwise

theorem stepB (c : Dev nD) (t : Fin cfg0.N) (h : ¬t.val % 8 = 0) (j : S256x1024.Idx) :
    outsAt0 m c t.val t.isLt j = outsAt0 m c (t.val - 1) (Nat.lt_of_le_of_lt (Nat.sub_le _ _) t.isLt) j
      + ∑ k : Fin 1024, (show FVec Ideal S1024x256 .bf16 from iblk m c 0 t) (ix2 k (j 0)) * (show FVec Ideal S1024x1024 .bf16 from iblk m c 1 t) (ix2 k (j 1)) := by
  rw [outsAt0_B m c t h]
  frame_open
  simp (disch := decide) only [↓ View.readCov_skip, ↓ View.readCov_cons_toLoadRect, ↓ View.readCov_fill]
  frame_out
  open_payloads
  pointwise

theorem idx : ∀ t : Fin cfg0.N, win0_0.index t = ![t.val, 0] ∧ win0_1.index t = ![t.val, 0] :=
  (by decide +kernel : ∀ t : Fin grid0.N, _)

/-- Index by index: the sum over the tokens. -/
def spec (y : FVec Ideal S8192x1024 .f32) (dkv : FVec Ideal S8192x256 .f32) : FVec Ideal S256x1024 .f32 := fun j =>
  ∑ k : Fin 8192, dkv (ix2 k (j 0)) * y (ix2 k (j 1))

theorem final (c : Dev nD) : (dats m 0 c).arrAt 2 cfg0.N = spec (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) _
    (fun t h j => by rw [stepA m c t h]; exact (zero_add _).symm) (fun t h j => by rw [stepB m c t h]) (le_of_eq N_0) t0_7 rfl j, zero_add]
  unfold spec
  refine Fin.sum_mul_add_congr (fun t k hl => ?_) (by have := N_0; change cfg0.N = 8 at this; rw [this])
  blk_point [iblk, idx t]

end Cert.Kernel15Ideal.Val

end
-- ==== Proof.Claim15.lean ====
module

public import proofs.«01_k».proof.Defs
public import proofs.«01_k».proof.Proof.Val15
public import proofs.«01_k».proof.Proof.Gen.Reference15Ideal.Run

@[expose] public section

set_option maxRecDepth 16384

noncomputable section

namespace Cert.Kernel15Ideal.Val

open Idealize.ShloMosaic Idealize.ShloMosaic.TcCoe Idealize.SL.Sem

open Cert.Reference15Ideal Cert.Reference15Ideal.Gen in
/-- The plain derivative, index by index. -/
theorem reference (y : FVec Ideal Cert.Kernel15Ideal.S8192x1024 .f32) (dkv : FVec Ideal Cert.Kernel15Ideal.S8192x256 .f32) :
    transpose S256x1024 [1, 0] (transpose S1024x256 [1, 0] (Host.dotGeneral dot_S8192x256_S8192x1024_S256x1024_0_0_1_1_n_n none dkv y) transposes_S256x1024_S1024x256_1_0) transposes_S1024x256_S256x1024_1_0 = spec y dkv := by
  funext j
  unfold spec
  pointwise

theorem algebraic : Cert.algebraic_Kernel15Ideal_Reference15Ideal := by
  intro m g m' g' hpre hagree
  refine ⟨fun c => spec (m ((c.tc : Thread nD τ).loc main_arg0)) (m ((c.tc : Thread nD τ).loc main_arg1)), (θ_run _ _ _).mono (fun r h c => ⟨(h c).1.trans (final m c), (h c).2⟩) (Cert.Kernel15Ideal.Value.run_blocks m g),
    (θ_run _ _ _).mono (fun r h c => ⟨(h c).1.trans ?_, (h c).2⟩) (Cert.Reference15Ideal.Value.run m' g')⟩
  rw [(hagree c).1, (hagree c).2]
  exact reference _ _

end Cert.Kernel15Ideal.Val

end
-- ==== Proof.Val16.lean ====
module

public import proofs.«01_k».proof.Proof.Gen.Kernel16Ideal.Value
public import proofs.«01_k».proof.Proof.Kit

@[expose] public section

set_option maxRecDepth 16384
set_option maxHeartbeats 1000000

noncomputable section

namespace Cert.Kernel16Ideal.Val

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The product with the transposed weight, index by index. -/
def spec (w : FVec Ideal S1024x1024 .f32) (dh : FVec Ideal S8192x1024 .f32) : FVec Ideal S8192x1024 .bf16 := fun j =>
  ∑ k : Fin 1024, dh (ix2 (j 0) k) * w (ix2 (j 1) k)

theorem final (c : Dev nD) : (dats m 0 c).arrAt 2 cfg0.N = spec (m ((c : Thread nD τ).loc main_arg0)) (m ((c : Thread nD τ).loc main_arg1)) := by
  refine (dats m 0 c).arrAt_eq_of_covers 2 _ (by decide +kernel) fun t hf y => ?_
  blk_simp [idx t]
  rw [after0_2]
  unfold spec
  frame_out
  unfold k0_pay1
  pointwise
  blk_point [iblk, idx t]

end Cert.Kernel16Ideal.Val

end
-- ==== Proof.Claim16.lean ====
module

public import proofs.«01_k».proof.Defs
public import proofs.«01_k».proof.Proof.Val16
public import proofs.«01_k».proof.Proof.Gen.Reference16Ideal.Run

@[expose] public section

set_option maxRecDepth 16384

noncomputable section

namespace Cert.Kernel16Ideal.Val

open Idealize.ShloMosaic Idealize.ShloMosaic.TcCoe Idealize.SL.Sem

open Cert.Reference16Ideal Cert.Reference16Ideal.Gen in
/-- The plain derivative, index by index. -/
theorem reference (w : FVec Ideal Cert.Kernel16Ideal.S1024x1024 .f32) (dh : FVec Ideal Cert.Kernel16Ideal.S8192x1024 .f32) :
    truncf .bf16 (Host.dotGeneral dot_S8192x1024_S1024x1024_S8192x1024_1_1_0_0_n_n none dh w) bitsLt_bf16_f32 = spec w dh := by
  funext j
  unfold spec
  pointwise

theorem algebraic : Cert.algebraic_Kernel16Ideal_Reference16Ideal := by
  intro m g m' g' hpre hagree
  refine ⟨fun c => spec (m ((c.tc : Thread nD τ).loc main_arg0)) (m ((c.tc : Thread nD τ).loc main_arg1)), (θ_run _ _ _).mono (fun r h c => ⟨(h c).1.trans (final m c), (h c).2⟩) (Cert.Kernel16Ideal.Value.run_blocks m g),
    (θ_run _ _ _).mono (fun r h c => ⟨(h c).1.trans ?_, (h c).2⟩) (Cert.Reference16Ideal.Value.run m' g')⟩
  rw [(hagree c).1, (hagree c).2]
  exact reference _ _

end Cert.Kernel16Ideal.Val

end
-- ==== Proof.Adam.lean ====
module

public import Idealize.ShloMosaic.Lib.Pipeline.ValueKit

@[expose] public section

noncomputable section

/-! One step of the optimiser on one entry of a weight `w` with its gradient `g` and its moments `m` and `v`. The numbers
are the words that reference.py's constants are in float32. -/
namespace Cert.Adam

open Idealize.ShloMosaic

/-- The new first moment, `0.9 m + 0.1 g`. -/
def moment1 (g m : EReal) : EReal :=
  Ideal.ofBits FTy.f32 0x3F666666#32 * m + Ideal.ofBits FTy.f32 0x3DCCCCCD#32 * g

/-- The new second moment, `0.999 v + 0.001 g²`. -/
def moment2 (g v : EReal) : EReal :=
  Ideal.ofBits FTy.f32 0x3F7FBE77#32 * v + Ideal.ofBits FTy.f32 0x3A83126F#32 * (g * g)

/-- The step: the first moment over the root of the second, both without their bias, and the decay of the weight. -/
def delta (w g m v : EReal) : EReal :=
  Ideal.ofBits FTy.f32 0xBA83126F#32 * (Ideal.div (Ideal.div (moment1 g m) (Ideal.ofBits FTy.f32 0x3F26BD02#32))
      (Ideal.sqrt (Ideal.div (moment2 g v) (Ideal.ofBits FTy.f32 0x3C231ACC#32)) + Ideal.ofBits FTy.f32 0x322BCC77#32)
    + Ideal.ofBits FTy.f32 0x3C23D70A#32 * w)

end Cert.Adam

end
-- ==== Proof.Val17.lean ====
module

public import proofs.«01_k».proof.Proof.Gen.Kernel17Ideal.Value
public import proofs.«01_k».proof.Proof.Kit
public import proofs.«01_k».proof.Proof.Adam

@[expose] public section

set_option maxRecDepth 16384
set_option maxHeartbeats 400000

noncomputable section

namespace Cert.Kernel17Ideal.Val

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- An array as the call takes it: the rows of the two layers, one after the other, and the rows of a layer are the columns of its weight. -/
def rows (a : FVec Ideal S2x1024x704 .f32) : FVec Ideal S1408x1024 .f32 := shapeCast _ (transpose S2x704x1024 [0, 2, 1] a transposes_S2x1024x704_S2x704x1024_0_2_1) shapeCasts_S2x704x1024_S1408x1024

/-- One entry of that array. -/
def entry (a : FVec Ideal S2x1024x704 .f32) (j : S1408x1024.Idx) : EReal := rows a j

theorem V0 (c : Dev nD) : V m c (Pipeline.arrRef spec0 0) = rows (m ((c : Thread nD τ).loc main_arg0)) := rfl

theorem V1 (c : Dev nD) : V m c (Pipeline.arrRef spec0 1) = rows (m ((c : Thread nD τ).loc main_arg1)) := rfl

theorem V2 (c : Dev nD) : V m c (Pipeline.arrRef spec0 2) = rows (m ((c : Thread nD τ).loc main_arg2)) := rfl

theorem V3 (c : Dev nD) : V m c (Pipeline.arrRef spec0 3) = rows (m ((c : Thread nD τ).loc main_arg3)) := rfl

theorem read0 (c : Dev nD) (t : Fin cfg0.N) (y : S352x1024.Idx) :
    (show FVec Ideal S352x1024 .f32 from iblk m c 0 t) y = entry (m ((c : Thread nD τ).loc main_arg0)) ((win0_5.blk t).view.emb y) :=
  congrFun (V0 m c) _

theorem read1 (c : Dev nD) (t : Fin cfg0.N) (y : S352x1024.Idx) :
    (show FVec Ideal S352x1024 .f32 from iblk m c 1 t) y = entry (m ((c : Thread nD τ).loc main_arg1)) ((win0_5.blk t).view.emb y) :=
  congrFun (V1 m c) _

theorem read2 (c : Dev nD) (t : Fin cfg0.N) (y : S352x1024.Idx) :
    (show FVec Ideal S352x1024 .f32 from iblk m c 2 t) y = entry (m ((c : Thread nD τ).loc main_arg2)) ((win0_5.blk t).view.emb y) :=
  congrFun (V2 m c) _

theorem read3 (c : Dev nD) (t : Fin cfg0.N) (y : S352x1024.Idx) :
    (show FVec Ideal S352x1024 .f32 from iblk m c 3 t) y = entry (m ((c : Thread nD τ).loc main_arg3)) ((win0_5.blk t).view.emb y) :=
  congrFun (V3 m c) _

def specG (g : FVec Ideal S2x1024x704 .f32) : FVec Ideal S1408x1024 .f32 := fun j => entry g j

def specD (w g mm v : FVec Ideal S2x1024x704 .f32) : FVec Ideal S1408x1024 .f32 := fun j => Adam.delta (entry w j) (entry g j) (entry mm j) (entry v j)

def specM (g mm : FVec Ideal S2x1024x704 .f32) : FVec Ideal S1408x1024 .f32 := fun j => Adam.moment1 (entry g j) (entry mm j)

def specV (g v : FVec Ideal S2x1024x704 .f32) : FVec Ideal S1408x1024 .f32 := fun j => Adam.moment2 (entry g j) (entry v j)

theorem outG (c : Dev nD) (t : Fin cfg0.N) (y : S352x1024.Idx) : (show FVec Ideal S352x1024 .f32 from (dats m 0 c).after 4 t) y
    = (show FVec Ideal S352x1024 .f32 from iblk m c 1 t) y := by
  rw [after0_4]
  frame_out
  open_payloads
  pointwise

theorem finalG (c : Dev nD) : (dats m 0 c).arrAt 4 cfg0.N = specG (m ((c : Thread nD τ).loc main_arg1)) := by
  refine (dats m 0 c).arrAt_eq_of_covers 4 _ (by decide +kernel) fun t hf y => ?_
  blk_simp
  refine (outG m c t y).trans ?_
  rw [read1]
  rfl

theorem outD (c : Dev nD) (t : Fin cfg0.N) (y : S352x1024.Idx) : (show FVec Ideal S352x1024 .f32 from (dats m 0 c).after 5 t) y
    = Adam.delta ((show FVec Ideal S352x1024 .f32 from iblk m c 0 t) y) ((show FVec Ideal S352x1024 .f32 from iblk m c 1 t) y) ((show FVec Ideal S352x1024 .f32 from iblk m c 2 t) y) ((show FVec Ideal S352x1024 .f32 from iblk m c 3 t) y) := by
  rw [after0_5]
  unfold Adam.delta Adam.moment1 Adam.moment2
  frame_out
  open_payloads
  pointwise

theorem finalD (c : Dev nD) : (dats m 0 c).arrAt 5 cfg0.N = specD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  refine (outD m c t y).trans ?_
  rw [read0, read1, read2, read3]
  rfl

theorem outM (c : Dev nD) (t : Fin cfg0.N) (y : S352x1024.Idx) : (show FVec Ideal S352x1024 .f32 from (dats m 0 c).after 6 t) y
    = Adam.moment1 ((show FVec Ideal S352x1024 .f32 from iblk m c 1 t) y) ((show FVec Ideal S352x1024 .f32 from iblk m c 2 t) y) := by
  rw [after0_6]
  unfold Adam.moment1
  frame_out
  open_payloads
  pointwise

theorem finalM (c : Dev nD) : (dats m 0 c).arrAt 6 cfg0.N = specM (m ((c : Thread nD τ).loc main_arg1)) (m ((c : Thread nD τ).loc main_arg2)) := by
  refine (dats m 0 c).arrAt_eq_of_covers 6 _ (by decide +kernel) fun t hf y => ?_
  blk_simp
  refine (outM m c t y).trans ?_
  rw [read1, read2]
  rfl

theorem outV (c : Dev nD) (t : Fin cfg0.N) (y : S352x1024.Idx) : (show FVec Ideal S352x1024 .f32 from (dats m 0 c).after 7 t) y
    = Adam.moment2 ((show FVec Ideal S352x1024 .f32 from iblk m c 1 t) y) ((show FVec Ideal S352x1024 .f32 from iblk m c 3 t) y) := by
  rw [after0_7]
  unfold Adam.moment2
  frame_out
  open_payloads
  pointwise

theorem finalV (c : Dev nD) : (dats m 0 c).arrAt 7 cfg0.N = specV (m ((c : Thread nD τ).loc main_arg1)) (m ((c : Thread nD τ).loc main_arg3)) := by
  refine (dats m 0 c).arrAt_eq_of_covers 7 _ (by decide +kernel) fun t hf y => ?_
  blk_simp
  refine (outV m c t y).trans ?_
  rw [read1, read3]
  rfl

end Cert.Kernel17Ideal.Val

end
-- ==== Proof.Claim17.lean ====
module

public import proofs.«01_k».proof.Defs
public import proofs.«01_k».proof.Proof.Val17
public import proofs.«01_k».proof.Proof.Gen.Reference17Ideal.Run

@[expose] public section

set_option maxRecDepth 16384

noncomputable section

namespace Cert.Kernel17Ideal.Val

open Idealize.ShloMosaic Idealize.ShloMosaic.TcCoe Idealize.SL.Sem

open Cert.Reference17Ideal Cert.Reference17Ideal.Gen in
theorem referenceG (g : FVec Ideal Cert.Kernel17Ideal.S2x1024x704 .f32) :
    shapeCast _ (transpose S2x704x1024 [0, 2, 1] g transposes_S2x1024x704_S2x704x1024_0_2_1) shapeCasts_S2x704x1024_S1408x1024 = specG g := by
  funext j
  unfold specG entry rows
  pointwise

open Cert.Reference17Ideal Cert.Reference17Ideal.Gen in
theorem referenceD (w g mm v : FVec Ideal Cert.Kernel17Ideal.S2x1024x704 .f32) :
    shapeCast _ (transpose S2x704x1024 [0, 2, 1] (mulf (broadcastInDim S2x1024x704 ![] bcast_S_S2x1024x704 (constant S_ .f32 0xBA83126F#32)) (addf (Host.divf (Host.divf (addf (mulf (broadcastInDim S2x1024x704 ![] bcast_S_S2x1024x704 (constant S_ .f32 0x3F666666#32)) mm) (mulf (broadcastInDim S2x1024x704 ![] bcast_S_S2x1024x704 (constant S_ .f32 0x3DCCCCCD#32)) g)) (broadcastInDim S2x1024x704 ![] bcast_S_S2x1024x704 (constant S_ .f32 0x3F26BD02#32))) (addf (Host.sqrt (Host.divf (addf (mulf (broadcastInDim S2x1024x704 ![] bcast_S_S2x1024x704 (constant S_ .f32 0x3F7FBE77#32)) v) (mulf (broadcastInDim S2x1024x704 ![] bcast_S_S2x1024x704 (constant S_ .f32 0x3A83126F#32)) (mulf g g))) (broadcastInDim S2x1024x704 ![] bcast_S_S2x1024x704 (constant S_ .f32 0x3C231ACC#32)))) (broadcastInDim S2x1024x704 ![] bcast_S_S2x1024x704 (constant S_ .f32 0x322BCC77#32)))) (mulf (broadcastInDim S2x1024x704 ![] bcast_S_S2x1024x704 (constant S_ .f32 0x3C23D70A#32)) w))) transposes_S2x1024x704_S2x704x1024_0_2_1) shapeCasts_S2x704x1024_S1408x1024 = specD w g mm v := by
  funext j
  unfold specD Adam.delta Adam.moment1 Adam.moment2 entry rows
  pointwise

open Cert.Reference17Ideal Cert.Reference17Ideal.Gen in
theorem referenceM (g mm : FVec Ideal Cert.Kernel17Ideal.S2x1024x704 .f32) :
    shapeCast _ (transpose S2x704x1024 [0, 2, 1] (addf (mulf (broadcastInDim S2x1024x704 ![] bcast_S_S2x1024x704 (constant S_ .f32 0x3F666666#32)) mm) (mulf (broadcastInDim S2x1024x704 ![] bcast_S_S2x1024x704 (constant S_ .f32 0x3DCCCCCD#32)) g)) transposes_S2x1024x704_S2x704x1024_0_2_1) shapeCasts_S2x704x1024_S1408x1024 = specM g mm := by
  funext j
  unfold specM Adam.moment1 entry rows
  pointwise

open Cert.Reference17Ideal Cert.Reference17Ideal.Gen in
theorem referenceV (g v : FVec Ideal Cert.Kernel17Ideal.S2x1024x704 .f32) :
    shapeCast _ (transpose S2x704x1024 [0, 2, 1] (addf (mulf (broadcastInDim S2x1024x704 ![] bcast_S_S2x1024x704 (constant S_ .f32 0x3F7FBE77#32)) v) (mulf (broadcastInDim S2x1024x704 ![] bcast_S_S2x1024x704 (constant S_ .f32 0x3A83126F#32)) (mulf g g))) transposes_S2x1024x704_S2x704x1024_0_2_1) shapeCasts_S2x704x1024_S1408x1024 = specV g v := by
  funext j
  unfold specV Adam.moment2 entry rows
  pointwise

theorem algebraic : Cert.algebraic_Kernel17Ideal_Reference17Ideal := by
  intro m g m' g' hpre hagree
  refine ⟨fun c => specG (m ((c.tc : Thread nD τ).loc main_arg1)), fun c => specD (m ((c.tc : Thread nD τ).loc main_arg0)) (m ((c.tc : Thread nD τ).loc main_arg1)) (m ((c.tc : Thread nD τ).loc main_arg2)) (m ((c.tc : Thread nD τ).loc main_arg3)), fun c => specM (m ((c.tc : Thread nD τ).loc main_arg1)) (m ((c.tc : Thread nD τ).loc main_arg2)), fun c => specV (m ((c.tc : Thread nD τ).loc main_arg1)) (m ((c.tc : Thread nD τ).loc main_arg3)),
    (θ_run _ _ _).mono (fun r h c => ⟨(h c).1.trans (finalG m c), (h c).2.1.trans (finalD m c), (h c).2.2.1.trans (finalM m c), (h c).2.2.2.1.trans (finalV m c), (h c).2.2.2.2⟩) (Cert.Kernel17Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference17Ideal.Value.run m' g')⟩
  · rw [(hagree c).2.1]
    exact referenceG _
  · rw [(hagree c).1, (hagree c).2.1, (hagree c).2.2.1, (hagree c).2.2.2]
    exact referenceD _ _ _ _
  · rw [(hagree c).2.1, (hagree c).2.2.1]
    exact referenceM _ _
  · rw [(hagree c).2.1, (hagree c).2.2.2]
    exact referenceV _ _

end Cert.Kernel17Ideal.Val

end
-- ==== Proof.Val18.lean ====
module

public import proofs.«01_k».proof.Proof.Gen.Kernel18Ideal.Value
public import proofs.«01_k».proof.Proof.Kit
public import proofs.«01_k».proof.Proof.Adam

@[expose] public section

set_option maxRecDepth 16384
set_option maxHeartbeats 400000

noncomputable section

namespace Cert.Kernel18Ideal.Val

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- An array as the call takes it: the rows of the two layers, one after the other. -/
def rows (a : FVec Ideal S2x704x1024 .f32) : FVec Ideal S1408x1024 .f32 := shapeCast _ a shapeCasts_S2x704x1024_S1408x1024

/-- One entry of that array. -/
def entry (a : FVec Ideal S2x704x1024 .f32) (j : S1408x1024.Idx) : EReal := rows a j

theorem V0 (c : Dev nD) : V m c (Pipeline.arrRef spec0 0) = rows (m ((c : Thread nD τ).loc main_arg0)) := rfl

theorem V1 (c : Dev nD) : V m c (Pipeline.arrRef spec0 1) = rows (m ((c : Thread nD τ).loc main_arg1)) := rfl

theorem V2 (c : Dev nD) : V m c (Pipeline.arrRef spec0 2) = rows (m ((c : Thread nD τ).loc main_arg2)) := rfl

theorem V3 (c : Dev nD) : V m c (Pipeline.arrRef spec0 3) = rows (m ((c : Thread nD τ).loc main_arg3)) := rfl

theorem read0 (c : Dev nD) (t : Fin cfg0.N) (y : S352x1024.Idx) :
    (show FVec Ideal S352x1024 .f32 from iblk m c 0 t) y = entry (m ((c : Thread nD τ).loc main_arg0)) ((win0_5.blk t).view.emb y) :=
  congrFun (V0 m c) _

theorem read1 (c : Dev nD) (t : Fin cfg0.N) (y : S352x1024.Idx) :
    (show FVec Ideal S352x1024 .f32 from iblk m c 1 t) y = entry (m ((c : Thread nD τ).loc main_arg1)) ((win0_5.blk t).view.emb y) :=
  congrFun (V1 m c) _

theorem read2 (c : Dev nD) (t : Fin cfg0.N) (y : S352x1024.Idx) :
    (show FVec Ideal S352x1024 .f32 from iblk m c 2 t) y = entry (m ((c : Thread nD τ).loc main_arg2)) ((win0_5.blk t).view.emb y) :=
  congrFun (V2 m c) _

theorem read3 (c : Dev nD) (t : Fin cfg0.N) (y : S352x1024.Idx) :
    (show FVec Ideal S352x1024 .f32 from iblk m c 3 t) y = entry (m ((c : Thread nD τ).loc main_arg3)) ((win0_5.blk t).view.emb y) :=
  congrFun (V3 m c) _

def specG (g : FVec Ideal S2x704x1024 .f32) : FVec Ideal S1408x1024 .f32 := fun j => entry g j

def specD (w g mm v : FVec Ideal S2x704x1024 .f32) : FVec Ideal S1408x1024 .f32 := fun j => Adam.delta (entry w j) (entry g j) (entry mm j) (entry v j)

def specM (g mm : FVec Ideal S2x704x1024 .f32) : FVec Ideal S1408x1024 .f32 := fun j => Adam.moment1 (entry g j) (entry mm j)

def specV (g v : FVec Ideal S2x704x1024 .f32) : FVec Ideal S1408x1024 .f32 := fun j => Adam.moment2 (entry g j) (entry v j)

theorem outG (c : Dev nD) (t : Fin cfg0.N) (y : S352x1024.Idx) : (show FVec Ideal S352x1024 .f32 from (dats m 0 c).after 4 t) y
    = (show FVec Ideal S352x1024 .f32 from iblk m c 1 t) y := by
  rw [after0_4]
  frame_out
  open_payloads
  pointwise

theorem finalG (c : Dev nD) : (dats m 0 c).arrAt 4 cfg0.N = specG (m ((c : Thread nD τ).loc main_arg1)) := by
  refine (dats m 0 c).arrAt_eq_of_covers 4 _ (by decide +kernel) fun t hf y => ?_
  blk_simp
  refine (outG m c t y).trans ?_
  rw [read1]
  rfl

theorem outD (c : Dev nD) (t : Fin cfg0.N) (y : S352x1024.Idx) : (show FVec Ideal S352x1024 .f32 from (dats m 0 c).after 5 t) y
    = Adam.delta ((show FVec Ideal S352x1024 .f32 from iblk m c 0 t) y) ((show FVec Ideal S352x1024 .f32 from iblk m c 1 t) y) ((show FVec Ideal S352x1024 .f32 from iblk m c 2 t) y) ((show FVec Ideal S352x1024 .f32 from iblk m c 3 t) y) := by
  rw [after0_5]
  unfold Adam.delta Adam.moment1 Adam.moment2
  frame_out
  open_payloads
  pointwise

theorem finalD (c : Dev nD) : (dats m 0 c).arrAt 5 cfg0.N = specD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  refine (outD m c t y).trans ?_
  rw [read0, read1, read2, read3]
  rfl

theorem outM (c : Dev nD) (t : Fin cfg0.N) (y : S352x1024.Idx) : (show FVec Ideal S352x1024 .f32 from (dats m 0 c).after 6 t) y
    = Adam.moment1 ((show FVec Ideal S352x1024 .f32 from iblk m c 1 t) y) ((show FVec Ideal S352x1024 .f32 from iblk m c 2 t) y) := by
  rw [after0_6]
  unfold Adam.moment1
  frame_out
  open_payloads
  pointwise

theorem finalM (c : Dev nD) : (dats m 0 c).arrAt 6 cfg0.N = specM (m ((c : Thread nD τ).loc main_arg1)) (m ((c : Thread nD τ).loc main_arg2)) := by
  refine (dats m 0 c).arrAt_eq_of_covers 6 _ (by decide +kernel) fun t hf y => ?_
  blk_simp
  refine (outM m c t y).trans ?_
  rw [read1, read2]
  rfl

theorem outV (c : Dev nD) (t : Fin cfg0.N) (y : S352x1024.Idx) : (show FVec Ideal S352x1024 .f32 from (dats m 0 c).after 7 t) y
    = Adam.moment2 ((show FVec Ideal S352x1024 .f32 from iblk m c 1 t) y) ((show FVec Ideal S352x1024 .f32 from iblk m c 3 t) y) := by
  rw [after0_7]
  unfold Adam.moment2
  frame_out
  open_payloads
  pointwise

theorem finalV (c : Dev nD) : (dats m 0 c).arrAt 7 cfg0.N = specV (m ((c : Thread nD τ).loc main_arg1)) (m ((c : Thread nD τ).loc main_arg3)) := by
  refine (dats m 0 c).arrAt_eq_of_covers 7 _ (by decide +kernel) fun t hf y => ?_
  blk_simp
  refine (outV m c t y).trans ?_
  rw [read1, read3]
  rfl

end Cert.Kernel18Ideal.Val

end
-- ==== Proof.Claim18.lean ====
module

public import proofs.«01_k».proof.Defs
public import proofs.«01_k».proof.Proof.Val18
public import proofs.«01_k».proof.Proof.Gen.Reference18Ideal.Run

@[expose] public section

set_option maxRecDepth 16384

noncomputable section

namespace Cert.Kernel18Ideal.Val

open Idealize.ShloMosaic Idealize.ShloMosaic.TcCoe Idealize.SL.Sem

open Cert.Reference18Ideal Cert.Reference18Ideal.Gen in
theorem referenceG (g : FVec Ideal Cert.Kernel18Ideal.S2x704x1024 .f32) :
    shapeCast _ g shapeCasts_S2x704x1024_S1408x1024 = specG g := by
  funext j
  unfold specG entry rows
  pointwise

open Cert.Reference18Ideal Cert.Reference18Ideal.Gen in
theorem referenceD (w g mm v : FVec Ideal Cert.Kernel18Ideal.S2x704x1024 .f32) :
    shapeCast _ (mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) mm) (mulf (broadcastInDim S2x704x1024 ![] bcast_S_S2x704x1024 (constant S_ .f32 0x3DCCCCCD#32)) g)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) v) (mulf (broadcastInDim S2x704x1024 ![] bcast_S_S2x704x1024 (constant S_ .f32 0x3A83126F#32)) (mulf g g))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) w))) shapeCasts_S2x704x1024_S1408x1024 = specD w g mm v := by
  funext j
  unfold specD Adam.delta Adam.moment1 Adam.moment2 entry rows
  pointwise

open Cert.Reference18Ideal Cert.Reference18Ideal.Gen in
theorem referenceM (g mm : FVec Ideal Cert.Kernel18Ideal.S2x704x1024 .f32) :
    shapeCast _ (addf (mulf (broadcastInDim S2x704x1024 ![] bcast_S_S2x704x1024 (constant S_ .f32 0x3F666666#32)) mm) (mulf (broadcastInDim S2x704x1024 ![] bcast_S_S2x704x1024 (constant S_ .f32 0x3DCCCCCD#32)) g)) shapeCasts_S2x704x1024_S1408x1024 = specM g mm := by
  funext j
  unfold specM Adam.moment1 entry rows
  pointwise

open Cert.Reference18Ideal Cert.Reference18Ideal.Gen in
theorem referenceV (g v : FVec Ideal Cert.Kernel18Ideal.S2x704x1024 .f32) :
    shapeCast _ (addf (mulf (broadcastInDim S2x704x1024 ![] bcast_S_S2x704x1024 (constant S_ .f32 0x3F7FBE77#32)) v) (mulf (broadcastInDim S2x704x1024 ![] bcast_S_S2x704x1024 (constant S_ .f32 0x3A83126F#32)) (mulf g g))) shapeCasts_S2x704x1024_S1408x1024 = specV g v := by
  funext j
  unfold specV Adam.moment2 entry rows
  pointwise

theorem algebraic : Cert.algebraic_Kernel18Ideal_Reference18Ideal := by
  intro m g m' g' hpre hagree
  refine ⟨fun c => specG (m ((c.tc : Thread nD τ).loc main_arg1)), fun c => specD (m ((c.tc : Thread nD τ).loc main_arg0)) (m ((c.tc : Thread nD τ).loc main_arg1)) (m ((c.tc : Thread nD τ).loc main_arg2)) (m ((c.tc : Thread nD τ).loc main_arg3)), fun c => specM (m ((c.tc : Thread nD τ).loc main_arg1)) (m ((c.tc : Thread nD τ).loc main_arg2)), fun c => specV (m ((c.tc : Thread nD τ).loc main_arg1)) (m ((c.tc : Thread nD τ).loc main_arg3)),
    (θ_run _ _ _).mono (fun r h c => ⟨(h c).1.trans (finalG m c), (h c).2.1.trans (finalD m c), (h c).2.2.1.trans (finalM m c), (h c).2.2.2.1.trans (finalV m c), (h c).2.2.2.2⟩) (Cert.Kernel18Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference18Ideal.Value.run m' g')⟩
  · rw [(hagree c).2.1]
    exact referenceG _
  · rw [(hagree c).1, (hagree c).2.1, (hagree c).2.2.1, (hagree c).2.2.2]
    exact referenceD _ _ _ _
  · rw [(hagree c).2.1, (hagree c).2.2.1]
    exact referenceM _ _
  · rw [(hagree c).2.1, (hagree c).2.2.2]
    exact referenceV _ _

end Cert.Kernel18Ideal.Val

end
-- ==== Proof.Val19.lean ====
module

public import proofs.«01_k».proof.Proof.Gen.Kernel19Ideal.Value
public import proofs.«01_k».proof.Proof.Kit
public import proofs.«01_k».proof.Proof.Adam

@[expose] public section

set_option maxRecDepth 16384
set_option maxHeartbeats 400000

noncomputable section

namespace Cert.Kernel19Ideal.Val

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- An array as the call takes it: the rows are the columns of the weight. -/
def entry (a : FVec Ideal S1x1024x320 .f32) (j : S320x1024.Idx) : EReal := a (ix3 (0 : Fin 1) (j 1) (j 0))

def specG (g : FVec Ideal S1x1024x320 .f32) : FVec Ideal S320x1024 .f32 := fun j => entry g j

def specD (w g mm v : FVec Ideal S1x1024x320 .f32) : FVec Ideal S320x1024 .f32 := fun j => Adam.delta (entry w j) (entry g j) (entry mm j) (entry v j)

def specM (g mm : FVec Ideal S1x1024x320 .f32) : FVec Ideal S320x1024 .f32 := fun j => Adam.moment1 (entry g j) (entry mm j)

def specV (g v : FVec Ideal S1x1024x320 .f32) : FVec Ideal S320x1024 .f32 := fun j => Adam.moment2 (entry g j) (entry v j)

theorem finalG (c : Dev nD) : (dats m 0 c).arrAt 4 cfg0.N = specG (m ((c : Thread nD τ).loc main_arg1)) := by
  refine (dats m 0 c).arrAt_eq_of_covers 4 _ (by decide +kernel) fun t hf y => ?_
  blk_simp [idx t]
  rw [after0_4]
  unfold specG entry
  frame_out
  open_payloads
  pointwise
  blk_point [iblk, idx t]

theorem finalD (c : Dev nD) : (dats m 0 c).arrAt 5 cfg0.N = specD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5]
  unfold specD Adam.delta Adam.moment1 Adam.moment2 entry
  frame_out
  open_payloads
  pointwise
  blk_point [iblk, idx t]

theorem finalM (c : Dev nD) : (dats m 0 c).arrAt 6 cfg0.N = specM (m ((c : Thread nD τ).loc main_arg1)) (m ((c : Thread nD τ).loc main_arg2)) := by
  refine (dats m 0 c).arrAt_eq_of_covers 6 _ (by decide +kernel) fun t hf y => ?_
  blk_simp [idx t]
  rw [after0_6]
  unfold specM Adam.moment1 entry
  frame_out
  open_payloads
  pointwise
  blk_point [iblk, idx t]

theorem finalV (c : Dev nD) : (dats m 0 c).arrAt 7 cfg0.N = specV (m ((c : Thread nD τ).loc main_arg1)) (m ((c : Thread nD τ).loc main_arg3)) := by
  refine (dats m 0 c).arrAt_eq_of_covers 7 _ (by decide +kernel) fun t hf y => ?_
  blk_simp [idx t]
  rw [after0_7]
  unfold specV Adam.moment2 entry
  frame_out
  open_payloads
  pointwise
  blk_point [iblk, idx t]

end Cert.Kernel19Ideal.Val

end
-- ==== Proof.Claim19.lean ====
module

public import proofs.«01_k».proof.Defs
public import proofs.«01_k».proof.Proof.Val19
public import proofs.«01_k».proof.Proof.Gen.Reference19Ideal.Run

@[expose] public section

set_option maxRecDepth 16384

noncomputable section

namespace Cert.Kernel19Ideal.Val

open Idealize.ShloMosaic Idealize.ShloMosaic.TcCoe Idealize.SL.Sem

open Cert.Reference19Ideal Cert.Reference19Ideal.Gen in
theorem referenceG (g : FVec Ideal Cert.Kernel19Ideal.S1x1024x320 .f32) :
    transpose S320x1024 [1, 0] (shapeCast _ g shapeCasts_S1x1024x320_S1024x320) transposes_S1024x320_S320x1024_1_0 = specG g := by
  funext j
  unfold specG entry
  pointwise

open Cert.Reference19Ideal Cert.Reference19Ideal.Gen in
theorem referenceD (w g mm v : FVec Ideal Cert.Kernel19Ideal.S1x1024x320 .f32) :
    transpose S320x1024 [1, 0] (shapeCast _ (mulf (broadcastInDim S1x1024x320 ![] bcast_S_S1x1024x320 (constant S_ .f32 0xBA83126F#32)) (addf (Host.divf (Host.divf (addf (mulf (broadcastInDim S1x1024x320 ![] bcast_S_S1x1024x320 (constant S_ .f32 0x3F666666#32)) mm) (mulf (broadcastInDim S1x1024x320 ![] bcast_S_S1x1024x320 (constant S_ .f32 0x3DCCCCCD#32)) g)) (broadcastInDim S1x1024x320 ![] bcast_S_S1x1024x320 (constant S_ .f32 0x3F26BD02#32))) (addf (Host.sqrt (Host.divf (addf (mulf (broadcastInDim S1x1024x320 ![] bcast_S_S1x1024x320 (constant S_ .f32 0x3F7FBE77#32)) v) (mulf (broadcastInDim S1x1024x320 ![] bcast_S_S1x1024x320 (constant S_ .f32 0x3A83126F#32)) (mulf g g))) (broadcastInDim S1x1024x320 ![] bcast_S_S1x1024x320 (constant S_ .f32 0x3C231ACC#32)))) (broadcastInDim S1x1024x320 ![] bcast_S_S1x1024x320 (constant S_ .f32 0x322BCC77#32)))) (mulf (broadcastInDim S1x1024x320 ![] bcast_S_S1x1024x320 (constant S_ .f32 0x3C23D70A#32)) w))) shapeCasts_S1x1024x320_S1024x320) transposes_S1024x320_S320x1024_1_0 = specD w g mm v := by
  funext j
  unfold specD Adam.delta Adam.moment1 Adam.moment2 entry
  pointwise

open Cert.Reference19Ideal Cert.Reference19Ideal.Gen in
theorem referenceM (g mm : FVec Ideal Cert.Kernel19Ideal.S1x1024x320 .f32) :
    transpose S320x1024 [1, 0] (shapeCast _ (addf (mulf (broadcastInDim S1x1024x320 ![] bcast_S_S1x1024x320 (constant S_ .f32 0x3F666666#32)) mm) (mulf (broadcastInDim S1x1024x320 ![] bcast_S_S1x1024x320 (constant S_ .f32 0x3DCCCCCD#32)) g)) shapeCasts_S1x1024x320_S1024x320) transposes_S1024x320_S320x1024_1_0 = specM g mm := by
  funext j
  unfold specM Adam.moment1 entry
  pointwise

open Cert.Reference19Ideal Cert.Reference19Ideal.Gen in
theorem referenceV (g v : FVec Ideal Cert.Kernel19Ideal.S1x1024x320 .f32) :
    transpose S320x1024 [1, 0] (shapeCast _ (addf (mulf (broadcastInDim S1x1024x320 ![] bcast_S_S1x1024x320 (constant S_ .f32 0x3F7FBE77#32)) v) (mulf (broadcastInDim S1x1024x320 ![] bcast_S_S1x1024x320 (constant S_ .f32 0x3A83126F#32)) (mulf g g))) shapeCasts_S1x1024x320_S1024x320) transposes_S1024x320_S320x1024_1_0 = specV g v := by
  funext j
  unfold specV Adam.moment2 entry
  pointwise

theorem algebraic : Cert.algebraic_Kernel19Ideal_Reference19Ideal := by
  intro m g m' g' hpre hagree
  refine ⟨fun c => specG (m ((c.tc : Thread nD τ).loc main_arg1)), fun c => specD (m ((c.tc : Thread nD τ).loc main_arg0)) (m ((c.tc : Thread nD τ).loc main_arg1)) (m ((c.tc : Thread nD τ).loc main_arg2)) (m ((c.tc : Thread nD τ).loc main_arg3)), fun c => specM (m ((c.tc : Thread nD τ).loc main_arg1)) (m ((c.tc : Thread nD τ).loc main_arg2)), fun c => specV (m ((c.tc : Thread nD τ).loc main_arg1)) (m ((c.tc : Thread nD τ).loc main_arg3)),
    (θ_run _ _ _).mono (fun r h c => ⟨(h c).1.trans (finalG m c), (h c).2.1.trans (finalD m c), (h c).2.2.1.trans (finalM m c), (h c).2.2.2.1.trans (finalV m c), (h c).2.2.2.2⟩) (Cert.Kernel19Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference19Ideal.Value.run m' g')⟩
  · rw [(hagree c).2.1]
    exact referenceG _
  · rw [(hagree c).1, (hagree c).2.1, (hagree c).2.2.1, (hagree c).2.2.2]
    exact referenceD _ _ _ _
  · rw [(hagree c).2.1, (hagree c).2.2.1]
    exact referenceM _ _
  · rw [(hagree c).2.1, (hagree c).2.2.2]
    exact referenceV _ _

end Cert.Kernel19Ideal.Val

end
-- ==== Proof.Val20.lean ====
module

public import proofs.«01_k».proof.Proof.Gen.Kernel20Ideal.Value
public import proofs.«01_k».proof.Proof.Kit
public import proofs.«01_k».proof.Proof.Adam

@[expose] public section

set_option maxRecDepth 16384
set_option maxHeartbeats 400000

noncomputable section

namespace Cert.Kernel20Ideal.Val

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- An array as the call takes it: the rows of the weight. -/
def entry (a : FVec Ideal S1x256x1024 .f32) (j : S256x1024.Idx) : EReal := a (ix3 (0 : Fin 1) (j 0) (j 1))

def specG (g : FVec Ideal S1x256x1024 .f32) : FVec Ideal S256x1024 .f32 := fun j => entry g j

def specD (w g mm v : FVec Ideal S1x256x1024 .f32) : FVec Ideal S256x1024 .f32 := fun j => Adam.delta (entry w j) (entry g j) (entry mm j) (entry v j)

def specM (g mm : FVec Ideal S1x256x1024 .f32) : FVec Ideal S256x1024 .f32 := fun j => Adam.moment1 (entry g j) (entry mm j)

def specV (g v : FVec Ideal S1x256x1024 .f32) : FVec Ideal S256x1024 .f32 := fun j => Adam.moment2 (entry g j) (entry v j)

theorem finalG (c : Dev nD) : (dats m 0 c).arrAt 4 cfg0.N = specG (m ((c : Thread nD τ).loc main_arg1)) := by
  refine (dats m 0 c).arrAt_eq_of_covers 4 _ (by decide +kernel) fun t hf y => ?_
  blk_simp [idx t]
  rw [after0_4]
  unfold specG entry
  frame_out
  open_payloads
  pointwise
  blk_point [iblk, idx t]

theorem finalD (c : Dev nD) : (dats m 0 c).arrAt 5 cfg0.N = specD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5]
  unfold specD Adam.delta Adam.moment1 Adam.moment2 entry
  frame_out
  open_payloads
  pointwise
  blk_point [iblk, idx t]

theorem finalM (c : Dev nD) : (dats m 0 c).arrAt 6 cfg0.N = specM (m ((c : Thread nD τ).loc main_arg1)) (m ((c : Thread nD τ).loc main_arg2)) := by
  refine (dats m 0 c).arrAt_eq_of_covers 6 _ (by decide +kernel) fun t hf y => ?_
  blk_simp [idx t]
  rw [after0_6]
  unfold specM Adam.moment1 entry
  frame_out
  open_payloads
  pointwise
  blk_point [iblk, idx t]

theorem finalV (c : Dev nD) : (dats m 0 c).arrAt 7 cfg0.N = specV (m ((c : Thread nD τ).loc main_arg1)) (m ((c : Thread nD τ).loc main_arg3)) := by
  refine (dats m 0 c).arrAt_eq_of_covers 7 _ (by decide +kernel) fun t hf y => ?_
  blk_simp [idx t]
  rw [after0_7]
  unfold specV Adam.moment2 entry
  frame_out
  open_payloads
  pointwise
  blk_point [iblk, idx t]

end Cert.Kernel20Ideal.Val

end
-- ==== Proof.Claim20.lean ====
module

public import proofs.«01_k».proof.Defs
public import proofs.«01_k».proof.Proof.Val20
public import proofs.«01_k».proof.Proof.Gen.Reference20Ideal.Run

@[expose] public section

set_option maxRecDepth 16384

noncomputable section

namespace Cert.Kernel20Ideal.Val

open Idealize.ShloMosaic Idealize.ShloMosaic.TcCoe Idealize.SL.Sem

open Cert.Reference20Ideal Cert.Reference20Ideal.Gen in
theorem referenceG (g : FVec Ideal Cert.Kernel20Ideal.S1x256x1024 .f32) :
    shapeCast _ g shapeCasts_S1x256x1024_S256x1024 = specG g := by
  funext j
  unfold specG entry
  pointwise

open Cert.Reference20Ideal Cert.Reference20Ideal.Gen in
theorem referenceD (w g mm v : FVec Ideal Cert.Kernel20Ideal.S1x256x1024 .f32) :
    shapeCast _ (mulf (broadcastInDim S1x256x1024 ![] bcast_S_S1x256x1024 (constant S_ .f32 0xBA83126F#32)) (addf (Host.divf (Host.divf (addf (mulf (broadcastInDim S1x256x1024 ![] bcast_S_S1x256x1024 (constant S_ .f32 0x3F666666#32)) mm) (mulf (broadcastInDim S1x256x1024 ![] bcast_S_S1x256x1024 (constant S_ .f32 0x3DCCCCCD#32)) g)) (broadcastInDim S1x256x1024 ![] bcast_S_S1x256x1024 (constant S_ .f32 0x3F26BD02#32))) (addf (Host.sqrt (Host.divf (addf (mulf (broadcastInDim S1x256x1024 ![] bcast_S_S1x256x1024 (constant S_ .f32 0x3F7FBE77#32)) v) (mulf (broadcastInDim S1x256x1024 ![] bcast_S_S1x256x1024 (constant S_ .f32 0x3A83126F#32)) (mulf g g))) (broadcastInDim S1x256x1024 ![] bcast_S_S1x256x1024 (constant S_ .f32 0x3C231ACC#32)))) (broadcastInDim S1x256x1024 ![] bcast_S_S1x256x1024 (constant S_ .f32 0x322BCC77#32)))) (mulf (broadcastInDim S1x256x1024 ![] bcast_S_S1x256x1024 (constant S_ .f32 0x3C23D70A#32)) w))) shapeCasts_S1x256x1024_S256x1024 = specD w g mm v := by
  funext j
  unfold specD Adam.delta Adam.moment1 Adam.moment2 entry
  pointwise

open Cert.Reference20Ideal Cert.Reference20Ideal.Gen in
theorem referenceM (g mm : FVec Ideal Cert.Kernel20Ideal.S1x256x1024 .f32) :
    shapeCast _ (addf (mulf (broadcastInDim S1x256x1024 ![] bcast_S_S1x256x1024 (constant S_ .f32 0x3F666666#32)) mm) (mulf (broadcastInDim S1x256x1024 ![] bcast_S_S1x256x1024 (constant S_ .f32 0x3DCCCCCD#32)) g)) shapeCasts_S1x256x1024_S256x1024 = specM g mm := by
  funext j
  unfold specM Adam.moment1 entry
  pointwise

open Cert.Reference20Ideal Cert.Reference20Ideal.Gen in
theorem referenceV (g v : FVec Ideal Cert.Kernel20Ideal.S1x256x1024 .f32) :
    shapeCast _ (addf (mulf (broadcastInDim S1x256x1024 ![] bcast_S_S1x256x1024 (constant S_ .f32 0x3F7FBE77#32)) v) (mulf (broadcastInDim S1x256x1024 ![] bcast_S_S1x256x1024 (constant S_ .f32 0x3A83126F#32)) (mulf g g))) shapeCasts_S1x256x1024_S256x1024 = specV g v := by
  funext j
  unfold specV Adam.moment2 entry
  pointwise

theorem algebraic : Cert.algebraic_Kernel20Ideal_Reference20Ideal := by
  intro m g m' g' hpre hagree
  refine ⟨fun c => specG (m ((c.tc : Thread nD τ).loc main_arg1)), fun c => specD (m ((c.tc : Thread nD τ).loc main_arg0)) (m ((c.tc : Thread nD τ).loc main_arg1)) (m ((c.tc : Thread nD τ).loc main_arg2)) (m ((c.tc : Thread nD τ).loc main_arg3)), fun c => specM (m ((c.tc : Thread nD τ).loc main_arg1)) (m ((c.tc : Thread nD τ).loc main_arg2)), fun c => specV (m ((c.tc : Thread nD τ).loc main_arg1)) (m ((c.tc : Thread nD τ).loc main_arg3)),
    (θ_run _ _ _).mono (fun r h c => ⟨(h c).1.trans (finalG m c), (h c).2.1.trans (finalD m c), (h c).2.2.1.trans (finalM m c), (h c).2.2.2.1.trans (finalV m c), (h c).2.2.2.2⟩) (Cert.Kernel20Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference20Ideal.Value.run m' g')⟩
  · rw [(hagree c).2.1]
    exact referenceG _
  · rw [(hagree c).1, (hagree c).2.1, (hagree c).2.2.1, (hagree c).2.2.2]
    exact referenceD _ _ _ _
  · rw [(hagree c).2.1, (hagree c).2.2.1]
    exact referenceM _ _
  · rw [(hagree c).2.1, (hagree c).2.2.2]
    exact referenceV _ _

end Cert.Kernel20Ideal.Val

end
-- ==== Proof.Val21.lean ====
module

public import proofs.«01_k».proof.Proof.Gen.Kernel21Ideal.Value
public import proofs.«01_k».proof.Proof.Kit
public import proofs.«01_k».proof.Proof.Adam

@[expose] public section

set_option maxRecDepth 16384
set_option maxHeartbeats 400000

noncomputable section

namespace Cert.Kernel21Ideal.Val

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- An array as the call takes it: the rows of the weight. -/
def entry (a : FVec Ideal S1x1024x512 .f32) (j : S1024x512.Idx) : EReal := a (ix3 (0 : Fin 1) (j 0) (j 1))

def specG (g : FVec Ideal S1x1024x512 .f32) : FVec Ideal S1024x512 .f32 := fun j => entry g j

def specD (w g mm v : FVec Ideal S1x1024x512 .f32) : FVec Ideal S1024x512 .f32 := fun j => Adam.delta (entry w j) (entry g j) (entry mm j) (entry v j)

def specM (g mm : FVec Ideal S1x1024x512 .f32) : FVec Ideal S1024x512 .f32 := fun j => Adam.moment1 (entry g j) (entry mm j)

def specV (g v : FVec Ideal S1x1024x512 .f32) : FVec Ideal S1024x512 .f32 := fun j => Adam.moment2 (entry g j) (entry v j)

theorem finalG (c : Dev nD) : (dats m 0 c).arrAt 4 cfg0.N = specG (m ((c : Thread nD τ).loc main_arg1)) := by
  refine (dats m 0 c).arrAt_eq_of_covers 4 _ (by decide +kernel) fun t hf y => ?_
  blk_simp [idx t]
  rw [after0_4]
  unfold specG entry
  frame_out
  open_payloads
  pointwise
  blk_point [iblk, idx t]

theorem finalD (c : Dev nD) : (dats m 0 c).arrAt 5 cfg0.N = specD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5]
  unfold specD Adam.delta Adam.moment1 Adam.moment2 entry
  frame_out
  open_payloads
  pointwise
  blk_point [iblk, idx t]

theorem finalM (c : Dev nD) : (dats m 0 c).arrAt 6 cfg0.N = specM (m ((c : Thread nD τ).loc main_arg1)) (m ((c : Thread nD τ).loc main_arg2)) := by
  refine (dats m 0 c).arrAt_eq_of_covers 6 _ (by decide +kernel) fun t hf y => ?_
  blk_simp [idx t]
  rw [after0_6]
  unfold specM Adam.moment1 entry
  frame_out
  open_payloads
  pointwise
  blk_point [iblk, idx t]

theorem finalV (c : Dev nD) : (dats m 0 c).arrAt 7 cfg0.N = specV (m ((c : Thread nD τ).loc main_arg1)) (m ((c : Thread nD τ).loc main_arg3)) := by
  refine (dats m 0 c).arrAt_eq_of_covers 7 _ (by decide +kernel) fun t hf y => ?_
  blk_simp [idx t]
  rw [after0_7]
  unfold specV Adam.moment2 entry
  frame_out
  open_payloads
  pointwise
  blk_point [iblk, idx t]

end Cert.Kernel21Ideal.Val

end
-- ==== Proof.Claim21.lean ====
module

public import proofs.«01_k».proof.Defs
public import proofs.«01_k».proof.Proof.Val21
public import proofs.«01_k».proof.Proof.Gen.Reference21Ideal.Run

@[expose] public section

set_option maxRecDepth 16384

noncomputable section

namespace Cert.Kernel21Ideal.Val

open Idealize.ShloMosaic Idealize.ShloMosaic.TcCoe Idealize.SL.Sem

open Cert.Reference21Ideal Cert.Reference21Ideal.Gen in
theorem referenceG (g : FVec Ideal Cert.Kernel21Ideal.S1x1024x512 .f32) :
    shapeCast _ g shapeCasts_S1x1024x512_S1024x512 = specG g := by
  funext j
  unfold specG entry
  pointwise

open Cert.Reference21Ideal Cert.Reference21Ideal.Gen in
theorem referenceD (w g mm v : FVec Ideal Cert.Kernel21Ideal.S1x1024x512 .f32) :
    shapeCast _ (mulf (broadcastInDim S1x1024x512 ![] bcast_S_S1x1024x512 (constant S_ .f32 0xBA83126F#32)) (addf (Host.divf (Host.divf (addf (mulf (broadcastInDim S1x1024x512 ![] bcast_S_S1x1024x512 (constant S_ .f32 0x3F666666#32)) mm) (mulf (broadcastInDim S1x1024x512 ![] bcast_S_S1x1024x512 (constant S_ .f32 0x3DCCCCCD#32)) g)) (broadcastInDim S1x1024x512 ![] bcast_S_S1x1024x512 (constant S_ .f32 0x3F26BD02#32))) (addf (Host.sqrt (Host.divf (addf (mulf (broadcastInDim S1x1024x512 ![] bcast_S_S1x1024x512 (constant S_ .f32 0x3F7FBE77#32)) v) (mulf (broadcastInDim S1x1024x512 ![] bcast_S_S1x1024x512 (constant S_ .f32 0x3A83126F#32)) (mulf g g))) (broadcastInDim S1x1024x512 ![] bcast_S_S1x1024x512 (constant S_ .f32 0x3C231ACC#32)))) (broadcastInDim S1x1024x512 ![] bcast_S_S1x1024x512 (constant S_ .f32 0x322BCC77#32)))) (mulf (broadcastInDim S1x1024x512 ![] bcast_S_S1x1024x512 (constant S_ .f32 0x3C23D70A#32)) w))) shapeCasts_S1x1024x512_S1024x512 = specD w g mm v := by
  funext j
  unfold specD Adam.delta Adam.moment1 Adam.moment2 entry
  pointwise

open Cert.Reference21Ideal Cert.Reference21Ideal.Gen in
theorem referenceM (g mm : FVec Ideal Cert.Kernel21Ideal.S1x1024x512 .f32) :
    shapeCast _ (addf (mulf (broadcastInDim S1x1024x512 ![] bcast_S_S1x1024x512 (constant S_ .f32 0x3F666666#32)) mm) (mulf (broadcastInDim S1x1024x512 ![] bcast_S_S1x1024x512 (constant S_ .f32 0x3DCCCCCD#32)) g)) shapeCasts_S1x1024x512_S1024x512 = specM g mm := by
  funext j
  unfold specM Adam.moment1 entry
  pointwise

open Cert.Reference21Ideal Cert.Reference21Ideal.Gen in
theorem referenceV (g v : FVec Ideal Cert.Kernel21Ideal.S1x1024x512 .f32) :
    shapeCast _ (addf (mulf (broadcastInDim S1x1024x512 ![] bcast_S_S1x1024x512 (constant S_ .f32 0x3F7FBE77#32)) v) (mulf (broadcastInDim S1x1024x512 ![] bcast_S_S1x1024x512 (constant S_ .f32 0x3A83126F#32)) (mulf g g))) shapeCasts_S1x1024x512_S1024x512 = specV g v := by
  funext j
  unfold specV Adam.moment2 entry
  pointwise

theorem algebraic : Cert.algebraic_Kernel21Ideal_Reference21Ideal := by
  intro m g m' g' hpre hagree
  refine ⟨fun c => specG (m ((c.tc : Thread nD τ).loc main_arg1)), fun c => specD (m ((c.tc : Thread nD τ).loc main_arg0)) (m ((c.tc : Thread nD τ).loc main_arg1)) (m ((c.tc : Thread nD τ).loc main_arg2)) (m ((c.tc : Thread nD τ).loc main_arg3)), fun c => specM (m ((c.tc : Thread nD τ).loc main_arg1)) (m ((c.tc : Thread nD τ).loc main_arg2)), fun c => specV (m ((c.tc : Thread nD τ).loc main_arg1)) (m ((c.tc : Thread nD τ).loc main_arg3)),
    (θ_run _ _ _).mono (fun r h c => ⟨(h c).1.trans (finalG m c), (h c).2.1.trans (finalD m c), (h c).2.2.1.trans (finalM m c), (h c).2.2.2.1.trans (finalV m c), (h c).2.2.2.2⟩) (Cert.Kernel21Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference21Ideal.Value.run m' g')⟩
  · rw [(hagree c).2.1]
    exact referenceG _
  · rw [(hagree c).1, (hagree c).2.1, (hagree c).2.2.1, (hagree c).2.2.2]
    exact referenceD _ _ _ _
  · rw [(hagree c).2.1, (hagree c).2.2.1]
    exact referenceM _ _
  · rw [(hagree c).2.1, (hagree c).2.2.2]
    exact referenceV _ _

end Cert.Kernel21Ideal.Val

end
-- ==== Proof.Val22.lean ====
module

public import proofs.«01_k».proof.Proof.Gen.Kernel22Ideal.Value
public import proofs.«01_k».proof.Proof.Kit
public import proofs.«01_k».proof.Proof.Adam

@[expose] public section

set_option maxRecDepth 16384
set_option maxHeartbeats 400000

noncomputable section

namespace Cert.Kernel22Ideal.Val

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- An array as the call takes it: the packed rows themselves. -/
def entry (a : FVec Ideal S32x1024 .f32) (j : S32x1024.Idx) : EReal := a j

def specG (g : FVec Ideal S32x1024 .f32) : FVec Ideal S32x1024 .f32 := fun j => entry g j

def specD (w g mm v : FVec Ideal S32x1024 .f32) : FVec Ideal S32x1024 .f32 := fun j => Adam.delta (entry w j) (entry g j) (entry mm j) (entry v j)

def specM (g mm : FVec Ideal S32x1024 .f32) : FVec Ideal S32x1024 .f32 := fun j => Adam.moment1 (entry g j) (entry mm j)

def specV (g v : FVec Ideal S32x1024 .f32) : FVec Ideal S32x1024 .f32 := fun j => Adam.moment2 (entry g j) (entry v j)

theorem finalG (c : Dev nD) : (dats m 0 c).arrAt 4 cfg0.N = specG (m ((c : Thread nD τ).loc main_arg1)) := by
  refine (dats m 0 c).arrAt_eq_of_covers 4 _ (by decide +kernel) fun t hf y => ?_
  blk_simp [idx t]
  rw [after0_4]
  unfold specG entry
  frame_out
  open_payloads
  pointwise
  blk_point [iblk, idx t]

theorem finalD (c : Dev nD) : (dats m 0 c).arrAt 5 cfg0.N = specD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5]
  unfold specD Adam.delta Adam.moment1 Adam.moment2 entry
  frame_out
  open_payloads
  pointwise
  blk_point [iblk, idx t]

theorem finalM (c : Dev nD) : (dats m 0 c).arrAt 6 cfg0.N = specM (m ((c : Thread nD τ).loc main_arg1)) (m ((c : Thread nD τ).loc main_arg2)) := by
  refine (dats m 0 c).arrAt_eq_of_covers 6 _ (by decide +kernel) fun t hf y => ?_
  blk_simp [idx t]
  rw [after0_6]
  unfold specM Adam.moment1 entry
  frame_out
  open_payloads
  pointwise
  blk_point [iblk, idx t]

theorem finalV (c : Dev nD) : (dats m 0 c).arrAt 7 cfg0.N = specV (m ((c : Thread nD τ).loc main_arg1)) (m ((c : Thread nD τ).loc main_arg3)) := by
  refine (dats m 0 c).arrAt_eq_of_covers 7 _ (by decide +kernel) fun t hf y => ?_
  blk_simp [idx t]
  rw [after0_7]
  unfold specV Adam.moment2 entry
  frame_out
  open_payloads
  pointwise
  blk_point [iblk, idx t]

end Cert.Kernel22Ideal.Val

end
-- ==== Proof.Claim22.lean ====
module

public import proofs.«01_k».proof.Defs
public import proofs.«01_k».proof.Proof.Val22
public import proofs.«01_k».proof.Proof.Gen.Reference22Ideal.Run

@[expose] public section

set_option maxRecDepth 16384

noncomputable section

namespace Cert.Kernel22Ideal.Val

open Idealize.ShloMosaic Idealize.ShloMosaic.TcCoe Idealize.SL.Sem

open Cert.Reference22Ideal Cert.Reference22Ideal.Gen in
theorem referenceD (w g mm v : FVec Ideal Cert.Kernel22Ideal.S32x1024 .f32) :
    mulf (broadcastInDim S32x1024 ![] bcast_S_S32x1024 (constant S_ .f32 0xBA83126F#32)) (addf (Host.divf (Host.divf (addf (mulf (broadcastInDim S32x1024 ![] bcast_S_S32x1024 (constant S_ .f32 0x3F666666#32)) mm) (mulf (broadcastInDim S32x1024 ![] bcast_S_S32x1024 (constant S_ .f32 0x3DCCCCCD#32)) g)) (broadcastInDim S32x1024 ![] bcast_S_S32x1024 (constant S_ .f32 0x3F26BD02#32))) (addf (Host.sqrt (Host.divf (addf (mulf (broadcastInDim S32x1024 ![] bcast_S_S32x1024 (constant S_ .f32 0x3F7FBE77#32)) v) (mulf (broadcastInDim S32x1024 ![] bcast_S_S32x1024 (constant S_ .f32 0x3A83126F#32)) (mulf g g))) (broadcastInDim S32x1024 ![] bcast_S_S32x1024 (constant S_ .f32 0x3C231ACC#32)))) (broadcastInDim S32x1024 ![] bcast_S_S32x1024 (constant S_ .f32 0x322BCC77#32)))) (mulf (broadcastInDim S32x1024 ![] bcast_S_S32x1024 (constant S_ .f32 0x3C23D70A#32)) w)) = specD w g mm v := by
  funext j
  unfold specD Adam.delta Adam.moment1 Adam.moment2 entry
  pointwise

open Cert.Reference22Ideal Cert.Reference22Ideal.Gen in
theorem referenceM (g mm : FVec Ideal Cert.Kernel22Ideal.S32x1024 .f32) :
    addf (mulf (broadcastInDim S32x1024 ![] bcast_S_S32x1024 (constant S_ .f32 0x3F666666#32)) mm) (mulf (broadcastInDim S32x1024 ![] bcast_S_S32x1024 (constant S_ .f32 0x3DCCCCCD#32)) g) = specM g mm := by
  funext j
  unfold specM Adam.moment1 entry
  pointwise

open Cert.Reference22Ideal Cert.Reference22Ideal.Gen in
theorem referenceV (g v : FVec Ideal Cert.Kernel22Ideal.S32x1024 .f32) :
    addf (mulf (broadcastInDim S32x1024 ![] bcast_S_S32x1024 (constant S_ .f32 0x3F7FBE77#32)) v) (mulf (broadcastInDim S32x1024 ![] bcast_S_S32x1024 (constant S_ .f32 0x3A83126F#32)) (mulf g g)) = specV g v := by
  funext j
  unfold specV Adam.moment2 entry
  pointwise

theorem algebraic : Cert.algebraic_Kernel22Ideal_Reference22Ideal := by
  intro m g m' g' hpre hagree
  refine ⟨fun c => specG (m ((c.tc : Thread nD τ).loc main_arg1)), fun c => specD (m ((c.tc : Thread nD τ).loc main_arg0)) (m ((c.tc : Thread nD τ).loc main_arg1)) (m ((c.tc : Thread nD τ).loc main_arg2)) (m ((c.tc : Thread nD τ).loc main_arg3)), fun c => specM (m ((c.tc : Thread nD τ).loc main_arg1)) (m ((c.tc : Thread nD τ).loc main_arg2)), fun c => specV (m ((c.tc : Thread nD τ).loc main_arg1)) (m ((c.tc : Thread nD τ).loc main_arg3)),
    (θ_run _ _ _).mono (fun r h c => ⟨(h c).1.trans (finalG m c), (h c).2.1.trans (finalD m c), (h c).2.2.1.trans (finalM m c), (h c).2.2.2.1.trans (finalV m c), (h c).2.2.2.2⟩) (Cert.Kernel22Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference22Ideal.Value.run m' g')⟩
  · rw [(hagree c).2.1]
    exact rfl
  · rw [(hagree c).1, (hagree c).2.1, (hagree c).2.2.1, (hagree c).2.2.2]
    exact referenceD _ _ _ _
  · rw [(hagree c).2.1, (hagree c).2.2.1]
    exact referenceM _ _
  · rw [(hagree c).2.1, (hagree c).2.2.2]
    exact referenceV _ _

end Cert.Kernel22Ideal.Val

end
-- ==== Proof.Val23.lean ====
module

public import proofs.«01_k».proof.Proof.Gen.Kernel23Ideal.Value
public import proofs.«01_k».proof.Proof.Norm

@[expose] public section

set_option maxRecDepth 16384
set_option maxHeartbeats 400000

noncomputable section

namespace Cert.Kernel23Ideal.Val

open Cert.Kernel23Ideal Cert.Kernel23Ideal.Gen Idealize.ShloMosaic Idealize.ShloMosaic.TcCoe Idealize.SL.Sem
open Idealize.ShloMosaic.Pipeline (Dat)
open Cert.Kit (rstd)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![t.val, 0] ∧ win0_6.index t = ![t.val, 0] :=
  (by decide +kernel : ∀ t : Fin grid0.N, _)

/-- The product and its bias, added to the residual: token `i`, feature `d`. -/
def entry (a : FVec Ideal S8192x1024 .f32) (w : FVec Ideal S1024x1024 .f32) (b : FVec Ideal S1024 .f32) (x : FVec Ideal S8192x1024 .f32) (i : Fin 8192) (d : Fin 1024) : EReal :=
  (∑ k : Fin 1024, a (ix2 i k) * w (ix2 k d) + b (ix1 d)) + x (ix2 i d)

def specH (a : FVec Ideal S8192x1024 .f32) (w : FVec Ideal S1024x1024 .f32) (b : FVec Ideal S1024 .f32) (x : FVec Ideal S8192x1024 .f32) : FVec Ideal S8192x1024 .f32 := fun j =>
  entry a w b x (j 0) (j 1)

/-- The same, normed. -/
def specF (a : FVec Ideal S8192x1024 .f32) (w : FVec Ideal S1024x1024 .f32) (b : FVec Ideal S1024 .f32) (x : FVec Ideal S8192x1024 .f32) (g : FVec Ideal S1024 .f32) : FVec Ideal S8192x1024 .bf16 := fun j =>
  entry a w b x (j 0) (j 1) * rstd (entry a w b x (j 0)) * g (ix1 (j 1))

/-- One entry of a block before the norm. -/
def cell (A : FVec Ideal S1024x1024 .bf16) (W : FVec Ideal S1024x1024 .bf16) (B : FVec Ideal S1x1024 .f32) (X : FVec Ideal S1024x1024 .f32) (i d : Fin 1024) : EReal :=
  (∑ k : Fin 1024, A (ix2 i k) * W (ix2 k d) + B (ix2 (0 : Fin 1) d)) + X (ix2 i d)

theorem outH (A : FVec Ideal S1024x1024 .bf16) (W : FVec Ideal S1024x1024 .bf16) (B : FVec Ideal S1x1024 .f32) (X : FVec Ideal S1024x1024 .f32) (G : FVec Ideal S1x1024 .f32) (i d : Fin 1024) :
    out0_5 (F := Ideal) A W B X G (ix2 i d) = cell A W B X i d := by
  unfold cell
  frame_out
  open_payloads
  pointwise

theorem outF (A : FVec Ideal S1024x1024 .bf16) (W : FVec Ideal S1024x1024 .bf16) (B : FVec Ideal S1x1024 .f32) (X : FVec Ideal S1024x1024 .f32) (G : FVec Ideal S1x1024 .f32) (i d : Fin 1024) :
    out0_6 (F := Ideal) A W B X G (ix2 i d) = cell A W B X i d * rstd (cell A W B X i) * G (ix2 (0 : Fin 1) d) := by
  unfold rstd cell
  frame_out
  open_payloads
  pointwise

/-- The token that row `i` of block `t` is. -/
def tok (t : Fin cfg0.N) (i : Fin 1024) : Fin 8192 := ⟨t.val * 1024 + i.val, by have := t.isLt; have : cfg0.N = 8 := N_0; omega⟩

theorem readCell (c : Dev nD) (t : Fin cfg0.N) (i d : Fin 1024) :
    cell (iblk m c 0 t) (iblk m c 1 t) (iblk m c 2 t) (iblk m c 3 t) i d = entry (m ((c : Thread nD τ).loc main_arg0)) (m ((c : Thread nD τ).loc main_arg1)) (m ((c : Thread nD τ).loc main_arg2)) (m ((c : Thread nD τ).loc main_arg3)) (tok t i) d := by
  unfold cell entry tok
  blk_point [iblk, idx t]

theorem readG (c : Dev nD) (t : Fin cfg0.N) (d : Fin 1024) :
    (show FVec Ideal S1x1024 .f32 from iblk m c 4 t) (ix2 (0 : Fin 1) d) = m ((c : Thread nD τ).loc main_arg4) (ix1 d) := by
  blk_point [iblk, idx t]

theorem placeH (t : Fin cfg0.N) (y : S1024x1024.Idx) : (win0_5.blk t).view.emb y = ix2 (tok t (y 0)) (y 1) := by
  unfold tok
  blk_ext [idx t]

theorem placeF (t : Fin cfg0.N) (y : S1024x1024.Idx) : (win0_6.blk t).view.emb y = ix2 (tok t (y 0)) (y 1) := by
  unfold tok
  blk_ext [idx t]

theorem finalH (c : Dev nD) : (dats m 0 c).arrAt 5 cfg0.N = specH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact ((congrArg _ (eq_ix2 y)).trans (outH _ _ _ _ _ (y 0) (y 1))).trans ((readCell m c t (y 0) (y 1)).trans (congrArg (specH (m ((c : Thread nD τ).loc main_arg0)) (m ((c : Thread nD τ).loc main_arg1)) (m ((c : Thread nD τ).loc main_arg2)) (m ((c : Thread nD τ).loc main_arg3))) (placeH t y).symm))

theorem finalF (c : Dev nD) : (dats m 0 c).arrAt 6 cfg0.N = specF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine ((congrArg _ (eq_ix2 y)).trans (outF _ _ _ _ _ (y 0) (y 1))).trans (Eq.trans ?_ (congrArg (specF (m ((c : Thread nD τ).loc main_arg0)) (m ((c : Thread nD τ).loc main_arg1)) (m ((c : Thread nD τ).loc main_arg2)) (m ((c : Thread nD τ).loc main_arg3)) (m ((c : Thread nD τ).loc main_arg4))) (placeF t y).symm))
  rw [show cell (iblk m c 0 t) (iblk m c 1 t) (iblk m c 2 t) (iblk m c 3 t) (y 0) = entry (m ((c : Thread nD τ).loc main_arg0)) (m ((c : Thread nD τ).loc main_arg1)) (m ((c : Thread nD τ).loc main_arg2)) (m ((c : Thread nD τ).loc main_arg3)) (tok t (y 0)) from funext fun d => readCell m c t (y 0) d]
  exact congrArg _ (readG m c t (y 1))

end Cert.Kernel23Ideal.Val

end
-- ==== Proof.Claim23.lean ====
module

public import proofs.«01_k».proof.Defs
public import proofs.«01_k».proof.Proof.Val23
public import proofs.«01_k».proof.Proof.Gen.Reference23Ideal.Read

@[expose] public section

set_option maxRecDepth 16384
set_option maxHeartbeats 400000

noncomputable section

namespace Cert.Kernel23Ideal.Val

open Idealize.ShloMosaic Idealize.ShloMosaic.TcCoe Idealize.SL.Sem
open Cert.Kit (rstd)
open Cert.Reference23Ideal.Read

section Reference

variable (a : FVec Ideal S8192x1024 .f32) (w : FVec Ideal S1024x1024 .f32) (b : FVec Ideal S1024 .f32) (x : FVec Ideal S8192x1024 .f32) (g : FVec Ideal S1024 .f32)

theorem refEntry (i : Fin 8192) (d : Fin 1024) : val_main_v4 (F := Ideal) a w b x (ix2 i d) = entry a w b x i d := by
  unfold entry
  rw [add_comm]
  pointwise [val_main_v4, val_main_v3, val_main_v2, val_main_v1, val_main_v0]

theorem refRoot (i : Fin 8192) (k : Fin 1) : val_main_v12 (F := Ideal) a w b x (ix2 i k) = rstd (entry a w b x i) := by
  unfold rstd
  pointwise [val_main_v12, val_main_v11, val_main_v10, val_main_v9, val_main_v8, val_main_v7, val_main_v6, val_main_v5, val_main_cst, val_main_cst_0, val_main_cst_1]
  simp only [refEntry, zero_add]

/-- The plain formula before the norm. -/
theorem referenceH : val_main_v4 (F := Ideal) a w b x = specH a w b x :=
  funext fun j => (congrArg _ (eq_ix2 j)).trans (refEntry a w b x (j 0) (j 1))

/-- The plain formula of the norm. -/
theorem referenceF (i : Fin 8192) (d : Fin 1024) : val_main_v18 (F := Ideal) a w b x g (ix2 i d) = specF a w b x g (ix2 i d) := by
  show _ = entry a w b x i d * rstd (entry a w b x i) * g (ix1 d)
  pointwise [val_main_v18, val_main_v17, val_main_v16, val_main_v15, val_main_v14, val_main_v13]
  simp only [refEntry, refRoot]

end Reference

theorem algebraic : Cert.algebraic_Kernel23Ideal_Reference23Ideal := by
  intro m g m' g' hpre hagree
  refine ⟨fun c => specH (m ((c : Thread nD τ).loc main_arg0)) (m ((c : Thread nD τ).loc main_arg1)) (m ((c : Thread nD τ).loc main_arg2)) (m ((c : Thread nD τ).loc main_arg3)), fun c => specF (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun r h c => ⟨(h c).1.trans (finalH m c), (h c).2.1.trans (finalF m c), (h c).2.2⟩) (Cert.Kernel23Ideal.Value.run_blocks m g),
    (θ_run _ _ _).mono (fun r h c => ⟨(h c).1.trans ?_, (h c).2.1.trans ?_, (h c).2.2⟩) (Cert.Reference23Ideal.Value.run m' g')⟩
  · obtain ⟨e0, e1, e2, e3, e4⟩ := hagree c
    rw [Cert.Reference23Ideal.Read.val_main_v4_eq, e0, e1, e2, e3]
    exact referenceH _ _ _ _
  · obtain ⟨e0, e1, e2, e3, e4⟩ := hagree c
    rw [Cert.Reference23Ideal.Read.val_main_v18_eq, e0, e1, e2, e3, e4]
    exact funext fun j => (congrArg _ (eq_ix2 j)).trans <| (referenceF _ _ _ _ _ (j 0) (j 1)).trans (congrArg _ (eq_ix2 j).symm)

end Cert.Kernel23Ideal.Val

end
-- ==== Proof.Val24.lean ====
module

public import proofs.«01_k».proof.Proof.Gen.Kernel24Ideal.Value
public import proofs.«01_k».proof.Proof.Norm

@[expose] public section

set_option maxRecDepth 16384
set_option maxHeartbeats 400000

noncomputable section

namespace Cert.Kernel24Ideal.Val

open Cert.Kernel24Ideal Cert.Kernel24Ideal.Gen Idealize.ShloMosaic Idealize.ShloMosaic.TcCoe Idealize.SL.Sem
open Idealize.ShloMosaic.Pipeline (Dat)
open Cert.Kit (rstd)

variable (m : (ℓ : Loc nD τ sig) → Buf (Elt Ideal) ℓ)

theorem idx : ∀ t : Fin cfg0.N, win0_0.index t = ![t.val, 0] ∧ win0_1.index t = ![0, 0] ∧ win0_2.index t = ![0, 0, 0] ∧ win0_3.index t = ![0, 0] ∧ win0_4.index t = ![t.val, 0] ∧ win0_5.index t = ![t.val, 0] :=
  (by decide +kernel : ∀ t : Fin grid0.N, _)

/-- The normed row of token `i`. -/
def entry (h : FVec Ideal S8192x1024 .f32) (g : FVec Ideal S1024 .f32) (i : Fin 8192) (d : Fin 1024) : EReal :=
  h (ix2 i d) * rstd (fun k => h (ix2 i k)) * g (ix1 d)

def specY (h : FVec Ideal S8192x1024 .f32) (g : FVec Ideal S1024 .f32) : FVec Ideal S8192x1024 .bf16 := fun j => entry h g (j 0) (j 1)

/-- The product of the normed rows, with its bias. -/
def specA (h : FVec Ideal S8192x1024 .f32) (g : FVec Ideal S1024 .f32) (w : FVec Ideal S1024x2048 .f32) (b : FVec Ideal S2048 .f32) : FVec Ideal S8192x2048 .bf16 := fun j =>
  ∑ k : Fin 1024, entry h g (j 0) k * w (ix2 k (j 1)) + b (ix1 (j 1))

/-- One entry of a normed block. -/
def cell (H : FVec Ideal S1024x1024 .f32) (G : FVec Ideal S1x1024 .f32) (i d : Fin 1024) : EReal :=
  H (ix2 i d) * rstd (fun k => H (ix2 i k)) * G (ix2 (0 : Fin 1) d)

theorem pay (H : FVec Ideal S1024x1024 .f32) (G : FVec Ideal S1x1024 .f32) (i d : Fin 1024) : k0_pay3 (F := Ideal) H G (ix2 i d) = cell H G i d := by
  unfold cell rstd
  open_payloads
  pointwise

theorem outY (H : FVec Ideal S1024x1024 .f32) (G : FVec Ideal S1x1024 .f32) (W : FVec Ideal S4x1024x512 .bf16) (B : FVec Ideal S1x2048 .f32) (i d : Fin 1024) :
    out0_4 (F := Ideal) H G W B (ix2 i d) = cell H G i d := by
  frame_out
  exact pay _ _ i d

theorem pay6 (H : FVec Ideal S1024x1024 .f32) (G : FVec Ideal S1x1024 .f32) (W : FVec Ideal S4x1024x512 .bf16) (B : FVec Ideal S1x2048 .f32) (i d : Fin 1024) :
    k0_pay6 (F := Ideal) H G W B (ix2 i d) = cell H G i d := by
  unfold k0_pay6
  frame_out
  exact pay _ _ i d

theorem outA (H : FVec Ideal S1024x1024 .f32) (G : FVec Ideal S1x1024 .f32) (W : FVec Ideal S4x1024x512 .bf16) (B : FVec Ideal S1x2048 .f32) (j : S1024x2048.Idx) :
    out0_5 (F := Ideal) H G W B j = ∑ k : Fin 1024, cell H G (j 0) k * W (ix3 (⟨(j 1).val / 512, by idx_bounds; omega⟩ : Fin 4) k (⟨(j 1).val % 512, by omega⟩ : Fin 512)) + B (ix2 (0 : Fin 1) (j 1)) := by
  frame_out
  canon_tiles x h
  all_goals ((try unfold k0_pay1); (try unfold k0_pay2); (try unfold k0_pay4); (try unfold k0_pay5); pointwise [pay, pay6]; blk_point [])

/-- The token that row `i` of block `t` is. -/
def tok (t : Fin cfg0.N) (i : Fin 1024) : Fin 8192 := ⟨t.val * 1024 + i.val, by have := t.isLt; have : cfg0.N = 8 := N_0; omega⟩

theorem readH (c : Dev nD) (t : Fin cfg0.N) (i d : Fin 1024) :
    (show FVec Ideal S1024x1024 .f32 from iblk m c 0 t) (ix2 i d) = m ((c : Thread nD τ).loc main_arg0) (ix2 (tok t i) d) := by
  unfold tok
  blk_point [iblk, idx t]

theorem readG (c : Dev nD) (t : Fin cfg0.N) (d : Fin 1024) :
    (show FVec Ideal S1x1024 .f32 from iblk m c 1 t) (ix2 (0 : Fin 1) d) = m ((c : Thread nD τ).loc main_arg1) (ix1 d) := by
  blk_point [iblk, idx t]

theorem readCell (c : Dev nD) (t : Fin cfg0.N) (i d : Fin 1024) :
    cell (iblk m c 0 t) (iblk m c 1 t) i d = entry (m ((c : Thread nD τ).loc main_arg0)) (m ((c : Thread nD τ).loc main_arg1)) (tok t i) d := by
  unfold cell entry
  rw [show (fun k => (show FVec Ideal S1024x1024 .f32 from iblk m c 0 t) (ix2 i k)) = fun k => m ((c : Thread nD τ).loc main_arg0) (ix2 (tok t i) k) from funext fun k => readH m c t i k]
  exact congrArg₂ (· * rstd _ * ·) (readH m c t i d) (readG m c t d)

theorem readW (c : Dev nD) (t : Fin cfg0.N) (k : Fin 1024) (d : Fin 2048) :
    (show FVec Ideal S4x1024x512 .bf16 from iblk m c 2 t) (ix3 (⟨d.val / 512, by omega⟩ : Fin 4) k (⟨d.val % 512, by omega⟩ : Fin 512)) = m ((c : Thread nD τ).loc main_arg2) (ix2 k d) := by
  blk_point [iblk, idx t]

theorem readB (c : Dev nD) (t : Fin cfg0.N) (d : Fin 2048) :
    (show FVec Ideal S1x2048 .f32 from iblk m c 3 t) (ix2 (0 : Fin 1) d) = m ((c : Thread nD τ).loc main_arg3) (ix1 d) := by
  blk_point [iblk, idx t]

theorem placeY (t : Fin cfg0.N) (y : S1024x1024.Idx) : (win0_4.blk t).view.emb y = ix2 (tok t (y 0)) (y 1) := by
  unfold tok
  blk_ext [idx t]

theorem placeA (t : Fin cfg0.N) (y : S1024x2048.Idx) : (win0_5.blk t).view.emb y = ix2 (tok t (y 0)) (y 1) := by
  unfold tok
  blk_ext [idx t]

theorem finalY (c : Dev nD) : (dats m 0 c).arrAt 4 cfg0.N = specY (m ((c : Thread nD τ).loc main_arg0)) (m ((c : Thread nD τ).loc main_arg1)) := by
  refine (dats m 0 c).arrAt_eq_of_covers 4 _ (by decide +kernel) fun t hf y => ?_
  blk_simp
  rw [after0_4]
  exact ((congrArg _ (eq_ix2 y)).trans (outY _ _ _ _ (y 0) (y 1))).trans ((readCell m c t (y 0) (y 1)).trans (congrArg (specY (m ((c : Thread nD τ).loc main_arg0)) (m ((c : Thread nD τ).loc main_arg1))) (placeY t y).symm))

theorem finalA (c : Dev nD) : (dats m 0 c).arrAt 5 cfg0.N = specA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine (outA _ _ _ _ y).trans (Eq.trans ?_ (congrArg (specA (m ((c : Thread nD τ).loc main_arg0)) (m ((c : Thread nD τ).loc main_arg1)) (m ((c : Thread nD τ).loc main_arg2)) (m ((c : Thread nD τ).loc main_arg3))) (placeA t y).symm))
  refine congrArg₂ (· + ·) (Finset.sum_congr rfl fun k _ => congrArg₂ (· * ·) (readCell m c t (y 0) k) (readW m c t k (y 1))) (readB m c t (y 1))

end Cert.Kernel24Ideal.Val

end
-- ==== Proof.Claim24.lean ====
module

public import proofs.«01_k».proof.Defs
public import proofs.«01_k».proof.Proof.Val24
public import proofs.«01_k».proof.Proof.Gen.Reference24Ideal.Read

@[expose] public section

set_option maxRecDepth 16384
set_option maxHeartbeats 400000

noncomputable section

namespace Cert.Kernel24Ideal.Val

open Idealize.ShloMosaic Idealize.ShloMosaic.TcCoe Idealize.SL.Sem
open Cert.Kit (rstd)
open Cert.Reference24Ideal.Read

section Reference

variable (h : FVec Ideal S8192x1024 .f32) (g : FVec Ideal S1024 .f32) (w : FVec Ideal S1024x2048 .f32) (b : FVec Ideal S2048 .f32)

theorem refRoot (i : Fin 8192) (k : Fin 1) : val_main_v7 (F := Ideal) h (ix2 i k) = rstd (fun d => h (ix2 i d)) := by
  unfold rstd
  pointwise [val_main_v7, val_main_v6, val_main_v5, val_main_v4, val_main_v3, val_main_v2, val_main_v1, val_main_v0, val_main_cst, val_main_cst_0, val_main_cst_1]

theorem refEntry (i : Fin 8192) (d : Fin 1024) : val_main_v12 (F := Ideal) h g (ix2 i d) = entry h g i d := by
  unfold entry
  pointwise [val_main_v12, val_main_v11, val_main_v10, val_main_v9, val_main_v8]
  rw [refRoot]

/-- The plain formula of the norm. -/
theorem referenceY (i : Fin 8192) (d : Fin 1024) : val_main_v13 (F := Ideal) h g (ix2 i d) = specY h g (ix2 i d) := by
  show _ = entry h g i d
  pointwise [val_main_v13]
  rw [refEntry]

/-- The plain formula of the product. -/
theorem referenceA (i : Fin 8192) (d : Fin 2048) : val_main_v18 (F := Ideal) h g w b (ix2 i d) = specA h g w b (ix2 i d) := by
  show _ = ∑ k : Fin 1024, entry h g i k * w (ix2 k d) + b (ix1 d)
  pointwise [val_main_v18, val_main_v17, val_main_v16, val_main_v15, val_main_v14]
  simp only [refEntry]

end Reference

theorem algebraic : Cert.algebraic_Kernel24Ideal_Reference24Ideal := by
  intro m g m' g' hpre hagree
  refine ⟨fun c => specY (m ((c : Thread nD τ).loc main_arg0)) (m ((c : Thread nD τ).loc main_arg1)), fun c => specA (m ((c : Thread nD τ).loc main_arg0)) (m ((c : Thread nD τ).loc main_arg1)) (m ((c : Thread nD τ).loc main_arg2)) (m ((c : Thread nD τ).loc main_arg3)),
    (θ_run _ _ _).mono (fun r h c => ⟨(h c).1.trans (finalY m c), (h c).2.1.trans (finalA m c), (h c).2.2⟩) (Cert.Kernel24Ideal.Value.run_blocks m g),
    (θ_run _ _ _).mono (fun r h c => ⟨(h c).1.trans ?_, (h c).2.1.trans ?_, (h c).2.2⟩) (Cert.Reference24Ideal.Value.run m' g')⟩
  · obtain ⟨e0, e1, e2, e3⟩ := hagree c
    rw [Cert.Reference24Ideal.Read.val_main_v13_eq, e0, e1]
    exact funext fun j => (congrArg _ (eq_ix2 j)).trans <| (referenceY _ _ (j 0) (j 1)).trans (congrArg _ (eq_ix2 j).symm)
  · obtain ⟨e0, e1, e2, e3⟩ := hagree c
    rw [Cert.Reference24Ideal.Read.val_main_v18_eq, e0, e1, e2, e3]
    exact funext fun j => (congrArg _ (eq_ix2 j)).trans <| (referenceA _ _ _ _ (j 0) (j 1)).trans (congrArg _ (eq_ix2 j).symm)

end Cert.Kernel24Ideal.Val

end
-- ==== Proof.Loss.lean ====
module

public import proofs.«01_k».proof.Proof.Norm

@[expose] public section

noncomputable section

namespace Cert.Kit

open Idealize.ShloMosaic

/-- How far the normed row is from its target. -/
def err (g h t : Fin 1024 → EReal) (d : Fin 1024) : EReal := h d * rstd h * g d - t d

/-- What the loss sends back to the normed row. -/
def cot (g h t : Fin 1024 → EReal) (d : Fin 1024) : EReal := err g h t d * Ideal.ofBits FTy.f32 981467136#32

/-- The mean square of one row's distance. -/
def miss (g h t : Fin 1024 → EReal) : EReal := Ideal.div (∑ d, err g h t d * err g h t d) (Ideal.ofBits FTy.f32 1149239296#32)

/-- The row that comes back through the norm, with nothing added. -/
def back (f g h : Fin 1024 → EReal) (d : Fin 1024) : EReal :=
  rstd h * (f d * g d) - h d * (rstd h * rstd h * rstd h) * Ideal.div (∑ x, f x * g x * h x) (Ideal.ofBits FTy.f32 1149239296#32)

theorem back_eq (f g h : Fin 1024 → EReal) (d : Fin 1024) : back f g h d = pulled f g h 0 d := (zero_add _).symm

theorem half_bits : Ideal.ofBits FTy.f32 1056964608#32 = ((1 / 2 : ℝ) : EReal) := by
  have h : (8388608 : ℝ) * ((2 : ℝ) ^ 24)⁻¹ = 1 / 2 := by norm_num
  rw [← h]
  simp [Ideal.ofBits, Ideal.ieee]

theorem one_bits : Ideal.ofBits FTy.f32 1065353216#32 = ((1 : ℝ) : EReal) := by
  have h : (8388608 : ℝ) * ((2 : ℝ) ^ 23)⁻¹ = 1 := by norm_num
  rw [← h]
  simp [Ideal.ofBits, Ideal.ieee]

theorem two_bits : Ideal.ofBits FTy.f32 1073741824#32 = ((2 : ℝ) : EReal) := by
  have h : (8388608 : ℝ) * ((2 : ℝ) ^ 22)⁻¹ = 2 := by norm_num
  rw [← h]
  simp [Ideal.ofBits, Ideal.ieee]

theorem mean_bits : Ideal.ofBits FTy.f32 981467136#32 = ((1 / 1024 : ℝ) : EReal) := by
  have h : (8388608 : ℝ) * ((2 : ℝ) ^ 33)⁻¹ = 1 / 1024 := by norm_num
  rw [← h]
  simp [Ideal.ofBits, Ideal.ieee]

/-- The derivative of half the mean square, as the product rule leaves it. -/
theorem cot_eq (x : EReal) :
    Ideal.div (Ideal.ofBits FTy.f32 1056964608#32 * Ideal.ofBits FTy.f32 1065353216#32) (Ideal.ofBits FTy.f32 1149239296#32)
      * (Ideal.ofBits FTy.f32 1073741824#32 * x) = x * Ideal.ofBits FTy.f32 981467136#32 := by
  rw [half_bits, one_bits, two_bits, width, mean_bits, Ideal.div_coe (by norm_num), ← mul_assoc, mul_comm x]
  congr 1
  norm_cast
  norm_num

theorem rstd_real (h : Fin 1024 → EReal) (hh : ∀ i, ∃ r : ℝ, h i = r) : ∃ r : ℝ, rstd h = r := by
  choose h' hh using hh
  obtain ⟨s, hs, hse⟩ := small
  have hm : Ideal.div (∑ x, h x * h x) (Ideal.ofBits FTy.f32 1149239296#32) + Ideal.ofBits FTy.f32 925353388#32
      = (((∑ x, h' x * h' x) / 1024 + s : ℝ) : EReal) := by
    rw [hse, width]
    simp only [hh, ← EReal.coe_mul]
    rw [← coe_sum, Ideal.div_coe (by norm_num), ← EReal.coe_mul, ← EReal.coe_add, mul_one_div]
  have hu : 0 < (∑ x, h' x * h' x) / 1024 + s :=
    add_pos_of_nonneg_of_pos (div_nonneg (Finset.sum_nonneg fun x _ => mul_self_nonneg _) (by norm_num)) hs
  refine ⟨1 / Real.sqrt ((∑ x, h' x * h' x) / 1024 + s), ?_⟩
  unfold rstd
  rw [hm, Ideal.rsqrt_coe, if_neg (not_lt.mpr hu.le), if_neg hu.ne', one_div]

theorem err_real (g h t : Fin 1024 → EReal) (hg : ∀ i, ∃ r : ℝ, g i = r) (hh : ∀ i, ∃ r : ℝ, h i = r) (ht : ∀ i, ∃ r : ℝ, t i = r) (d : Fin 1024) :
    ∃ r : ℝ, err g h t d = r := by
  obtain ⟨a, ha⟩ := hg d
  obtain ⟨b, hb⟩ := hh d
  obtain ⟨e, he⟩ := ht d
  obtain ⟨q, hq⟩ := rstd_real h hh
  exact ⟨b * q * a - e, by unfold err; rw [ha, hb, he, hq, EReal.coe_sub, EReal.coe_mul, EReal.coe_mul]⟩

theorem cot_real (g h t : Fin 1024 → EReal) (hg : ∀ i, ∃ r : ℝ, g i = r) (hh : ∀ i, ∃ r : ℝ, h i = r) (ht : ∀ i, ∃ r : ℝ, t i = r) (d : Fin 1024) :
    ∃ r : ℝ, cot g h t d = r := by
  obtain ⟨a, ha⟩ := err_real g h t hg hh ht d
  exact ⟨a * (1 / 1024), by unfold cot; rw [ha, mean_bits, EReal.coe_mul]⟩

theorem miss_real (g h t : Fin 1024 → EReal) (hg : ∀ i, ∃ r : ℝ, g i = r) (hh : ∀ i, ∃ r : ℝ, h i = r) (ht : ∀ i, ∃ r : ℝ, t i = r) :
    ∃ r : ℝ, miss g h t = r := by
  obtain ⟨s, hs⟩ := sum_mul_real (err g h t) (err g h t) (err_real g h t hg hh ht) (err_real g h t hg hh ht)
  exact ⟨s * (1 / 1024), by unfold miss; rw [hs, width, Ideal.div_coe (by norm_num), EReal.coe_mul]⟩

/-- Half of a finite sum, block by block. -/
theorem half_blocks (f : Fin 8192 → EReal) (hf : ∀ i, ∃ r : ℝ, f i = r) :
    Ideal.ofBits FTy.f32 1056964608#32 * ∑ i, f i
      = ∑ t : Fin 8, Ideal.ofBits FTy.f32 1056964608#32 * ∑ k : Fin 1024, f ⟨t.val * 1024 + k.val, by omega⟩ := by
  have h : ∑ s : Fin 8, ∑ k : Fin 1024, f ⟨s.val * 1024 + k.val, by omega⟩ = ∑ i : Fin 8192, f i :=
    Fin.sum_mul_add_congr (fun s k hl => rfl) (by norm_num)
  rw [← h, half_bits]
  choose f' hf using hf
  simp only [hf, ← coe_sum, ← EReal.coe_mul]
  rw [Finset.mul_sum]

end Cert.Kit

end
-- ==== Proof.Val25.lean ====
module

public import proofs.«01_k».proof.Proof.Gen.Kernel25Ideal.Value
public import proofs.«01_k».proof.Proof.Loss

@[expose] public section

set_option maxRecDepth 16384
set_option maxHeartbeats 400000

noncomputable section

namespace Cert.Kernel25Ideal.Val

open Cert.Kernel25Ideal Cert.Kernel25Ideal.Gen Idealize.ShloMosaic Idealize.ShloMosaic.TcCoe Idealize.SL.Sem
open Idealize.ShloMosaic.Pipeline (Dat)
open Cert.Kit (rstd cot miss back err)

variable (m : (ℓ : Loc nD τ sig) → Buf (Elt Ideal) ℓ)

/-- One entry of a block before the norm: the residual and the product, band by band. -/
def cell (S : FVec Ideal S4x1024x704 .bf16) (W : FVec Ideal S4x1x704x1024 .bf16) (R : FVec Ideal S1024x1024 .f32) (i d : Fin 1024) : EReal :=
  R (ix2 i d) + ∑ k : Fin 704, S (ix3 (0 : Fin 4) i k) * W (ix4 (0 : Fin 4) (0 : Fin 1) k d)
    + ∑ k : Fin 704, S (ix3 (1 : Fin 4) i k) * W (ix4 (1 : Fin 4) (0 : Fin 1) k d)
    + ∑ k : Fin 704, S (ix3 (2 : Fin 4) i k) * W (ix4 (2 : Fin 4) (0 : Fin 1) k d)
    + ∑ k : Fin 704, S (ix3 (3 : Fin 4) i k) * W (ix4 (3 : Fin 4) (0 : Fin 1) k d)

/-- The one row of a block. -/
def one (G : FVec Ideal S1x1024 .f32) (d : Fin 1024) : EReal := G (ix2 (0 : Fin 1) d)

/-- Row `i` of a block. -/
def row (T : FVec Ideal S1024x1024 .f32) (i d : Fin 1024) : EReal := T (ix2 i d)

theorem outAt (c : Dev nD) (t : Fin cfg0.N) (a b : Fin 1024) : (outsAt0 m c t.val t.isLt).1 (ix2 a b) = back (cot (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) a) (row (show FVec Ideal S1024x1024 .f32 from iblk m c 4 t) a)) (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) a) b := by
  by_cases h : t.val % 8 = 0
  · rw [outsAt0_A m c t h]
    frame_open
    simp (disch := decide) only [↓ View.readCov_skip, ↓ View.readCov_cons_toLoadRect, ↓ View.readCov_fill]
    frame_out
    open_payloads
    pointwise
    unfold back cot err rstd cell one row
    first
      | (beta_reduce; rfl)
      | blk_point []
  · rw [outsAt0_B m c t h]
    frame_open
    simp (disch := decide) only [↓ View.readCov_skip, ↓ View.readCov_cons_toLoadRect, ↓ View.readCov_fill]
    frame_out
    open_payloads
    pointwise
    unfold back cot err rstd cell one row
    first
      | (beta_reduce; rfl)
      | blk_point []

/-- What a grid point leaves in the block of the first result. -/
theorem out (c : Dev nD) (t : Fin cfg0.N) (j : S1024x1024.Idx) : (outsAt0 m c t.val t.isLt).1 j = back (cot (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) (j 0)) (row (show FVec Ideal S1024x1024 .f32 from iblk m c 4 t) (j 0))) (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) (j 0)) (j 1) :=
  (congrArg _ (eq_ix2 j)).trans (outAt m c t (j 0) (j 1))

theorem lossA (c : Dev nD) (t : Fin cfg0.N) (h : t.val % 8 = 0) (j : S1x1.Idx) : (outsAt0 m c t.val t.isLt).2.1 j = Ideal.ofBits FTy.f32 1056964608#32 * ∑ i : Fin 1024, miss (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) i) (row (show FVec Ideal S1024x1024 .f32 from iblk m c 4 t) i) := by
  rw [outsAt0_A m c t h]
  frame_open
  simp (disch := decide) only [↓ View.readCov_skip, ↓ View.readCov_cons_toLoadRect, ↓ View.readCov_fill]
  frame_out
  open_payloads
  pointwise
  unfold miss err rstd cell one row
  first
    | (beta_reduce; rfl)
    | blk_point []

theorem lossB (c : Dev nD) (t : Fin cfg0.N) (h : ¬t.val % 8 = 0) (j : S1x1.Idx) : (outsAt0 m c t.val t.isLt).2.1 j = (outsAt0 m c (t.val - 1) (Nat.lt_of_le_of_lt (Nat.sub_le _ _) t.isLt)).2.1 j + Ideal.ofBits FTy.f32 1056964608#32 * ∑ i : Fin 1024, miss (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) i) (row (show FVec Ideal S1024x1024 .f32 from iblk m c 4 t) i) := by
  rw [outsAt0_B m c t h]
  frame_open
  simp (disch := decide) only [↓ View.readCov_skip, ↓ View.readCov_cons_toLoadRect, ↓ View.readCov_fill]
  frame_out
  open_payloads
  pointwise
  unfold miss err rstd cell one row
  first
    | (beta_reduce; rfl)
    | blk_point []

theorem stepA (c : Dev nD) (t : Fin cfg0.N) (h : t.val % 8 = 0) (j : S1x1024.Idx) : (outsAt0 m c t.val t.isLt).2.2 j = ∑ i : Fin 1024, cot (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) i) (row (show FVec Ideal S1024x1024 .f32 from iblk m c 4 t) i) (j 1) * ((cell (show FVec Ideal S4x1024x704 .bf16 from iblk m c 0 t) (show FVec Ideal S4x1x704x1024 .bf16 from iblk m c 1 t) (show FVec Ideal S1024x1024 .f32 from iblk m c 2 t) i) (j 1) * rstd (cell (show FVec Ideal S4x1024x704 .bf16 from iblk m c 0 t) (show FVec Ideal S4x1x704x1024 .bf16 from iblk m c 1 t) (show FVec Ideal S1024x1024 .f32 from iblk m c 2 t) i)) := by
  rw [outsAt0_A m c t h]
  frame_open
  simp (disch := decide) only [↓ View.readCov_skip, ↓ View.readCov_cons_toLoadRect, ↓ View.readCov_fill]
  frame_out
  open_payloads
  pointwise
  unfold cot err rstd cell one row
  first
    | (beta_reduce; rfl)
    | blk_point []

theorem stepB (c : Dev nD) (t : Fin cfg0.N) (h : ¬t.val % 8 = 0) (j : S1x1024.Idx) : (outsAt0 m c t.val t.isLt).2.2 j = (outsAt0 m c (t.val - 1) (Nat.lt_of_le_of_lt (Nat.sub_le _ _) t.isLt)).2.2 j + ∑ i : Fin 1024, cot (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) i) (row (show FVec Ideal S1024x1024 .f32 from iblk m c 4 t) i) (j 1) * ((cell (show FVec Ideal S4x1024x704 .bf16 from iblk m c 0 t) (show FVec Ideal S4x1x704x1024 .bf16 from iblk m c 1 t) (show FVec Ideal S1024x1024 .f32 from iblk m c 2 t) i) (j 1) * rstd (cell (show FVec Ideal S4x1024x704 .bf16 from iblk m c 0 t) (show FVec Ideal S4x1x704x1024 .bf16 from iblk m c 1 t) (show FVec Ideal S1024x1024 .f32 from iblk m c 2 t) i)) := by
  rw [outsAt0_B m c t h]
  frame_open
  simp (disch := decide) only [↓ View.readCov_skip, ↓ View.readCov_cons_toLoadRect, ↓ View.readCov_fill]
  frame_out
  open_payloads
  pointwise
  unfold cot err rstd cell one row
  first
    | (beta_reduce; rfl)
    | blk_point []

end Cert.Kernel25Ideal.Val

end
-- ==== Proof.Val25b.lean ====
module

public import proofs.«01_k».proof.Proof.Val25

@[expose] public section

set_option maxRecDepth 16384
set_option maxHeartbeats 400000

noncomputable section

namespace Cert.Kernel25Ideal.Val

open Cert.Kernel25Ideal Cert.Kernel25Ideal.Gen Idealize.ShloMosaic Idealize.ShloMosaic.TcCoe Idealize.SL.Sem
open Idealize.ShloMosaic.Pipeline (Dat)
open Cert.Kit (rstd cot miss back err)

variable (m : (ℓ : Loc nD τ sig) → Buf (Elt Ideal) ℓ)

theorem idx : ∀ t : Fin cfg0.N, win0_0.index t = ![0, t.val, 0] ∧ win0_1.index t = ![0, 1, 0, 0] ∧ win0_2.index t = ![t.val, 0] ∧ win0_3.index t = ![0, 0] ∧ win0_4.index t = ![t.val, 0] ∧ win0_5.index t = ![t.val, 0] :=
  (by decide +kernel : ∀ t : Fin grid0.N, _)

/-- The last hidden row of token `i`: the residual and the product. -/
def hid (s : FVec Ideal S8192x2816 .f32) (w : FVec Ideal S2x2816x1024 .f32) (r : FVec Ideal S8192x1024 .f32) (i : Fin 8192) (d : Fin 1024) : EReal :=
  r (ix2 i d) + ∑ k : Fin 2816, s (ix2 i k) * w (ix3 (1 : Fin 2) k d)

/-- The scale of the norm, feature by feature. -/
def scale (g : FVec Ideal S1024 .f32) (d : Fin 1024) : EReal := g (ix1 d)

/-- Token `i` of an array. -/
def token (x : FVec Ideal S8192x1024 .f32) (i : Fin 8192) (d : Fin 1024) : EReal := x (ix2 i d)

/-- The gradient of what entered the norm. -/
def specX (s : FVec Ideal S8192x2816 .f32) (w : FVec Ideal S2x2816x1024 .f32) (r : FVec Ideal S8192x1024 .f32) (g : FVec Ideal S1024 .f32) (u : FVec Ideal S8192x1024 .f32) : FVec Ideal S8192x1024 .f32 := fun j =>
  back (cot (scale g) (hid s w r (j 0)) (token u (j 0))) (scale g) (hid s w r (j 0)) (j 1)

/-- The loss of the tokens. -/
def specL (s : FVec Ideal S8192x2816 .f32) (w : FVec Ideal S2x2816x1024 .f32) (r : FVec Ideal S8192x1024 .f32) (g : FVec Ideal S1024 .f32) (u : FVec Ideal S8192x1024 .f32) : FVec Ideal S1x1 .f32 := fun _ =>
  ∑ t : Fin 8, Ideal.ofBits FTy.f32 1056964608#32 * ∑ k : Fin 1024, miss (scale g) (hid s w r ⟨t.val * 1024 + k.val, by omega⟩) (token u ⟨t.val * 1024 + k.val, by omega⟩)

/-- The gradient of the norm's scale. -/
def specG (s : FVec Ideal S8192x2816 .f32) (w : FVec Ideal S2x2816x1024 .f32) (r : FVec Ideal S8192x1024 .f32) (g : FVec Ideal S1024 .f32) (u : FVec Ideal S8192x1024 .f32) : FVec Ideal S1x1024 .f32 := fun j =>
  ∑ i : Fin 8192, cot (scale g) (hid s w r i) (token u i) (j 1) * (hid s w r i (j 1) * rstd (hid s w r i))

/-- The token that row `i` of block `t` is. -/
def tok (t : Fin cfg0.N) (i : Fin 1024) : Fin 8192 := ⟨t.val * 1024 + i.val, by have := t.isLt; have : cfg0.N = 8 := N_0; omega⟩

theorem readCell (c : Dev nD) (t : Fin cfg0.N) (i : Fin 1024) : (cell (show FVec Ideal S4x1024x704 .bf16 from iblk m c 0 t) (show FVec Ideal S4x1x704x1024 .bf16 from iblk m c 1 t) (show FVec Ideal S1024x1024 .f32 from iblk m c 2 t) i) = hid (m ((c : Thread nD τ).loc main_arg0)) (m ((c : Thread nD τ).loc main_arg1)) (m ((c : Thread nD τ).loc main_arg2)) (tok t i) := by
  funext d
  unfold cell hid tok
  rw [Cert.Kit.sum_bands]
  simp only [← add_assoc]
  blk_point [iblk, idx t]

theorem readG (c : Dev nD) (t : Fin cfg0.N) : (one (show FVec Ideal S1x1024 .f32 from iblk m c 3 t)) = scale (m ((c : Thread nD τ).loc main_arg3)) := by
  funext d
  unfold one scale
  blk_point [iblk, idx t]

theorem readT (c : Dev nD) (t : Fin cfg0.N) (i : Fin 1024) : (row (show FVec Ideal S1024x1024 .f32 from iblk m c 4 t) i) = token (m ((c : Thread nD τ).loc main_arg4)) (tok t i) := by
  funext d
  unfold row token tok
  blk_point [iblk, idx t]

theorem place (t : Fin cfg0.N) (y : S1024x1024.Idx) : (win0_5.blk t).view.emb y = ix2 (tok t (y 0)) (y 1) := by
  unfold tok
  blk_ext [idx t]

theorem readX (c : Dev nD) (t : Fin cfg0.N) (i d : Fin 1024) :
    back (cot (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) i) (row (show FVec Ideal S1024x1024 .f32 from iblk m c 4 t) i)) (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) i) d = specX (m ((c : Thread nD τ).loc main_arg0)) (m ((c : Thread nD τ).loc main_arg1)) (m ((c : Thread nD τ).loc main_arg2)) (m ((c : Thread nD τ).loc main_arg3)) (m ((c : Thread nD τ).loc main_arg4)) (ix2 (tok t i) d) := by
  rw [readCell, readG, readT]
  rfl

theorem finalX (c : Dev nD) : (dats m 0 c).arrAt 5 cfg0.N = specX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out m c t]
  exact (readX m c t (y 0) (y 1)).trans (congrArg (specX (m ((c : Thread nD τ).loc main_arg0)) (m ((c : Thread nD τ).loc main_arg1)) (m ((c : Thread nD τ).loc main_arg2)) (m ((c : Thread nD τ).loc main_arg3)) (m ((c : Thread nD τ).loc main_arg4))) (place t y).symm)

theorem readL (c : Dev nD) (t : Fin cfg0.N) :
    Ideal.ofBits FTy.f32 1056964608#32 * ∑ i : Fin 1024, miss (one (show FVec Ideal S1x1024 .f32 from iblk m c 3 t)) (cell (show FVec Ideal S4x1024x704 .bf16 from iblk m c 0 t) (show FVec Ideal S4x1x704x1024 .bf16 from iblk m c 1 t) (show FVec Ideal S1024x1024 .f32 from iblk m c 2 t) i) (row (show FVec Ideal S1024x1024 .f32 from iblk m c 4 t) i)
      = Ideal.ofBits FTy.f32 1056964608#32 * ∑ i : Fin 1024, miss (scale (m ((c : Thread nD τ).loc main_arg3))) (hid (m ((c : Thread nD τ).loc main_arg0)) (m ((c : Thread nD τ).loc main_arg1)) (m ((c : Thread nD τ).loc main_arg2)) (tok t i)) (token (m ((c : Thread nD τ).loc main_arg4)) (tok t i)) := by
  simp only [readCell, readG, readT]

theorem finalL (c : Dev nD) : (dats m 0 c).arrAt 6 cfg0.N = specL (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [lossA m c t h]; exact (zero_add _).symm) (fun t h j => by rw [lossB m c t h]) (le_of_eq N_0) t0_7 rfl j, zero_add]
  unfold specL
  exact (Finset.sum_congr (M := EReal) rfl fun t _ => readL m c t).trans rfl

theorem finalG (c : Dev nD) : (dats m 0 c).arrAt 7 cfg0.N = specG (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [stepA m c t h]; exact (zero_add _).symm) (fun t h j => by rw [stepB m c t h]) (le_of_eq N_0) t0_7 rfl j, zero_add]
  unfold specG
  refine Fin.sum_mul_add_congr (fun t k hl => ?_) (by have := N_0; change cfg0.N = 8 at this; rw [this])
  rw [readCell, readG, readT]
  rfl

end Cert.Kernel25Ideal.Val

end
-- ==== Proof.Claim25.lean ====
module

public import proofs.«01_k».proof.Defs
public import proofs.«01_k».proof.Proof.Val25b
public import proofs.«01_k».proof.Proof.Gen.Reference25Ideal.Read

@[expose] public section

set_option maxRecDepth 16384
set_option maxHeartbeats 400000

noncomputable section

namespace Cert.Kernel25Ideal.Val

open Idealize.ShloMosaic Idealize.ShloMosaic.TcCoe Idealize.SL.Sem
open Cert.Kit (rstd cot miss back err)
open Cert.Reference25Ideal.Read

section Reference

variable (s : FVec Ideal S8192x2816 .f32) (w : FVec Ideal S2x2816x1024 .f32) (r : FVec Ideal S8192x1024 .f32) (g : FVec Ideal S1024 .f32) (u : FVec Ideal S8192x1024 .f32)

theorem refHid (i : Fin 8192) (d : Fin 1024) : val_main_v3 (F := Ideal) s w r (ix2 i d) = hid s w r i d := by
  unfold hid
  pointwise [val_main_v3, val_main_v2, val_main_v1, val_main_v0]

theorem refRoot (i : Fin 8192) (k : Fin 1) : val_main_v11 (F := Ideal) s w r (ix2 i k) = rstd (hid s w r i) := by
  unfold rstd
  pointwise [val_main_v11, val_main_v10, val_main_v9, val_main_v8, val_main_v7, val_main_v6, val_main_v5, val_main_v4, val_main_cst, val_main_cst_0, val_main_cst_1]
  simp only [refHid, zero_add]

theorem refNorm (i : Fin 8192) (d : Fin 1024) : val_main_v16 (F := Ideal) s w r (ix2 i d) = hid s w r i d * rstd (hid s w r i) := by
  pointwise [val_main_v16, val_main_v15]
  rw [refHid, refRoot]

theorem refErr (i : Fin 8192) (d : Fin 1024) : val_main_v20 (F := Ideal) s w r g u (ix2 i d) = err (scale g) (hid s w r i) (token u i) d := by
  unfold err scale token
  pointwise [val_main_v20, val_main_v19, val_main_v18, val_main_v17]
  rw [refNorm]

theorem refCot (i : Fin 8192) (d : Fin 1024) : val_main_v34 (F := Ideal) s w r g u (ix2 i d) = cot (scale g) (hid s w r i) (token u i) d := by
  unfold cot
  rw [← Cert.Kit.cot_eq]
  pointwise [val_main_v34, val_main_v33, val_main_v32, val_main_v31, val_main_v30, val_main_v29, val_main_cst_8, val_main_cst_9, val_main_cst_10, val_main_v23, val_main_v22, val_main_cst_3]
  rw [refErr]

theorem refScaled (i : Fin 8192) (d : Fin 1024) : val_main_v39 (F := Ideal) s w r g u (ix2 i d) = cot (scale g) (hid s w r i) (token u i) d * scale g d := by
  unfold scale
  pointwise [val_main_v39, val_main_v38, val_main_v17]
  rw [refCot]
  rfl

/-- What the mean of squares sends back to each entry of row `i`, without the entry itself. -/
theorem refMean (i : Fin 8192) (d : Fin 1024) :
    val_main_v50 (F := Ideal) s w r g u (ix2 i d)
      = Ideal.div ((∑ k : Fin 1024, hid s w r i k * (cot (scale g) (hid s w r i) (token u i) k * scale g k)) * (Ideal.ofBits FTy.f32 3204448256#32
        * Ideal.div (rstd (hid s w r i)) (Ideal.div (∑ k : Fin 1024, hid s w r i k * hid s w r i k) (Ideal.ofBits FTy.f32 1149239296#32)
          + Ideal.ofBits FTy.f32 925353388#32))) (Ideal.ofBits FTy.f32 1149239296#32) := by
  pointwise [val_main_v50, val_main_v49, val_main_v48, val_main_v47, val_main_v46, val_main_v43, val_main_v42, val_main_v41, val_main_v14, val_main_v13, val_main_v12,
    val_main_v10, val_main_v9, val_main_v8, val_main_v7, val_main_v6, val_main_v5, val_main_v4, val_main_cst, val_main_cst_0, val_main_cst_1, val_main_cst_2, val_main_cst_13, val_main_cst_14, val_main_cst_15]
  simp only [refScaled, refRoot, refHid, zero_add, Finset.univ_unique, Finset.sum_singleton]

theorem hidReal (hs : ∀ i, ∃ q : ℝ, s i = q) (hw : ∀ i, ∃ q : ℝ, w i = q) (hr : ∀ i, ∃ q : ℝ, r i = q) (i : Fin 8192) (d : Fin 1024) : ∃ q : ℝ, hid s w r i d = q := by
  unfold hid
  exact Cert.Kit.add_real _ _ (hr _) (Cert.Kit.sum_mul_real _ _ (fun _ => hs _) fun _ => hw _)

/-- The plain formula of the gradient of what entered the norm, token by token. -/
theorem referenceX (hs : ∀ i, ∃ q : ℝ, s i = q) (hw : ∀ i, ∃ q : ℝ, w i = q) (hr : ∀ i, ∃ q : ℝ, r i = q) (hg : ∀ i, ∃ q : ℝ, g i = q) (hu : ∀ i, ∃ q : ℝ, u i = q)
    (i : Fin 8192) (d : Fin 1024) : val_main_v54 (F := Ideal) s w r g u (ix2 i d) = specX s w r g u (ix2 i d) := by
  show _ = back (cot (scale g) (hid s w r i) (token u i)) (scale g) (hid s w r i) d
  refine Eq.trans ?_ ((Cert.Kit.back_eq _ _ _ _).trans (Cert.Kit.pull_norm (cot (scale g) (hid s w r i) (token u i)) (scale g) (hid s w r i) 0 d
    (fun k => Cert.Kit.cot_real _ _ _ (fun _ => hg _) (fun k => hidReal s w r hs hw hr i k) (fun _ => hu _) k) (fun k => hg _) fun k => hidReal s w r hs hw hr i k)).symm
  pointwise [val_main_v54, val_main_v53, val_main_v52, val_main_v51, val_main_v45, val_main_v44]
  simp only [refScaled, refRoot, refMean, refHid, zero_add]

/-- The plain formula of the loss. -/
theorem referenceL (hs : ∀ i, ∃ q : ℝ, s i = q) (hw : ∀ i, ∃ q : ℝ, w i = q) (hr : ∀ i, ∃ q : ℝ, r i = q) (hg : ∀ i, ∃ q : ℝ, g i = q) (hu : ∀ i, ∃ q : ℝ, u i = q)
    (j : S1x1.Idx) : val_main_v55 (F := Ideal) s w r g u j = specL s w r g u j := by
  refine Eq.trans ?_ (Cert.Kit.half_blocks (fun i => miss (scale g) (hid s w r i) (token u i)) fun i =>
    Cert.Kit.miss_real _ _ _ (fun _ => hg _) (fun k => hidReal s w r hs hw hr i k) fun _ => hu _)
  unfold miss
  pointwise [val_main_v55, val_main_v28, val_main_v27, val_main_v26, val_main_v25, val_main_v24, val_main_v21, val_main_cst_4, val_main_cst_5, val_main_cst_6, val_main_cst_7]
  simp only [refErr, zero_add]

/-- The plain formula of the gradient of the scale. -/
theorem referenceG (d : Fin 1024) : val_main_v56 (F := Ideal) s w r g u (ix2 (0 : Fin 1) d) = specG s w r g u (ix2 (0 : Fin 1) d) := by
  show _ = ∑ i : Fin 8192, cot (scale g) (hid s w r i) (token u i) d * (hid s w r i d * rstd (hid s w r i))
  pointwise [val_main_v56, val_main_v40, val_main_v37, val_main_v36, val_main_v35, val_main_cst_11, val_main_cst_12]
  simp only [refCot, refNorm, zero_add, Finset.univ_unique, Finset.sum_singleton]
  exact Finset.sum_congr rfl fun k _ => mul_comm _ _

end Reference

theorem algebraic [Cert.Pre_finite25.Facts] : Cert.algebraic_Kernel25Ideal_Reference25Ideal_pre_finite25 := by
  intro m g m' g' hpre hagree
  refine ⟨fun c => specX (m ((c : Thread nD τ).loc main_arg0)) (m ((c : Thread nD τ).loc main_arg1)) (m ((c : Thread nD τ).loc main_arg2)) (m ((c : Thread nD τ).loc main_arg3)) (m ((c : Thread nD τ).loc main_arg4)), fun c => specL (m ((c : Thread nD τ).loc main_arg0)) (m ((c : Thread nD τ).loc main_arg1)) (m ((c : Thread nD τ).loc main_arg2)) (m ((c : Thread nD τ).loc main_arg3)) (m ((c : Thread nD τ).loc main_arg4)), fun c => specG (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun r h c => ⟨(h c).1.trans (finalX m c), (h c).2.1.trans (finalL m c), (h c).2.2.1.trans (finalG m c), (h c).2.2.2⟩) (Cert.Kernel25Ideal.Value.run_blocks m g),
    (θ_run _ _ _).mono (fun r h c => ⟨(h c).1.trans ?_, (h c).2.1.trans ?_, (h c).2.2.1.trans ?_, (h c).2.2.2⟩) (Cert.Reference25Ideal.Value.run m' g')⟩
  · obtain ⟨e0, e1, e2, e3, e4⟩ := hagree c
    rw [Cert.Reference25Ideal.Read.val_main_v54_eq, e0, e1, e2, e3, e4]
    obtain ⟨h0, h1, h2, h3, h4⟩ := hpre c
    exact funext fun j => (congrArg _ (eq_ix2 j)).trans <| (referenceX _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (fun i => Cert.Kit.real_of_bit _ (congrFun h4 i)) (j 0) (j 1)).trans (congrArg _ (eq_ix2 j).symm)
  · obtain ⟨e0, e1, e2, e3, e4⟩ := hagree c
    rw [Cert.Reference25Ideal.Read.val_main_v55_eq, e0, e1, e2, e3, e4]
    obtain ⟨h0, h1, h2, h3, h4⟩ := hpre c
    exact funext fun j => referenceL _ _ _ _ _ (fun i => Cert.Kit.real_of_bit _ (congrFun h0 i)) (fun i => Cert.Kit.real_of_bit _ (congrFun h1 i))
      (fun i => Cert.Kit.real_of_bit _ (congrFun h2 i)) (fun i => Cert.Kit.real_of_bit _ (congrFun h3 i)) (fun i => Cert.Kit.real_of_bit _ (congrFun h4 i)) j
  · obtain ⟨e0, e1, e2, e3, e4⟩ := hagree c
    rw [Cert.Reference25Ideal.Read.val_main_v56_eq, e0, e1, e2, e3, e4]
    exact funext fun j => (congrArg _ ((eq_ix2 j).trans (congrArg (ix2 · (j 1)) (Subsingleton.elim (α := Fin 1) (j 0) 0)))).trans <|
      (referenceG _ _ _ _ _ (j 1)).trans rfl

end Cert.Kernel25Ideal.Val

end
-- ==== Proof.Val26.lean ====
module

public import proofs.«01_k».proof.Proof.Gen.Kernel26Ideal.Value
public import proofs.«01_k».proof.Proof.Norm
public import Idealize.ShloMosaic.Lib.StableHlo.ReadAt

@[expose] public section

set_option maxRecDepth 16384
set_option maxHeartbeats 400000

noncomputable section

namespace Cert.Kernel26Ideal.Val

open Cert.Kernel26Ideal Cert.Kernel26Ideal.Gen Idealize.ShloMosaic Idealize.ShloMosaic.TcCoe Idealize.SL.Sem
open Idealize.ShloMosaic.Pipeline (Dat)
open Cert.Kit (rstd)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

/-- One entry of a normed block. -/
def cell (H : FVec Ideal S1024x1024 .f32) (G : FVec Ideal S1x1024 .f32) (i d : Fin 1024) : EReal :=
  H (ix2 i d) * rstd (fun k => H (ix2 i k)) * G (ix2 (0 : Fin 1) d)

theorem pay (H : FVec Ideal S1024x1024 .f32) (G : FVec Ideal S1x1024 .f32) (i d : Fin 1024) : k0_pay3 (F := Ideal) H G (ix2 i d) = cell H G i d := by
  unfold cell rstd
  open_payloads
  pointwise

/-- One entry of the product of a normed block, with its bias. -/
def prod (H : FVec Ideal S1024x1024 .f32) (G : FVec Ideal S1x1024 .f32) (W : FVec Ideal S1280x1024 .bf16) (B : FVec Ideal S1x1280 .f32) (i : Fin 1024) (d : Fin 1280) : EReal :=
  ∑ k : Fin 1024, cell H G i k * W (ix2 d k) + B (ix2 (0 : Fin 1) d)

theorem pay4 (H : FVec Ideal S1024x1024 .f32) (G : FVec Ideal S1x1024 .f32) (W : FVec Ideal S1280x1024 .bf16) (B : FVec Ideal S1x1280 .f32) (i : Fin 1024) (d : Fin 1280) :
    k0_pay4 (F := Ideal) H G W B (ix2 i d) = prod H G W B i d := by
  unfold prod k0_pay4
  pointwise [pay]

theorem pay5 (H : FVec Ideal S1024x1024 .f32) (G : FVec Ideal S1x1024 .f32) (W : FVec Ideal S1280x1024 .bf16) (B : FVec Ideal S1x1280 .f32) (i : Fin 1024) (d : Fin 1152) :
    k0_pay5 (F := Ideal) H G W B (ix2 i d) = prod H G W B i ⟨d.val, by omega⟩ := by
  unfold k0_pay5
  pointwise [pay4]

/-- A rotation along the lanes, read at an entry. -/
theorem turn (x : FVec Ideal S1024x1152 .f32) (n : BitVec 32) (i : Fin 1024) (d : Fin 1152) :
    dynamicRotate 1 n none x rotates_S1024x1152_d1 (ix2 i d) = x (ix2 i (⟨(d.val + 1152 - n.toNat % 1152) % 1152, Nat.mod_lt _ (by decide)⟩ : Fin 1152)) :=
  congrArg x (funext fun b => match b with
    | 0 => rfl
    | 1 => rfl)

theorem pay8 (H : FVec Ideal S1024x1024 .f32) (G : FVec Ideal S1x1024 .f32) (W : FVec Ideal S1280x1024 .bf16) (B : FVec Ideal S1x1280 .f32) (i : Fin 1024) (d : Fin 1152) :
    k0_pay8 (F := Ideal) H G W B (ix2 i d) = prod H G W B i ⟨(d.val + 32) % 1152, by omega⟩ := by
  unfold k0_pay8
  rw [turn, pay5]
  have h : (1120#32).toNat = 1120 := rfl
  exact congrArg (prod H G W B i) (Fin.ext (by show (d.val + 1152 - (1120#32).toNat % 1152) % 1152 = (d.val + 32) % 1152; rw [h]; omega))

theorem pay9 (H : FVec Ideal S1024x1024 .f32) (G : FVec Ideal S1x1024 .f32) (W : FVec Ideal S1280x1024 .bf16) (B : FVec Ideal S1x1280 .f32) (i : Fin 1024) (d : Fin 1152) :
    k0_pay9 (F := Ideal) H G W B (ix2 i d) = prod H G W B i ⟨(d.val + 1120) % 1152, by omega⟩ := by
  unfold k0_pay9
  rw [turn, pay5]
  have h : (32#32).toNat = 32 := rfl
  exact congrArg (prod H G W B i) (Fin.ext (by show (d.val + 1152 - (32#32).toNat % 1152) % 1152 = (d.val + 1120) % 1152; rw [h]; omega))

theorem pay6 (C : FVec Ideal S1024x128 .f32) (i : Fin 1024) (d : Fin 1152) :
    k0_pay6 (F := Ideal) C (ix2 i d) = C (ix2 i ⟨d.val % 128, by omega⟩) := by
  unfold k0_pay6
  pointwise
  split_ifs <;> exact congrArg (fun x => C (ix2 i x)) (Fin.ext (by have := d.isLt; dsimp only; omega))

theorem pay7 (H : FVec Ideal S1024x1024 .f32) (G : FVec Ideal S1x1024 .f32) (W : FVec Ideal S1280x1024 .bf16) (B : FVec Ideal S1x1280 .f32) (C : FVec Ideal S1024x128 .f32) (i : Fin 1024) (d : Fin 1152) :
    k0_pay7 (F := Ideal) H G W B C (ix2 i d) = prod H G W B i ⟨d.val, by omega⟩ * C (ix2 i ⟨d.val % 128, by omega⟩) := by
  exact congrArg₂ (· * ·) (pay5 H G W B i d) (pay6 C i d)

/-- The mask of the lanes of the first half of a head. -/
def mask (d : BitVec 32) : BitVec 1 :=
  IntOp.cmpi CmpIPredicate.slt
            (Scalar.select
              (IntOp.andi
                (IntOp.xori
                  (IntOp.cmpi CmpIPredicate.slt
                    (IntOp.remsi ArithUnit.vector d
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector d
                    (Scalar.select (Scalar.cmpi CmpIPredicate.eq 64#32 0#32) 1#32 64#32))
                  0#32))
              (IntOp.addi
                (IntOp.remsi ArithUnit.vector d
                  (Scalar.select (Scalar.cmpi CmpIPredicate.eq 64#32 0#32) 1#32 64#32))
                (Scalar.select (Scalar.cmpi CmpIPredicate.eq 64#32 0#32) 1#32 64#32))
              (IntOp.remsi ArithUnit.vector d
                (Scalar.select (Scalar.cmpi CmpIPredicate.eq 64#32 0#32) 1#32 64#32)))
            32#32

theorem mask_eq : ∀ d : Fin 1152, mask (BitVec.ofNat 32 d.val) = if d.val % 64 < 32 then 1#1 else 0#1 := by
  decide +kernel

theorem rot (A B : FVec Ideal S1024x1152 .f32) (C D : FVec Ideal S1024x1152 .f32) (i : Fin 1024) (d : Fin 1152) :
    k0_pay1 (F := Ideal) A B (iota .tc S1024x1152 32 [1] iota_S1024x1152_d1_w32) C D 64#32 (Scalar.cmpi .eq 64#32 0#32) (ix2 i d)
      = B (ix2 i d) + (if d.val % 64 < 32 then C (ix2 i d) else D (ix2 i d)) * A (ix2 i d) := by
  unfold k0_pay1
  pointwise
  refine congrArg (fun x => B (ix2 i d) + x * A (ix2 i d)) ((congrArg (fun x => Scalar.select x (C (ix2 i d)) (D (ix2 i d))) (mask_eq d)).trans ?_)
  split_ifs <;> rfl

/-- One entry of a block of the second result. -/
def turned (H : FVec Ideal S1024x1024 .f32) (G : FVec Ideal S1x1024 .f32) (W : FVec Ideal S1280x1024 .bf16) (B : FVec Ideal S1x1280 .f32) (C S : FVec Ideal S1024x128 .f32) (i : Fin 1024) (d : Fin 1280) : EReal :=
  if d.val < 1152 then prod H G W B i d * C (ix2 i (⟨d.val % 128, by omega⟩ : Fin 128))
    + (if d.val % 64 < 32 then prod H G W B i ⟨(d.val + 32) % 1152, by omega⟩ else prod H G W B i ⟨(d.val + 1120) % 1152, by omega⟩) * S (ix2 i (⟨d.val % 128, by omega⟩ : Fin 128))
  else prod H G W B i d

theorem pay1 (H : FVec Ideal S1024x1024 .f32) (G : FVec Ideal S1x1024 .f32) (W : FVec Ideal S1280x1024 .bf16) (B : FVec Ideal S1x1280 .f32) (C S : FVec Ideal S1024x128 .f32) (i : Fin 1024) (d : Fin 1152) :
    k0_pay1 (F := Ideal) (k0_pay6 S) (k0_pay7 H G W B C) (iota .tc S1024x1152 32 [1] iota_S1024x1152_d1_w32) (k0_pay8 H G W B) (k0_pay9 H G W B) 64#32 (Scalar.cmpi .eq 64#32 0#32) (ix2 i d)
      = turned H G W B C S i ⟨d.val, by omega⟩ := by
  rw [rot, pay6, pay7, pay8, pay9]
  exact (if_pos d.isLt).symm

theorem pay2 (H : FVec Ideal S1024x1024 .f32) (G : FVec Ideal S1x1024 .f32) (W : FVec Ideal S1280x1024 .bf16) (B : FVec Ideal S1x1280 .f32) (C S : FVec Ideal S1024x128 .f32) (i : Fin 1024) (d : Fin 128) :
    k0_pay2 (F := Ideal) (k0_pay4 H G W B) (ix2 i d) = turned H G W B C S i ⟨1152 + d.val, by omega⟩ := by
  refine Eq.trans ?_ (if_neg (show ¬ (1152 + d.val < 1152) by omega)).symm
  unfold k0_pay2
  pointwise [pay4]

theorem outY (c : Dev nD) (t : Fin cfg0.N) (i d : Fin 1024) :
    (outsAt0 m c t).1 (ix2 i d) = cell (iblk m c 0 t) (iblk m c 1 t) i d := by
  unfold outsAt0
  dsimp only
  frame_out
  exact pay _ _ i d

theorem outQ (c : Dev nD) (t : Fin cfg0.N) (j : S1024x1280.Idx) :
    (outsAt0 m c t).2 j = turned (iblk m c 0 t) (iblk m c 1 t) (iblk m c 2 t) (iblk m c 3 t) (iblk m c 4 t) (iblk m c 5 t) (j 0) (j 1) := by
  unfold outsAt0
  dsimp only
  frame_out
  canon_tiles x h using View.cover_of_tiledBy _ ![1024, 128] (by sl_kernel_rfl) j
  · refine (congrArg _ (eq_ix2 x)).trans ((pay2 _ _ _ _ (iblk m c 4 t) (iblk m c 5 t) (x 0) (x 1)).trans ?_)
    exact congrArg₂ (turned _ _ _ _ _ _) (Fin.ext h0.symm) (Fin.ext h1.symm)
  · refine (congrArg _ (eq_ix2 x)).trans ((pay1 _ _ _ _ (iblk m c 4 t) (iblk m c 5 t) (x 0) (x 1)).trans ?_)
    exact congrArg₂ (turned _ _ _ _ _ _) (Fin.ext h0.symm) (Fin.ext h1.symm)

/-- The token that row `i` of block `t` is. -/
def tok (t : Fin cfg0.N) (i : Fin 1024) : Fin 8192 := ⟨t.val * 1024 + i.val, by have := t.isLt; have : cfg0.N = 8 := N_0; omega⟩

/-- The angle of position `i` at the lane pair `e`. -/
def angle (i : Fin 8192) (e : ℕ) : EReal :=
  FloatOps.sitofp (F := Ideal) FTy.f32 (BitVec.ofNat 32 i.val) * Ideal.pow (Ideal.ofBits FTy.f32 1176256512#32)
    (Ideal.div (-(Ideal.ofBits FTy.f32 1073741824#32 * FloatOps.sitofp (F := Ideal) FTy.f32 (BitVec.ofNat 32 e))) (Ideal.ofBits FTy.f32 1115684864#32))

theorem hostC (c : Dev nD) (i : Fin 8192) (d : Fin 128) :
    (show FVec Ideal S8192x128 .f32 from V m c main_v23) (ix2 i d) = Ideal.cos (angle i (d.val % 32)) := by
  unfold angle V
  after_reads_at

/-- The mask of the lanes of the second half of a head. -/
def sign (d : BitVec 32) : BitVec 1 :=
  (IntOp.cmpi CmpIPredicate.sge
        (Scalar.select
          (IntOp.andi
            (IntOp.cmpi CmpIPredicate.ne
              (IntOp.cmpi CmpIPredicate.slt
                (IntOp.remsi ArithUnit.host d
                  (Scalar.select (IntOp.cmpi CmpIPredicate.eq 64#32 0#32) (1#32)
                    64#32))
                0#32)
              (IntOp.cmpi CmpIPredicate.slt
                (Scalar.select (IntOp.cmpi CmpIPredicate.eq 64#32 0#32) (1#32)
                  64#32)
                0#32))
            (IntOp.cmpi CmpIPredicate.ne
              (IntOp.remsi ArithUnit.host d
                (Scalar.select (IntOp.cmpi CmpIPredicate.eq 64#32 0#32) (1#32)
                  64#32))
              0#32))
          (IntOp.addi
            (IntOp.remsi ArithUnit.host d
              (Scalar.select (IntOp.cmpi CmpIPredicate.eq 64#32 0#32) (1#32)
                64#32))
            (Scalar.select (IntOp.cmpi CmpIPredicate.eq 64#32 0#32) (1#32)
              64#32))
          (IntOp.remsi ArithUnit.host d
            (Scalar.select (IntOp.cmpi CmpIPredicate.eq 64#32 0#32) (1#32)
              64#32)))
        32#32)

theorem sign_eq : ∀ d : Fin 128, sign (BitVec.ofNat 32 d.val) = if d.val % 64 < 32 then 0#1 else 1#1 := by
  decide +kernel

theorem hostS (c : Dev nD) (i : Fin 8192) (d : Fin 128) :
    (show FVec Ideal S8192x128 .f32 from V m c main_v28) (ix2 i d)
      = if d.val % 64 < 32 then -Ideal.sin (angle i (d.val % 32)) else Ideal.sin (angle i (d.val % 32)) := by
  refine Eq.trans (b := Scalar.select (sign (BitVec.ofNat 32 d.val)) (Ideal.sin (angle i (d.val % 32))) (-Ideal.sin (angle i (d.val % 32)))) ?_ ?_
  · unfold angle V
    after_reads_at
    rfl
  · rw [sign_eq]
    split_ifs <;> rfl

theorem readC (c : Dev nD) (t : Fin cfg0.N) (i : Fin 1024) (d : Fin 128) :
    (show FVec Ideal S1024x128 .f32 from iblk m c 4 t) (ix2 i d) = Ideal.cos (angle (tok t i) (d.val % 32)) := by
  refine Eq.trans ?_ (hostC m c (tok t i) d)
  unfold tok
  show (show FVec Ideal S8192x128 .f32 from V m c main_v23) ((win0_4.blk t).view.emb (ix2 i d)) = _
  exact congrArg (show FVec Ideal S8192x128 .f32 from V m c main_v23) (by blk_ext [idx t])

theorem readS (c : Dev nD) (t : Fin cfg0.N) (i : Fin 1024) (d : Fin 128) :
    (show FVec Ideal S1024x128 .f32 from iblk m c 5 t) (ix2 i d)
      = if d.val % 64 < 32 then -Ideal.sin (angle (tok t i) (d.val % 32)) else Ideal.sin (angle (tok t i) (d.val % 32)) := by
  refine Eq.trans ?_ (hostS m c (tok t i) d)
  unfold tok
  show (show FVec Ideal S8192x128 .f32 from V m c main_v28) ((win0_5.blk t).view.emb (ix2 i d)) = _
  exact congrArg (show FVec Ideal S8192x128 .f32 from V m c main_v28) (by blk_ext [idx t])

/-- The normed row of token `i`. -/
def entry (x : FVec Ideal S8192x1024 .f32) (g : FVec Ideal S1024 .f32) (i : Fin 8192) (d : Fin 1024) : EReal :=
  x (ix2 i d) * rstd (fun k => x (ix2 i k)) * g (ix1 d)

/-- The product of the normed row, with its bias. -/
def lane (x : FVec Ideal S8192x1024 .f32) (g : FVec Ideal S1024 .f32) (w : FVec Ideal S1024x1280 .f32) (b : FVec Ideal S1280 .f32) (i : Fin 8192) (d : Fin 1280) : EReal :=
  ∑ k : Fin 1024, entry x g i k * w (ix2 k d) + b (ix1 d)

/-- A pair of lanes turned by the angle of its position. -/
def spin (x : FVec Ideal S8192x1024 .f32) (g : FVec Ideal S1024 .f32) (w : FVec Ideal S1024x1280 .f32) (b : FVec Ideal S1280 .f32) (i : Fin 8192) (d : Fin 1280) : EReal :=
  if d.val < 1152 then
    if d.val % 64 < 32 then lane x g w b i d * Ideal.cos (angle i (d.val % 32)) - lane x g w b i ⟨(d.val + 32) % 1152, by omega⟩ * Ideal.sin (angle i (d.val % 32))
    else lane x g w b i d * Ideal.cos (angle i (d.val % 32)) + lane x g w b i ⟨(d.val + 1120) % 1152, by omega⟩ * Ideal.sin (angle i (d.val % 32))
  else lane x g w b i d

def specY (x : FVec Ideal S8192x1024 .f32) (g : FVec Ideal S1024 .f32) : FVec Ideal S8192x1024 .bf16 := fun j => entry x g (j 0) (j 1)

def specQ (x : FVec Ideal S8192x1024 .f32) (g : FVec Ideal S1024 .f32) (w : FVec Ideal S1024x1280 .f32) (b : FVec Ideal S1280 .f32) : FVec Ideal S8192x1280 .bf16 := fun j =>
  spin x g w b (j 0) (j 1)

theorem readH (c : Dev nD) (t : Fin cfg0.N) (i d : Fin 1024) :
    (show FVec Ideal S1024x1024 .f32 from iblk m c 0 t) (ix2 i d) = m ((c : Thread nD τ).loc main_arg0) (ix2 (tok t i) d) := by
  refine Eq.trans ?_ (congrFun (V_main_arg0 m c) (ix2 (tok t i) d))
  unfold tok
  show (show FVec Ideal S8192x1024 .f32 from V m c main_arg0) ((win0_0.blk t).view.emb (ix2 i d)) = _
  exact congrArg (show FVec Ideal S8192x1024 .f32 from V m c main_arg0) (by blk_ext [idx t])

theorem hostG (c : Dev nD) (d : Fin 1024) : (show FVec Ideal S1x1024 .f32 from V m c main_v29) (ix2 (0 : Fin 1) d) = m ((c : Thread nD τ).loc main_arg1) (ix1 d) := by
  unfold V
  after_reads_at

theorem readG (c : Dev nD) (t : Fin cfg0.N) (d : Fin 1024) :
    (show FVec Ideal S1x1024 .f32 from iblk m c 1 t) (ix2 (0 : Fin 1) d) = m ((c : Thread nD τ).loc main_arg1) (ix1 d) := by
  refine Eq.trans ?_ (hostG m c d)
  show (show FVec Ideal S1x1024 .f32 from V m c main_v29) ((win0_1.blk t).view.emb (ix2 (0 : Fin 1) d)) = _
  exact congrArg (show FVec Ideal S1x1024 .f32 from V m c main_v29) (by blk_ext [idx t])

theorem hostW (c : Dev nD) (k : Fin 1024) (d : Fin 1280) : (show FVec Ideal S1280x1024 .bf16 from V m c main_v31) (ix2 d k) = m ((c : Thread nD τ).loc main_arg2) (ix2 k d) := by
  unfold V
  after_reads_at

theorem readW (c : Dev nD) (t : Fin cfg0.N) (k : Fin 1024) (d : Fin 1280) :
    (show FVec Ideal S1280x1024 .bf16 from iblk m c 2 t) (ix2 d k) = m ((c : Thread nD τ).loc main_arg2) (ix2 k d) := by
  refine Eq.trans ?_ (hostW m c k d)
  show (show FVec Ideal S1280x1024 .bf16 from V m c main_v31) ((win0_2.blk t).view.emb (ix2 d k)) = _
  exact congrArg (show FVec Ideal S1280x1024 .bf16 from V m c main_v31) (by blk_ext [idx t])

theorem hostB (c : Dev nD) (d : Fin 1280) : (show FVec Ideal S1x1280 .f32 from V m c main_v32) (ix2 (0 : Fin 1) d) = m ((c : Thread nD τ).loc main_arg3) (ix1 d) := by
  unfold V
  after_reads_at

theorem readB (c : Dev nD) (t : Fin cfg0.N) (d : Fin 1280) :
    (show FVec Ideal S1x1280 .f32 from iblk m c 3 t) (ix2 (0 : Fin 1) d) = m ((c : Thread nD τ).loc main_arg3) (ix1 d) := by
  refine Eq.trans ?_ (hostB m c d)
  show (show FVec Ideal S1x1280 .f32 from V m c main_v32) ((win0_3.blk t).view.emb (ix2 (0 : Fin 1) d)) = _
  exact congrArg (show FVec Ideal S1x1280 .f32 from V m c main_v32) (by blk_ext [idx t])

theorem readCell (c : Dev nD) (t : Fin cfg0.N) (i d : Fin 1024) :
    cell (iblk m c 0 t) (iblk m c 1 t) i d = entry (m ((c : Thread nD τ).loc main_arg0)) (m ((c : Thread nD τ).loc main_arg1)) (tok t i) d := by
  unfold cell entry
  rw [show (fun k => (show FVec Ideal S1024x1024 .f32 from iblk m c 0 t) (ix2 i k)) = fun k => m ((c : Thread nD τ).loc main_arg0) (ix2 (tok t i) k) from funext fun k => readH m c t i k]
  exact congrArg₂ (· * rstd _ * ·) (readH m c t i d) (readG m c t d)

theorem readProd (c : Dev nD) (t : Fin cfg0.N) (i : Fin 1024) (d : Fin 1280) :
    prod (iblk m c 0 t) (iblk m c 1 t) (iblk m c 2 t) (iblk m c 3 t) i d
      = lane (m ((c : Thread nD τ).loc main_arg0)) (m ((c : Thread nD τ).loc main_arg1)) (m ((c : Thread nD τ).loc main_arg2)) (m ((c : Thread nD τ).loc main_arg3)) (tok t i) d := by
  unfold prod lane
  exact congrArg₂ (· + ·) (Finset.sum_congr rfl fun k _ => congrArg₂ (· * ·) (readCell m c t i k) (readW m c t k d)) (readB m c t d)

theorem readSpin (c : Dev nD) (t : Fin cfg0.N) (i : Fin 1024) (d : Fin 1280) :
    turned (iblk m c 0 t) (iblk m c 1 t) (iblk m c 2 t) (iblk m c 3 t) (iblk m c 4 t) (iblk m c 5 t) i d
      = spin (m ((c : Thread nD τ).loc main_arg0)) (m ((c : Thread nD τ).loc main_arg1)) (m ((c : Thread nD τ).loc main_arg2)) (m ((c : Thread nD τ).loc main_arg3)) (tok t i) d := by
  unfold turned spin
  refine if_congr Iff.rfl ?_ (readProd m c t i d)
  rw [readProd, readProd, readProd]
  refine (congrArg₂ (fun x y : EReal => _ * x + _ * y) (readC m c t i (⟨d.val % 128, by omega⟩ : Fin 128)) (readS m c t i (⟨d.val % 128, by omega⟩ : Fin 128))).trans ?_
  have h1 : d.val % 128 % 64 = d.val % 64 := by omega
  have h2 : d.val % 128 % 32 = d.val % 32 := by omega
  simp only [h1, h2]
  by_cases h : d.val % 64 < 32
  · rw [if_pos h, if_pos h, if_pos h, mul_neg, ← sub_eq_add_neg]
  · rw [if_neg h, if_neg h, if_neg h]

theorem placeY (t : Fin cfg0.N) (y : S1024x1024.Idx) : (win0_6.blk t).view.emb y = ix2 (tok t (y 0)) (y 1) := by
  unfold tok
  blk_ext [idx t]

theorem placeQ (t : Fin cfg0.N) (y : S1024x1280.Idx) : (win0_7.blk t).view.emb y = ix2 (tok t (y 0)) (y 1) := by
  unfold tok
  blk_ext [idx t]

theorem finalY (c : Dev nD) : (dats m 0 c).arrAt 6 cfg0.N = specY (m ((c : Thread nD τ).loc main_arg0)) (m ((c : Thread nD τ).loc main_arg1)) := by
  refine (dats m 0 c).arrAt_eq_of_covers 6 _ (by decide +kernel) fun t hf y => ?_
  blk_simp
  rw [after0_6]
  exact ((congrArg _ (eq_ix2 y)).trans (outY m c t (y 0) (y 1))).trans ((readCell m c t (y 0) (y 1)).trans (congrArg (specY (m ((c : Thread nD τ).loc main_arg0)) (m ((c : Thread nD τ).loc main_arg1))) (placeY t y).symm))

theorem finalQ (c : Dev nD) : (dats m 0 c).arrAt 7 cfg0.N = specQ (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  exact (outQ m c t y).trans ((readSpin m c t (y 0) (y 1)).trans (congrArg (specQ (m ((c : Thread nD τ).loc main_arg0)) (m ((c : Thread nD τ).loc main_arg1)) (m ((c : Thread nD τ).loc main_arg2)) (m ((c : Thread nD τ).loc main_arg3))) (placeQ t y).symm))

end Cert.Kernel26Ideal.Val

end
-- ==== Proof.Claim26.lean ====
module

public import proofs.«01_k».proof.Defs
public import proofs.«01_k».proof.Proof.Val26
public import proofs.«01_k».proof.Proof.Gen.Reference26Ideal.Read

@[expose] public section

set_option maxRecDepth 16384
set_option maxHeartbeats 400000

noncomputable section

namespace Cert.Kernel26Ideal.Val

open Idealize.ShloMosaic Idealize.ShloMosaic.TcCoe Idealize.SL.Sem
open Cert.Kit (rstd)
open Cert.Reference26Ideal.Read

section Reference

variable (x : FVec Ideal S8192x1024 .f32) (g : FVec Ideal S1024 .f32) (w : FVec Ideal S1024x1280 .f32) (b : FVec Ideal S1280 .f32)

theorem refRoot (i : Fin 8192) (k : Fin 1) : val_main_v27 (F := Ideal) x (ix2 i k) = rstd (fun d => x (ix2 i d)) := by
  unfold rstd
  pointwise [val_main_v27, val_main_v26, val_main_v25, val_main_v24, val_main_v23, val_main_v22, val_main_v21, val_main_v20, val_main_cst_3, val_main_cst_4, val_main_cst_5]

theorem refEntry (i : Fin 8192) (d : Fin 1024) : val_main_v32 (F := Ideal) x g (ix2 i d) = entry x g i d := by
  unfold entry
  pointwise [val_main_v32, val_main_v31, val_main_v30, val_main_v29, val_main_v28]
  rw [refRoot]

/-- The plain formula of the norm. -/
theorem referenceY (i : Fin 8192) (d : Fin 1024) : val_main_v69 (F := Ideal) x g (ix2 i d) = specY x g (ix2 i d) := by
  show _ = entry x g i d
  pointwise [val_main_v69]
  rw [refEntry]

theorem refLane (i : Fin 8192) (d : Fin 1280) : val_main_v36 (F := Ideal) x g w b (ix2 i d) = lane x g w b i d := by
  unfold lane
  pointwise [val_main_v36, val_main_v35, val_main_v34, val_main_v33]
  simp only [refEntry]

theorem refAngle (i : Fin 8192) (e : Fin 32) : val_main_v15 (F := Ideal) (ix2 i e) = angle i e.val := by
  unfold angle
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem refHead (i : Fin 8192) (h : Fin 16) (e : Fin 64) : val_main_v38 (F := Ideal) x g w b (ix3 i h e) = lane x g w b i ⟨h.val * 64 + e.val, by omega⟩ := by
  rw [val_main_v38_apply, val_main_v37_apply]
  exact (congrArg (val_main_v36 (F := Ideal) x g w b) (show _ = ix2 i (⟨h.val * 64 + e.val, by omega⟩ : Fin 1280) from funext fun a => match a with
    | 0 => Fin.ext (by show ((i.val * 16 + h.val) * 64 + e.val) / 1024 = i.val; omega)
    | 1 => Fin.ext (by show ((i.val * 16 + h.val) * 64 + e.val) % 1024 = h.val * 64 + e.val; omega))).trans (refLane x g w b i _)

theorem refHeadK (i : Fin 8192) (h : Fin 2) (e : Fin 64) : val_main_v54 (F := Ideal) x g w b (ix3 i h e) = lane x g w b i ⟨1024 + h.val * 64 + e.val, by omega⟩ := by
  rw [val_main_v54_apply, val_main_v53_apply]
  exact (congrArg (val_main_v36 (F := Ideal) x g w b) (show _ = ix2 i (⟨1024 + h.val * 64 + e.val, by omega⟩ : Fin 1280) from funext fun a => match a with
    | 0 => Fin.ext (by show ((i.val * 2 + h.val) * 64 + e.val) / 128 = i.val; omega)
    | 1 => Fin.ext (by show 1024 + ((i.val * 2 + h.val) * 64 + e.val) % 128 = 1024 + h.val * 64 + e.val; omega))).trans (refLane x g w b i _)

theorem spinLow (i : Fin 8192) (n : ℕ) (hn : n < 1152) (p q : Fin 1280) (e : ℕ) (he : n % 64 = e) (hl : e < 32) (hp : p.val = n) (hq : q.val = n + 32) :
    lane x g w b i p * Ideal.cos (angle i e) - lane x g w b i q * Ideal.sin (angle i e) = spin x g w b i ⟨n, Nat.lt_trans hn (by decide)⟩ := by
  have hp' : p = ⟨n, Nat.lt_trans hn (by decide)⟩ := Fin.ext hp
  have hq' : q = ⟨(n + 32) % 1152, lt_of_lt_of_le (Nat.mod_lt _ (by decide)) (by decide)⟩ := Fin.ext (by show q.val = (n + 32) % 1152; omega)
  have he' : e = n % 32 := by omega
  rw [hp', hq', he']
  unfold spin
  rw [if_pos (by show n < 1152; omega), if_pos (by show n % 64 < 32; omega)]

theorem spinHigh (i : Fin 8192) (n : ℕ) (hn : n < 1152) (p q : Fin 1280) (e : ℕ) (he : n % 64 = e + 32) (hp : p.val = n) (hq : q.val + 32 = n) :
    lane x g w b i p * Ideal.cos (angle i e) + lane x g w b i q * Ideal.sin (angle i e) = spin x g w b i ⟨n, Nat.lt_trans hn (by decide)⟩ := by
  have hp' : p = ⟨n, Nat.lt_trans hn (by decide)⟩ := Fin.ext hp
  have hq' : q = ⟨(n + 1120) % 1152, lt_of_lt_of_le (Nat.mod_lt _ (by decide)) (by decide)⟩ := Fin.ext (by show q.val = (n + 1120) % 1152; omega)
  have he' : e = n % 32 := by omega
  rw [hp', hq', he']
  unfold spin
  rw [if_pos (by show n < 1152; omega), if_neg (by show ¬ (n % 64 < 32); omega)]

theorem refTurnQ (i : Fin 8192) (h : Fin 16) (e : Fin 64) : val_main_v51 (F := Ideal) x g w b (ix3 i h e) = spin x g w b i ⟨h.val * 64 + e.val, by omega⟩ := by
  pointwise [val_main_v51, val_main_v50, val_main_v49, val_main_v48, val_main_v47, val_main_v46, val_main_v45, val_main_v44, val_main_v43, val_main_v42, val_main_v41, val_main_v40, val_main_v39, val_main_v19, val_main_v18, val_main_v17, val_main_v16, refHead, refAngle]
  by_cases hl : e.val < 32
  · rw [dif_pos hl]
    exact spinLow x g w b i (h.val * 64 + e.val) (by omega) _ _ e.val (by omega) hl rfl (by show h.val * 64 + (32 + e.val) = _; omega)
  · rw [dif_neg hl]
    exact spinHigh x g w b i (h.val * 64 + e.val) (by omega) _ _ (e.val - 32) (by omega) (by show h.val * 64 + (32 + (e.val - 32)) = _; omega) (by show h.val * 64 + (e.val - 32) + 32 = _; omega)

theorem refTurnK (i : Fin 8192) (h : Fin 2) (e : Fin 64) : val_main_v67 (F := Ideal) x g w b (ix3 i h e) = spin x g w b i ⟨1024 + h.val * 64 + e.val, by omega⟩ := by
  pointwise [val_main_v67, val_main_v66, val_main_v65, val_main_v64, val_main_v63, val_main_v62, val_main_v61, val_main_v60, val_main_v59, val_main_v58, val_main_v57, val_main_v56, val_main_v55, val_main_v19, val_main_v18, val_main_v17, val_main_v16, refHeadK, refAngle]
  by_cases hl : e.val < 32
  · rw [dif_pos hl]
    exact spinLow x g w b i (1024 + h.val * 64 + e.val) (by omega) _ _ e.val (by omega) hl rfl (by show 1024 + h.val * 64 + (32 + e.val) = _; omega)
  · rw [dif_neg hl]
    exact spinHigh x g w b i (1024 + h.val * 64 + e.val) (by omega) _ _ (e.val - 32) (by omega) (by show 1024 + h.val * 64 + (32 + (e.val - 32)) = _; omega) (by show 1024 + h.val * 64 + (e.val - 32) + 32 = _; omega)

theorem refQ (i : Fin 8192) (d : Fin 1024) : val_main_v52 (F := Ideal) x g w b (ix2 i d) = spin x g w b i ⟨d.val, by omega⟩ := by
  rw [val_main_v52_apply]
  exact (congrArg (val_main_v51 (F := Ideal) x g w b) (show _ = ix3 i (⟨d.val / 64, by omega⟩ : Fin 16) (⟨d.val % 64, by omega⟩ : Fin 64) from funext fun a => match a with
    | 0 => Fin.ext (by show (i.val * 1024 + d.val) / 1024 = i.val; omega)
    | 1 => Fin.ext (by show (i.val * 1024 + d.val) / 64 % 16 = d.val / 64; omega)
    | 2 => Fin.ext (by show (i.val * 1024 + d.val) % 64 = d.val % 64; omega))).trans
    ((refTurnQ x g w b i _ _).trans (congrArg (spin x g w b i) (Fin.ext (by show d.val / 64 * 64 + d.val % 64 = d.val; omega))))

theorem refK (i : Fin 8192) (d : Fin 128) : val_main_v68 (F := Ideal) x g w b (ix2 i d) = spin x g w b i ⟨1024 + d.val, by omega⟩ := by
  rw [val_main_v68_apply]
  exact (congrArg (val_main_v67 (F := Ideal) x g w b) (show _ = ix3 i (⟨d.val / 64, by omega⟩ : Fin 2) (⟨d.val % 64, by omega⟩ : Fin 64) from funext fun a => match a with
    | 0 => Fin.ext (by show (i.val * 128 + d.val) / 128 = i.val; omega)
    | 1 => Fin.ext (by show (i.val * 128 + d.val) / 64 % 2 = d.val / 64; omega)
    | 2 => Fin.ext (by show (i.val * 128 + d.val) % 64 = d.val % 64; omega))).trans
    ((refTurnK x g w b i _ _).trans (congrArg (spin x g w b i) (Fin.ext (by show 1024 + d.val / 64 * 64 + d.val % 64 = 1024 + d.val; omega))))

/-- The plain formula of the turned q and k and of v. -/
theorem referenceQ (i : Fin 8192) (d : Fin 1280) : val_main_v72 (F := Ideal) x g w b (ix2 i d) = specQ x g w b (ix2 i d) := by
  show _ = spin x g w b i d
  pointwise [val_main_v72, val_main_v71, val_main_v70]
  by_cases h1 : d.val < 1024
  · rw [dif_pos h1]
    exact refQ x g w b i ⟨d.val, h1⟩
  · rw [dif_neg h1]
    by_cases h2 : d.val - 1024 < 128
    · rw [dif_pos h2]
      exact (refK x g w b i ⟨d.val - 1024, h2⟩).trans (congrArg (spin x g w b i) (Fin.ext (a := (⟨1024 + (d.val - 1024), by omega⟩ : Fin 1280)) (b := d) (by show 1024 + (d.val - 1024) = d.val; omega)))
    · rw [dif_neg h2]
      refine (refLane x g w b i ⟨1152 + (d.val - 1024 - 128), by omega⟩).trans ((congrArg (lane x g w b i) (Fin.ext (a := (⟨1152 + (d.val - 1024 - 128), by omega⟩ : Fin 1280)) (b := d) (by show 1152 + (d.val - 1024 - 128) = d.val; omega))).trans ?_)
      unfold spin
      rw [if_neg (by omega)]

end Reference

theorem algebraic : Cert.algebraic_Kernel26Ideal_Reference26Ideal := by
  intro m g m' g' hpre hagree
  refine ⟨fun c => specY (m ((c : Thread nD τ).loc main_arg0)) (m ((c : Thread nD τ).loc main_arg1)), fun c => specQ (m ((c : Thread nD τ).loc main_arg0)) (m ((c : Thread nD τ).loc main_arg1)) (m ((c : Thread nD τ).loc main_arg2)) (m ((c : Thread nD τ).loc main_arg3)),
    (θ_run _ _ _).mono (fun r h c => ⟨(h c).1.trans (finalY m c), (h c).2.1.trans (finalQ m c), (h c).2.2⟩) (Cert.Kernel26Ideal.Value.run_blocks m g),
    (θ_run _ _ _).mono (fun r h c => ⟨(h c).1.trans ?_, (h c).2.1.trans ?_, (h c).2.2⟩) (Cert.Reference26Ideal.Value.run m' g')⟩
  · obtain ⟨e0, e1, e2, e3⟩ := hagree c
    rw [Cert.Reference26Ideal.Read.val_main_v69_eq, e0, e1]
    exact funext fun j => (congrArg _ (eq_ix2 j)).trans <| (referenceY _ _ (j 0) (j 1)).trans (congrArg _ (eq_ix2 j).symm)
  · obtain ⟨e0, e1, e2, e3⟩ := hagree c
    rw [Cert.Reference26Ideal.Read.val_main_v72_eq, e0, e1, e2, e3]
    exact funext fun j => (congrArg _ (eq_ix2 j)).trans <| (referenceQ _ _ _ _ (j 0) (j 1)).trans (congrArg _ (eq_ix2 j).symm)

end Cert.Kernel26Ideal.Val

end
-- ==== Proof.lean ====
/- The programs' frames are the generated ones; the value claims are proved in the modules `Claim…`, one per call:
   what each grid point leaves, the final arrays as plain sums, and the reference's formula as the same sums. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Claim2
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Claim3
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Claim4
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Claim5
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Claim6
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Claim7
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Claim8
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Claim9
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Claim10
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Claim11
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Claim12
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Claim13
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Claim14
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Claim15
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Claim16
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Claim17
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Claim18
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Claim19
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Claim20
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Claim21
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Claim22
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Claim23
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Claim24
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Claim25
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Claim26
public import Idealize.ShloMosaic.Adequacy
public import Idealize.ShloMosaic.Init
public import Idealize.ShloMosaic.Lib.Quiescent

@[expose] public section

noncomputable section

namespace Cert.Proof

open Idealize.ShloMosaic Idealize.SL.Sem

/-- The shapes of the precondition `finite2` broadcast as it states. -/
instance finite2 : Cert.Pre_finite2.Facts := ⟨by decide, by decide, by decide⟩

/-- The shapes of the precondition `finite4` broadcast as it states. -/
instance finite4 : Cert.Pre_finite4.Facts := ⟨by decide, by decide, by decide, by decide⟩

/-- The shapes of the precondition `finite5` broadcast as it states. -/
instance finite5 : Cert.Pre_finite5.Facts := ⟨by decide, by decide⟩

/-- The shapes of the precondition `finite7` broadcast as it states. -/
instance finite7 : Cert.Pre_finite7.Facts := ⟨by decide, by decide, by decide⟩

/-- The shapes of the precondition `finite8` broadcast as it states. -/
instance finite8 : Cert.Pre_finite8.Facts := ⟨by decide, by decide, by decide, by decide⟩

/-- The shapes of the precondition `finite9` broadcast as it states. -/
instance finite9 : Cert.Pre_finite9.Facts := ⟨by decide, by decide⟩

/-- The shapes of the precondition `finite10` broadcast as it states. -/
instance finite10 : Cert.Pre_finite10.Facts := ⟨by decide, by decide, by decide, by decide⟩

/-- The shapes of the precondition `finite11` broadcast as it states. -/
instance finite11 : Cert.Pre_finite11.Facts := ⟨by decide, by decide, by decide, by decide⟩

/-- The shapes of the precondition `finite25` broadcast as it states. -/
instance finite25 : Cert.Pre_finite25.Facts := ⟨by decide, by decide, by decide, by decide⟩

theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, finite2, finite4, finite5, finite7, finite8, finite9, finite10, finite11, finite25,
   fun m ρ _ => Cert.Kernel2.Gen.frame m ρ,
   fun m ρ _ => Cert.Kernel2Ideal.Gen.frame m ρ,
   fun m ρ _ => Cert.Kernel2Ideal.Gen.frame m ρ,
   fun m ρ _ => (θ_run Cert.Reference2Ideal.defs _ _).mono (fun r h => ⟨fun c => (h c).2.2.2, Idealize.ShloMosaic.sem_eq_zero_of_no_sems (by decide) r.2⟩) (Cert.Reference2Ideal.Value.run (F := Ideal) m ρ),
   fun m ρ _ => (θ_run Cert.Reference2Ideal.defs _ _).mono (fun r h => ⟨fun c => (h c).2.2.2, Idealize.ShloMosaic.sem_eq_zero_of_no_sems (by decide) r.2⟩) (Cert.Reference2Ideal.Value.run (F := Ideal) m ρ),
   fun m ρ _ => Cert.Kernel3.Gen.frame m ρ,
   fun m ρ _ => Cert.Kernel3Ideal.Gen.frame m ρ,
   fun m ρ _ => (θ_run Cert.Reference3Ideal.defs _ _).mono (fun r h => ⟨fun c => (h c).2, Idealize.ShloMosaic.sem_eq_zero_of_no_sems (by decide) r.2⟩) (Cert.Reference3Ideal.Value.run (F := Ideal) m ρ),
   fun m ρ _ => Cert.Kernel4.Gen.frame m ρ,
   fun m ρ _ => Cert.Kernel4Ideal.Gen.frame m ρ,
   fun m ρ _ => Cert.Kernel4Ideal.Gen.frame m ρ,
   fun m ρ _ => (θ_run Cert.Reference4Ideal.defs _ _).mono (fun r h => ⟨fun c => (h c).2.2.2, Idealize.ShloMosaic.sem_eq_zero_of_no_sems (by decide) r.2⟩) (Cert.Reference4Ideal.Value.run (F := Ideal) m ρ),
   fun m ρ _ => (θ_run Cert.Reference4Ideal.defs _ _).mono (fun r h => ⟨fun c => (h c).2.2.2, Idealize.ShloMosaic.sem_eq_zero_of_no_sems (by decide) r.2⟩) (Cert.Reference4Ideal.Value.run (F := Ideal) m ρ),
   fun m ρ _ => Cert.Kernel5.Gen.frame m ρ,
   fun m ρ _ => Cert.Kernel5Ideal.Gen.frame m ρ,
   fun m ρ _ => Cert.Kernel5Ideal.Gen.frame m ρ,
   fun m ρ _ => (θ_run Cert.Reference5Ideal.defs _ _).mono (fun r h => ⟨fun c => (h c).2.2.2, Idealize.ShloMosaic.sem_eq_zero_of_no_sems (by decide) r.2⟩) (Cert.Reference5Ideal.Value.run (F := Ideal) m ρ),
   fun m ρ _ => (θ_run Cert.Reference5Ideal.defs _ _).mono (fun r h => ⟨fun c => (h c).2.2.2, Idealize.ShloMosaic.sem_eq_zero_of_no_sems (by decide) r.2⟩) (Cert.Reference5Ideal.Value.run (F := Ideal) m ρ),
   fun m ρ _ => Cert.Kernel6.Gen.frame m ρ,
   fun m ρ _ => Cert.Kernel6Ideal.Gen.frame m ρ,
   fun m ρ _ => (θ_run Cert.Reference6Ideal.defs _ _).mono (fun r h => ⟨fun c => (h c).2, Idealize.ShloMosaic.sem_eq_zero_of_no_sems (by decide) r.2⟩) (Cert.Reference6Ideal.Value.run (F := Ideal) m ρ),
   fun m ρ _ => Cert.Kernel7.Gen.frame m ρ,
   fun m ρ _ => Cert.Kernel7Ideal.Gen.frame m ρ,
   fun m ρ _ => Cert.Kernel7Ideal.Gen.frame m ρ,
   fun m ρ _ => (θ_run Cert.Reference7Ideal.defs _ _).mono (fun r h => ⟨fun c => (h c).2.2.2, Idealize.ShloMosaic.sem_eq_zero_of_no_sems (by decide) r.2⟩) (Cert.Reference7Ideal.Value.run (F := Ideal) m ρ),
   fun m ρ _ => (θ_run Cert.Reference7Ideal.defs _ _).mono (fun r h => ⟨fun c => (h c).2.2.2, Idealize.ShloMosaic.sem_eq_zero_of_no_sems (by decide) r.2⟩) (Cert.Reference7Ideal.Value.run (F := Ideal) m ρ),
   fun m ρ _ => Cert.Kernel8.Gen.frame m ρ,
   fun m ρ _ => Cert.Kernel8Ideal.Gen.frame m ρ,
   fun m ρ _ => Cert.Kernel8Ideal.Gen.frame m ρ,
   fun m ρ _ => (θ_run Cert.Reference8Ideal.defs _ _).mono (fun r h => ⟨fun c => (h c).2.2.2, Idealize.ShloMosaic.sem_eq_zero_of_no_sems (by decide) r.2⟩) (Cert.Reference8Ideal.Value.run (F := Ideal) m ρ),
   fun m ρ _ => (θ_run Cert.Reference8Ideal.defs _ _).mono (fun r h => ⟨fun c => (h c).2.2.2, Idealize.ShloMosaic.sem_eq_zero_of_no_sems (by decide) r.2⟩) (Cert.Reference8Ideal.Value.run (F := Ideal) m ρ),
   fun m ρ _ => Cert.Kernel9.Gen.frame m ρ,
   fun m ρ _ => Cert.Kernel9Ideal.Gen.frame m ρ,
   fun m ρ _ => Cert.Kernel9Ideal.Gen.frame m ρ,
   fun m ρ _ => (θ_run Cert.Reference9Ideal.defs _ _).mono (fun r h => ⟨fun c => (h c).2.2.2, Idealize.ShloMosaic.sem_eq_zero_of_no_sems (by decide) r.2⟩) (Cert.Reference9Ideal.Value.run (F := Ideal) m ρ),
   fun m ρ _ => (θ_run Cert.Reference9Ideal.defs _ _).mono (fun r h => ⟨fun c => (h c).2.2.2, Idealize.ShloMosaic.sem_eq_zero_of_no_sems (by decide) r.2⟩) (Cert.Reference9Ideal.Value.run (F := Ideal) m ρ),
   fun m ρ _ => Cert.Kernel10.Gen.frame m ρ,
   fun m ρ _ => Cert.Kernel10Ideal.Gen.frame m ρ,
   fun m ρ _ => Cert.Kernel10Ideal.Gen.frame m ρ,
   fun m ρ _ => (θ_run Cert.Reference10Ideal.defs _ _).mono (fun r h => ⟨fun c => (h c).2.2, Idealize.ShloMosaic.sem_eq_zero_of_no_sems (by decide) r.2⟩) (Cert.Reference10Ideal.Value.run (F := Ideal) m ρ),
   fun m ρ _ => (θ_run Cert.Reference10Ideal.defs _ _).mono (fun r h => ⟨fun c => (h c).2.2, Idealize.ShloMosaic.sem_eq_zero_of_no_sems (by decide) r.2⟩) (Cert.Reference10Ideal.Value.run (F := Ideal) m ρ),
   fun m ρ _ => Cert.Kernel11.Gen.frame m ρ,
   fun m ρ _ => Cert.Kernel11Ideal.Gen.frame m ρ,
   fun m ρ _ => Cert.Kernel11Ideal.Gen.frame m ρ,
   fun m ρ _ => (θ_run Cert.Reference11Ideal.defs _ _).mono (fun r h => ⟨fun c => (h c).2.2, Idealize.ShloMosaic.sem_eq_zero_of_no_sems (by decide) r.2⟩) (Cert.Reference11Ideal.Value.run (F := Ideal) m ρ),
   fun m ρ _ => (θ_run Cert.Reference11Ideal.defs _ _).mono (fun r h => ⟨fun c => (h c).2.2, Idealize.ShloMosaic.sem_eq_zero_of_no_sems (by decide) r.2⟩) (Cert.Reference11Ideal.Value.run (F := Ideal) m ρ),
   fun m ρ _ => Cert.Kernel12.Gen.frame m ρ,
   fun m ρ _ => Cert.Kernel12Ideal.Gen.frame m ρ,
   fun m ρ _ => (θ_run Cert.Reference12Ideal.defs _ _).mono (fun r h => ⟨fun c => (h c).2, Idealize.ShloMosaic.sem_eq_zero_of_no_sems (by decide) r.2⟩) (Cert.Reference12Ideal.Value.run (F := Ideal) m ρ),
   fun m ρ _ => Cert.Kernel13.Gen.frame m ρ,
   fun m ρ _ => Cert.Kernel13Ideal.Gen.frame m ρ,
   fun m ρ _ => (θ_run Cert.Reference13Ideal.defs _ _).mono (fun r h => ⟨fun c => (h c).2, Idealize.ShloMosaic.sem_eq_zero_of_no_sems (by decide) r.2⟩) (Cert.Reference13Ideal.Value.run (F := Ideal) m ρ),
   fun m ρ _ => Cert.Kernel14.Gen.frame m ρ,
   fun m ρ _ => Cert.Kernel14Ideal.Gen.frame m ρ,
   fun m ρ _ => (θ_run Cert.Reference14Ideal.defs _ _).mono (fun r h => ⟨fun c => (h c).2, Idealize.ShloMosaic.sem_eq_zero_of_no_sems (by decide) r.2⟩) (Cert.Reference14Ideal.Value.run (F := Ideal) m ρ),
   fun m ρ _ => Cert.Kernel15.Gen.frame m ρ,
   fun m ρ _ => Cert.Kernel15Ideal.Gen.frame m ρ,
   fun m ρ _ => (θ_run Cert.Reference15Ideal.defs _ _).mono (fun r h => ⟨fun c => (h c).2, Idealize.ShloMosaic.sem_eq_zero_of_no_sems (by decide) r.2⟩) (Cert.Reference15Ideal.Value.run (F := Ideal) m ρ),
   fun m ρ _ => Cert.Kernel16.Gen.frame m ρ,
   fun m ρ _ => Cert.Kernel16Ideal.Gen.frame m ρ,
   fun m ρ _ => (θ_run Cert.Reference16Ideal.defs _ _).mono (fun r h => ⟨fun c => (h c).2, Idealize.ShloMosaic.sem_eq_zero_of_no_sems (by decide) r.2⟩) (Cert.Reference16Ideal.Value.run (F := Ideal) m ρ),
   fun m ρ _ => Cert.Kernel17.Gen.frame m ρ,
   fun m ρ _ => Cert.Kernel17Ideal.Gen.frame m ρ,
   fun m ρ _ => (θ_run Cert.Reference17Ideal.defs _ _).mono (fun r h => ⟨fun c => (h c).2.2.2.2, Idealize.ShloMosaic.sem_eq_zero_of_no_sems (by decide) r.2⟩) (Cert.Reference17Ideal.Value.run (F := Ideal) m ρ),
   fun m ρ _ => Cert.Kernel18.Gen.frame m ρ,
   fun m ρ _ => Cert.Kernel18Ideal.Gen.frame m ρ,
   fun m ρ _ => (θ_run Cert.Reference18Ideal.defs _ _).mono (fun r h => ⟨fun c => (h c).2.2.2.2, Idealize.ShloMosaic.sem_eq_zero_of_no_sems (by decide) r.2⟩) (Cert.Reference18Ideal.Value.run (F := Ideal) m ρ),
   fun m ρ _ => Cert.Kernel19.Gen.frame m ρ,
   fun m ρ _ => Cert.Kernel19Ideal.Gen.frame m ρ,
   fun m ρ _ => (θ_run Cert.Reference19Ideal.defs _ _).mono (fun r h => ⟨fun c => (h c).2.2.2.2, Idealize.ShloMosaic.sem_eq_zero_of_no_sems (by decide) r.2⟩) (Cert.Reference19Ideal.Value.run (F := Ideal) m ρ),
   fun m ρ _ => Cert.Kernel20.Gen.frame m ρ,
   fun m ρ _ => Cert.Kernel20Ideal.Gen.frame m ρ,
   fun m ρ _ => (θ_run Cert.Reference20Ideal.defs _ _).mono (fun r h => ⟨fun c => (h c).2.2.2.2, Idealize.ShloMosaic.sem_eq_zero_of_no_sems (by decide) r.2⟩) (Cert.Reference20Ideal.Value.run (F := Ideal) m ρ),
   fun m ρ _ => Cert.Kernel21.Gen.frame m ρ,
   fun m ρ _ => Cert.Kernel21Ideal.Gen.frame m ρ,
   fun m ρ _ => (θ_run Cert.Reference21Ideal.defs _ _).mono (fun r h => ⟨fun c => (h c).2.2.2.2, Idealize.ShloMosaic.sem_eq_zero_of_no_sems (by decide) r.2⟩) (Cert.Reference21Ideal.Value.run (F := Ideal) m ρ),
   fun m ρ _ => Cert.Kernel22.Gen.frame m ρ,
   fun m ρ _ => Cert.Kernel22Ideal.Gen.frame m ρ,
   fun m ρ _ => (θ_run Cert.Reference22Ideal.defs _ _).mono (fun r h => ⟨fun c => (h c).2.2.2.2, Idealize.ShloMosaic.sem_eq_zero_of_no_sems (by decide) r.2⟩) (Cert.Reference22Ideal.Value.run (F := Ideal) m ρ),
   fun m ρ _ => Cert.Kernel23.Gen.frame m ρ,
   fun m ρ _ => Cert.Kernel23Ideal.Gen.frame m ρ,
   fun m ρ _ => (θ_run Cert.Reference23Ideal.defs _ _).mono (fun r h => ⟨fun c => (h c).2.2, Idealize.ShloMosaic.sem_eq_zero_of_no_sems (by decide) r.2⟩) (Cert.Reference23Ideal.Value.run (F := Ideal) m ρ),
   fun m ρ _ => Cert.Kernel24.Gen.frame m ρ,
   fun m ρ _ => Cert.Kernel24Ideal.Gen.frame m ρ,
   fun m ρ _ => (θ_run Cert.Reference24Ideal.defs _ _).mono (fun r h => ⟨fun c => (h c).2.2, Idealize.ShloMosaic.sem_eq_zero_of_no_sems (by decide) r.2⟩) (Cert.Reference24Ideal.Value.run (F := Ideal) m ρ),
   fun m ρ _ => Cert.Kernel25.Gen.frame m ρ,
   fun m ρ _ => Cert.Kernel25Ideal.Gen.frame m ρ,
   fun m ρ _ => Cert.Kernel25Ideal.Gen.frame m ρ,
   fun m ρ _ => (θ_run Cert.Reference25Ideal.defs _ _).mono (fun r h => ⟨fun c => (h c).2.2.2, Idealize.ShloMosaic.sem_eq_zero_of_no_sems (by decide) r.2⟩) (Cert.Reference25Ideal.Value.run (F := Ideal) m ρ),
   fun m ρ _ => (θ_run Cert.Reference25Ideal.defs _ _).mono (fun r h => ⟨fun c => (h c).2.2.2, Idealize.ShloMosaic.sem_eq_zero_of_no_sems (by decide) r.2⟩) (Cert.Reference25Ideal.Value.run (F := Ideal) m ρ),
   fun m ρ _ => Cert.Kernel26.Gen.frame m ρ,
   fun m ρ _ => Cert.Kernel26Ideal.Gen.frame m ρ,
   fun m ρ _ => (θ_run Cert.Reference26Ideal.defs _ _).mono (fun r h => ⟨fun c => (h c).2.2, Idealize.ShloMosaic.sem_eq_zero_of_no_sems (by decide) r.2⟩) (Cert.Reference26Ideal.Value.run (F := Ideal) m ρ),
   trivial,
   Cert.Kernel2Ideal.Val.algebraic,
   trivial,
   Cert.Kernel3Ideal.Val.algebraic,
   trivial,
   Cert.Kernel4Ideal.Val.algebraic,
   trivial,
   Cert.Kernel5Ideal.Val.algebraic,
   trivial,
   Cert.Kernel6Ideal.Val.algebraic,
   trivial,
   Cert.Kernel7Ideal.Val.algebraic,
   trivial,
   Cert.Kernel8Ideal.Val.algebraic,
   trivial,
   Cert.Kernel9Ideal.Val.algebraic,
   trivial,
   Cert.Kernel10Ideal.Val.algebraic,
   trivial,
   Cert.Kernel11Ideal.Val.algebraic,
   trivial,
   Cert.Kernel12Ideal.Val.algebraic,
   trivial,
   Cert.Kernel13Ideal.Val.algebraic,
   trivial,
   Cert.Kernel14Ideal.Val.algebraic,
   trivial,
   Cert.Kernel15Ideal.Val.algebraic,
   trivial,
   Cert.Kernel16Ideal.Val.algebraic,
   trivial,
   Cert.Kernel17Ideal.Val.algebraic,
   trivial,
   Cert.Kernel18Ideal.Val.algebraic,
   trivial,
   Cert.Kernel19Ideal.Val.algebraic,
   trivial,
   Cert.Kernel20Ideal.Val.algebraic,
   trivial,
   Cert.Kernel21Ideal.Val.algebraic,
   trivial,
   Cert.Kernel22Ideal.Val.algebraic,
   trivial,
   Cert.Kernel23Ideal.Val.algebraic,
   trivial,
   Cert.Kernel24Ideal.Val.algebraic,
   trivial,
   Cert.Kernel25Ideal.Val.algebraic,
   trivial,
   Cert.Kernel26Ideal.Val.algebraic⟩

end Cert.Proof

end
